-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.blockN ⟨4, ![2, 256, 8, 64]⟩ ⟨4, ![2, 512, 8, 64]⟩ (Layout.meshBlock [2, 2, 2] ![[], [0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 256, 8, 64]⟩ ⟨4, ![2, 512, 8, 64]⟩ (Layout.meshBlock [2, 2, 2] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 256, 8, 64]⟩ ⟨4, ![2, 512, 8, 64]⟩ (Layout.meshBlock [2, 2, 2] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = Layout.blockN ⟨4, ![2, 256, 8, 64]⟩ ⟨4, ![2, 512, 8, 64]⟩ (Layout.meshBlock [2, 2, 2] ![[], [0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x8x64 : Shape := ⟨4, ![2, 256, 8, 64]⟩
abbrev S_ : Shape := ⟨0, ![]⟩

class Facts : Prop where
  bcast_S_S2x256x8x64 : S_.BroadcastsInDim S2x256x8x64 (![] : Fin 0 → Fin S2x256x8x64.rank)
  reducesTo_S2x256x8x64_S_d0_1_2_3 : S2x256x8x64.ReducesTo [0, 1, 2, 3] S_
  h_S_ : 0 < S_.numel

variable [Facts]

def fn {F : FTy → Type} [FloatOps F] (main_arg0 : FVec F S2x256x8x64 .f32) (main_arg1 : FVec F S2x256x8x64 .f32) (main_arg2 : FVec F S2x256x8x64 .f32) : IVec S_ 1 :=
  let main_v0 : FVec F S2x256x8x64 .f32 := Host.absf main_arg0
  let main_cst : FVec F S_ .f32 := constant S_ .f32 0x7F800000#32
  let main_v1 : FVec F S2x256x8x64 .f32 := broadcastInDim S2x256x8x64 ![] bcast_S_S2x256x8x64 main_cst
  let main_v2 : IVec S2x256x8x64 1 := cmpf .olt main_v0 main_v1
  let main_c : IVec S_ 1 := constantI S_ 1 1#1
  let main_v3 : IVec S_ 1 := (fun x v => Host.reduce IntOp.andi x v reducesTo_S2x256x8x64_S_d0_1_2_3 h_S_) main_v2 main_c
  let main_v4 : FVec F S2x256x8x64 .f32 := Host.absf main_arg1
  let main_cst_0 : FVec F S_ .f32 := constant S_ .f32 0x7F800000#32
  let main_v5 : FVec F S2x256x8x64 .f32 := broadcastInDim S2x256x8x64 ![] bcast_S_S2x256x8x64 main_cst_0
  let main_v6 : IVec S2x256x8x64 1 := cmpf .olt main_v4 main_v5
  let main_c_1 : IVec S_ 1 := constantI S_ 1 1#1
  let main_v7 : IVec S_ 1 := (fun x v => Host.reduce IntOp.andi x v reducesTo_S2x256x8x64_S_d0_1_2_3 h_S_) main_v6 main_c_1
  let main_v8 : IVec S_ 1 := andi main_v3 main_v7
  main_v8
-- ==== Pre_finite_scores_ReferenceIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)
  reducesTo_S2x512x8x64_S_d0_1_2_3 : S2x512x8x64.ReducesTo [0, 1, 2, 3] S_
  h_S_ : 0 < S_.numel

variable [Facts]

def fn {F : FTy → Type} [FloatOps F] (main_arg0 : FVec F S2x512x8x64 .f32) (main_arg1 : FVec F S2x512x8x64 .f32) (main_arg2 : FVec F S2x512x8x64 .f32) : IVec S_ 1 :=
  let main_v0 : FVec F S2x512x8x64 .f32 := Host.absf main_arg0
  let main_cst : FVec F S_ .f32 := constant S_ .f32 0x7F800000#32
  let main_v1 : FVec F S2x512x8x64 .f32 := broadcastInDim S2x512x8x64 ![] bcast_S_S2x512x8x64 main_cst
  let main_v2 : IVec S2x512x8x64 1 := cmpf .olt main_v0 main_v1
  let main_c : IVec S_ 1 := constantI S_ 1 1#1
  let main_v3 : IVec S_ 1 := (fun x v => Host.reduce IntOp.andi x v reducesTo_S2x512x8x64_S_d0_1_2_3 h_S_) main_v2 main_c
  let main_v4 : FVec F S2x512x8x64 .f32 := Host.absf main_arg1
  let main_cst_0 : FVec F S_ .f32 := constant S_ .f32 0x7F800000#32
  let main_v5 : FVec F S2x512x8x64 .f32 := broadcastInDim S2x512x8x64 ![] bcast_S_S2x512x8x64 main_cst_0
  let main_v6 : IVec S2x512x8x64 1 := cmpf .olt main_v4 main_v5
  let main_c_1 : IVec S_ 1 := constantI S_ 1 1#1
  let main_v7 : IVec S_ 1 := (fun x v => Host.reduce IntOp.andi x v reducesTo_S2x512x8x64_S_d0_1_2_3 h_S_) main_v6 main_c_1
  let main_v8 : IVec S_ 1 := andi main_v3 main_v7
  main_v8
-- ==== Kernel.lean ====
abbrev S2x256x8x64 : Shape := ⟨4, ![2, 256, 8, 64]⟩
abbrev S2x8x64x256 : Shape := ⟨4, ![2, 8, 64, 256]⟩
abbrev S16x64x256 : Shape := ⟨3, ![16, 64, 256]⟩
abbrev S16x256x64 : Shape := ⟨3, ![16, 256, 64]⟩
abbrev S18 : Shape := ⟨1, ![18]⟩
abbrev S16 : Shape := ⟨1, ![16]⟩
abbrev S1 : Shape := ⟨1, ![1]⟩
abbrev S_ : Shape := ⟨0, ![]⟩
abbrev S1x256x64 : Shape := ⟨3, ![1, 256, 64]⟩
abbrev S256x64 : Shape := ⟨2, ![256, 64]⟩
abbrev S1x256x1x64 : Shape := ⟨4, ![1, 256, 1, 64]⟩
abbrev S2x64x256 : Shape := ⟨3, ![2, 64, 256]⟩
abbrev S1x64x256 : Shape := ⟨3, ![1, 64, 256]⟩
abbrev S64x256 : Shape := ⟨2, ![64, 256]⟩
abbrev S256x256 : Shape := ⟨2, ![256, 256]⟩
abbrev S256 : Shape := ⟨1, ![256]⟩
abbrev S256x1 : Shape := ⟨2, ![256, 1]⟩

abbrev nBuf : Space → Nat
  | .hbm => 8
  | .vmem => 6
  | .smem => 0
  | _ => 0

abbrev bufTy : (tb : Table) → Fin (tcTables nBuf tb) → BufTy
  | .hbm, ⟨0, _⟩ => ⟨S2x256x8x64, .f32⟩
  | .hbm, ⟨1, _⟩ => ⟨S2x256x8x64, .f32⟩
  | .hbm, ⟨2, _⟩ => ⟨S2x256x8x64, .f32⟩
  | .hbm, ⟨3, _⟩ => ⟨S2x8x64x256, .f32⟩
  | .hbm, ⟨4, _⟩ => ⟨S16x64x256, .f32⟩
  | .hbm, ⟨5, _⟩ => ⟨S2x8x64x256, .f32⟩
  | .hbm, ⟨6, _⟩ => ⟨S16x64x256, .f32⟩
  | .hbm, ⟨7, _⟩ => ⟨S2x256x8x64, .f32⟩
  | .local _ .vmem, ⟨0, _⟩ => ⟨S16x256x64, .f32⟩
  | .local _ .vmem, ⟨1, _⟩ => ⟨S16x64x256, .f32⟩
  | .local _ .vmem, ⟨2, _⟩ => ⟨S16x64x256, .f32⟩
  | .local _ .vmem, ⟨3, _⟩ => ⟨S16x64x256, .f32⟩
  | .local _ .vmem, ⟨4, _⟩ => ⟨S16x64x256, .f32⟩
  | .local _ .vmem, ⟨5, _⟩ => ⟨S16x256x64, .f32⟩
  | _, _ => ⟨S2x256x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_131 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_130 : BitVec 32 := 4#32
  let v125 : BitVec 32 := Scalar.muli v9 c4_i32_130
  let v126 : BitVec 32 := Scalar.addi c0_i32_131 v125
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_132 : BitVec 32 := 2#32
  let v127 : BitVec 32 := Scalar.muli v5 c2_i32_132
  let v128 : BitVec 32 := Scalar.addi v126 v127
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_133 : BitVec 32 := 1#32
  let v129 : BitVec 32 := Scalar.muli v8 c1_i32_133
  let v130 : BitVec 32 := Scalar.addi v128 v129
  v130.toNat
def k0_dev2 (d0 : Dev nD) : Nat :=
  let c0_i32_136 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_135 : BitVec 32 := 4#32
  let v131 : BitVec 32 := Scalar.muli v2 c4_i32_135
  let v132 : BitVec 32 := Scalar.addi c0_i32_136 v131
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_137 : BitVec 32 := 2#32
  let v133 : BitVec 32 := Scalar.muli v10 c2_i32_137
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_138 : BitVec 32 := 1#32
  let v135 : BitVec 32 := Scalar.muli v8 c1_i32_138
  let v136 : BitVec 32 := Scalar.addi v134 v135
  v136.toNat
def k0_dev3 (d0 : Dev nD) : Nat :=
  let c0_i32_141 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_140 : BitVec 32 := 4#32
  let v137 : BitVec 32 := Scalar.muli v2 c4_i32_140
  let v138 : BitVec 32 := Scalar.addi c0_i32_141 v137
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_142 : BitVec 32 := 2#32
  let v139 : BitVec 32 := Scalar.muli v5 c2_i32_142
  let v140 : BitVec 32 := Scalar.addi v138 v139
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_143 : BitVec 32 := 1#32
  let v141 : BitVec 32 := Scalar.muli v11 c1_i32_143
  let v142 : BitVec 32 := Scalar.addi v140 v141
  v142.toNat
def k0_off1 (d0 : Dev nD) (c0_i32_148 : BitVec 32) : Fin 3 → Nat :=
  let c4_i32_147 : BitVec 32 := 4#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v145 : BitVec 32 := Scalar.muli c4_i32_147 v13
  let v146 : BitVec 32 := Scalar.addi v145 c0_i32_148
  let c0_i32_255 : BitVec 32 := 0#32
  let c0_i32_256 : BitVec 32 := 0#32
  ![v146.toNat, 0, 0]
def k0_dev4 (d0 : Dev nD) : Nat :=
  let c0_i32_252 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_251 : BitVec 32 := 4#32
  let v247 : BitVec 32 := Scalar.muli v9 c4_i32_251
  let v248 : BitVec 32 := Scalar.addi c0_i32_252 v247
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_253 : BitVec 32 := 2#32
  let v249 : BitVec 32 := Scalar.muli v5 c2_i32_253
  let v250 : BitVec 32 := Scalar.addi v248 v249
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_254 : BitVec 32 := 1#32
  let v251 : BitVec 32 := Scalar.muli v8 c1_i32_254
  let v252 : BitVec 32 := Scalar.addi v250 v251
  v252.toNat
def k0_dev5 (d0 : Dev nD) : Nat :=
  let c0_i32_262 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_261 : BitVec 32 := 4#32
  let v259 : BitVec 32 := Scalar.muli v9 c4_i32_261
  let v260 : BitVec 32 := Scalar.addi c0_i32_262 v259
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_263 : BitVec 32 := 2#32
  let v261 : BitVec 32 := Scalar.muli v5 c2_i32_263
  let v262 : BitVec 32 := Scalar.addi v260 v261
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v263 : BitVec 32 := Scalar.muli v8 c1_i32_264
  let v264 : BitVec 32 := Scalar.addi v262 v263
  v264.toNat
def k0_dev6 (d0 : Dev nD) : Nat :=
  let c0_i32_272 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_271 : BitVec 32 := 4#32
  let v271 : BitVec 32 := Scalar.muli v9 c4_i32_271
  let v272 : BitVec 32 := Scalar.addi c0_i32_272 v271
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_273 : BitVec 32 := 2#32
  let v273 : BitVec 32 := Scalar.muli v5 c2_i32_273
  let v274 : BitVec 32 := Scalar.addi v272 v273
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_274 : BitVec 32 := 1#32
  let v275 : BitVec 32 := Scalar.muli v8 c1_i32_274
  let v276 : BitVec 32 := Scalar.addi v274 v275
  v276.toNat
def k0_dev7 (d0 : Dev nD) : Nat :=
  let c0_i32_282 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_281 : BitVec 32 := 4#32
  let v283 : BitVec 32 := Scalar.muli v9 c4_i32_281
  let v284 : BitVec 32 := Scalar.addi c0_i32_282 v283
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_283 : BitVec 32 := 2#32
  let v285 : BitVec 32 := Scalar.muli v5 c2_i32_283
  let v286 : BitVec 32 := Scalar.addi v284 v285
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_284 : BitVec 32 := 1#32
  let v287 : BitVec 32 := Scalar.muli v8 c1_i32_284
  let v288 : BitVec 32 := Scalar.addi v286 v287
  v288.toNat
def k0_off2 (d0 : Dev nD) : Fin 3 → Nat :=
  let c4_i32_161 : BitVec 32 := 4#32
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let v159 : BitVec 32 := Scalar.muli c4_i32_161 v23
  let c0_i32_295 : BitVec 32 := 0#32
  let c0_i32_296 : BitVec 32 := 0#32
  ![v159.toNat, 0, 0]
def k0_dev8 (d0 : Dev nD) : Nat :=
  let c0_i32_292 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_291 : BitVec 32 := 4#32
  let v295 : BitVec 32 := Scalar.muli v9 c4_i32_291
  let v296 : BitVec 32 := Scalar.addi c0_i32_292 v295
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_293 : BitVec 32 := 2#32
  let v297 : BitVec 32 := Scalar.muli v5 c2_i32_293
  let v298 : BitVec 32 := Scalar.addi v296 v297
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_294 : BitVec 32 := 1#32
  let v299 : BitVec 32 := Scalar.muli v8 c1_i32_294
  let v300 : BitVec 32 := Scalar.addi v298 v299
  v300.toNat
def k0_dev9 (d0 : Dev nD) : Nat :=
  let c0_i32_302 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_301 : BitVec 32 := 4#32
  let v307 : BitVec 32 := Scalar.muli v9 c4_i32_301
  let v308 : BitVec 32 := Scalar.addi c0_i32_302 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_303 : BitVec 32 := 2#32
  let v309 : BitVec 32 := Scalar.muli v5 c2_i32_303
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_304 : BitVec 32 := 1#32
  let v311 : BitVec 32 := Scalar.muli v8 c1_i32_304
  let v312 : BitVec 32 := Scalar.addi v310 v311
  v312.toNat
def k0_off3 (d0 : Dev nD) (c0_i32_440 : BitVec 32) : Fin 3 → Nat :=
  let c4_i32_439 : BitVec 32 := 4#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v419 : BitVec 32 := Scalar.muli c4_i32_439 v13
  let v420 : BitVec 32 := Scalar.addi v419 c0_i32_440
  let v421 : Index := Scalar.indexCast v420
  let c0 : Index := 0#32
  let c0_441 : Index := 0#32
  ![v421.toNat, 0, 0]
def k0_off4 (d0 : Dev nD) (c0_i32_440 : BitVec 32) : Fin 3 → Nat :=
  let c4_i32_439 : BitVec 32 := 4#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v419 : BitVec 32 := Scalar.muli c4_i32_439 v13
  let v420 : BitVec 32 := Scalar.addi v419 c0_i32_440
  let v424 : Index := Scalar.indexCast v420
  let c0_442 : Index := 0#32
  let c0_443 : Index := 0#32
  ![v424.toNat, 0, 0]
def k0_off5 (d0 : Dev nD) (c0_i32_490 : BitVec 32) : Fin 3 → Nat :=
  let c4_i32_489 : BitVec 32 := 4#32
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v507 : BitVec 32 := Scalar.muli c4_i32_489 v16
  let v508 : BitVec 32 := Scalar.addi v507 c0_i32_490
  let v509 : Index := Scalar.indexCast v508
  let c0_491 : Index := 0#32
  let c0_492 : Index := 0#32
  ![v509.toNat, 0, 0]
def k0_off6 (d0 : Dev nD) (c0_i32_490 : BitVec 32) : Fin 3 → Nat :=
  let c4_i32_489 : BitVec 32 := 4#32
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v507 : BitVec 32 := Scalar.muli c4_i32_489 v16
  let v508 : BitVec 32 := Scalar.addi v507 c0_i32_490
  let v512 : Index := Scalar.indexCast v508
  let c0_493 : Index := 0#32
  let c0_494 : Index := 0#32
  ![v512.toNat, 0, 0]
def k0_dev10 (d0 : Dev nD) : Nat :=
  let c0_i32_554 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_553 : BitVec 32 := 4#32
  let v605 : BitVec 32 := Scalar.muli v2 c4_i32_553
  let v606 : BitVec 32 := Scalar.addi c0_i32_554 v605
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_555 : BitVec 32 := 2#32
  let v607 : BitVec 32 := Scalar.muli v10 c2_i32_555
  let v608 : BitVec 32 := Scalar.addi v606 v607
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_556 : BitVec 32 := 1#32
  let v609 : BitVec 32 := Scalar.muli v8 c1_i32_556
  let v610 : BitVec 32 := Scalar.addi v608 v609
  v610.toNat
def k0_dev11 (d0 : Dev nD) : Nat :=
  let c0_i32_564 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_563 : BitVec 32 := 4#32
  let v617 : BitVec 32 := Scalar.muli v2 c4_i32_563
  let v618 : BitVec 32 := Scalar.addi c0_i32_564 v617
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_565 : BitVec 32 := 2#32
  let v619 : BitVec 32 := Scalar.muli v5 c2_i32_565
  let v620 : BitVec 32 := Scalar.addi v618 v619
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_566 : BitVec 32 := 1#32
  let v621 : BitVec 32 := Scalar.muli v11 c1_i32_566
  let v622 : BitVec 32 := Scalar.addi v620 v621
  v622.toNat
def k0_off7 (d0 : Dev nD) (c0_i32_572 : BitVec 32) : Fin 3 → Nat :=
  let c4_i32_571 : BitVec 32 := 4#32
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let v629 : BitVec 32 := Scalar.muli c4_i32_571 v19
  let v630 : BitVec 32 := Scalar.addi v629 c0_i32_572
  let v631 : Index := Scalar.indexCast v630
  let c0_573 : Index := 0#32
  let c0_574 : Index := 0#32
  ![v631.toNat, 0, 0]
def k0_off8 (d0 : Dev nD) (c0_i32_572 : BitVec 32) : Fin 3 → Nat :=
  let c4_i32_571 : BitVec 32 := 4#32
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let v629 : BitVec 32 := Scalar.muli c4_i32_571 v19
  let v630 : BitVec 32 := Scalar.addi v629 c0_i32_572
  let v634 : Index := Scalar.indexCast v630
  let c0_575 : Index := 0#32
  let c0_576 : Index := 0#32
  ![v634.toNat, 0, 0]
def k0_dev12 (d0 : Dev nD) : Nat :=
  let c0_i32_636 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_635 : BitVec 32 := 4#32
  let v727 : BitVec 32 := Scalar.muli v2 c4_i32_635
  let v728 : BitVec 32 := Scalar.addi c0_i32_636 v727
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_637 : BitVec 32 := 2#32
  let v729 : BitVec 32 := Scalar.muli v10 c2_i32_637
  let v730 : BitVec 32 := Scalar.addi v728 v729
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_638 : BitVec 32 := 1#32
  let v731 : BitVec 32 := Scalar.muli v8 c1_i32_638
  let v732 : BitVec 32 := Scalar.addi v730 v731
  v732.toNat
def k0_dev13 (d0 : Dev nD) : Nat :=
  let c0_i32_646 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_645 : BitVec 32 := 4#32
  let v739 : BitVec 32 := Scalar.muli v2 c4_i32_645
  let v740 : BitVec 32 := Scalar.addi c0_i32_646 v739
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_647 : BitVec 32 := 2#32
  let v741 : BitVec 32 := Scalar.muli v5 c2_i32_647
  let v742 : BitVec 32 := Scalar.addi v740 v741
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_648 : BitVec 32 := 1#32
  let v743 : BitVec 32 := Scalar.muli v11 c1_i32_648
  let v744 : BitVec 32 := Scalar.addi v742 v743
  v744.toNat
def k0_off9 (d0 : Dev nD) (c0_i32_654 : BitVec 32) : Fin 3 → Nat :=
  let c4_i32_653 : BitVec 32 := 4#32
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let v751 : BitVec 32 := Scalar.muli c4_i32_653 v23
  let v752 : BitVec 32 := Scalar.addi v751 c0_i32_654
  let v753 : Index := Scalar.indexCast v752
  let c0_655 : Index := 0#32
  let c0_656 : Index := 0#32
  ![v753.toNat, 0, 0]
def k0_off10 (d0 : Dev nD) (c0_i32_654 : BitVec 32) : Fin 3 → Nat :=
  let c4_i32_653 : BitVec 32 := 4#32
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let v751 : BitVec 32 := Scalar.muli c4_i32_653 v23
  let v752 : BitVec 32 := Scalar.addi v751 c0_i32_654
  let v756 : Index := Scalar.indexCast v752
  let c0_657 : Index := 0#32
  let c0_658 : Index := 0#32
  ![v756.toNat, 0, 0]
def k0_dev14 (d0 : Dev nD) : Nat :=
  let c0_i32_718 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_717 : BitVec 32 := 4#32
  let v849 : BitVec 32 := Scalar.muli v2 c4_i32_717
  let v850 : BitVec 32 := Scalar.addi c0_i32_718 v849
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_719 : BitVec 32 := 2#32
  let v851 : BitVec 32 := Scalar.muli v10 c2_i32_719
  let v852 : BitVec 32 := Scalar.addi v850 v851
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_720 : BitVec 32 := 1#32
  let v853 : BitVec 32 := Scalar.muli v8 c1_i32_720
  let v854 : BitVec 32 := Scalar.addi v852 v853
  v854.toNat
def k0_dev15 (d0 : Dev nD) : Nat :=
  let c0_i32_728 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_727 : BitVec 32 := 4#32
  let v861 : BitVec 32 := Scalar.muli v2 c4_i32_727
  let v862 : BitVec 32 := Scalar.addi c0_i32_728 v861
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_729 : BitVec 32 := 2#32
  let v863 : BitVec 32 := Scalar.muli v5 c2_i32_729
  let v864 : BitVec 32 := Scalar.addi v862 v863
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_730 : BitVec 32 := 1#32
  let v865 : BitVec 32 := Scalar.muli v11 c1_i32_730
  let v866 : BitVec 32 := Scalar.addi v864 v865
  v866.toNat
def k0_dev16 (d0 : Dev nD) : Nat :=
  let c0_i32_748 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_747 : BitVec 32 := 4#32
  let v883 : BitVec 32 := Scalar.muli v2 c4_i32_747
  let v884 : BitVec 32 := Scalar.addi c0_i32_748 v883
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_749 : BitVec 32 := 2#32
  let v885 : BitVec 32 := Scalar.muli v10 c2_i32_749
  let v886 : BitVec 32 := Scalar.addi v884 v885
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_750 : BitVec 32 := 1#32
  let v887 : BitVec 32 := Scalar.muli v8 c1_i32_750
  let v888 : BitVec 32 := Scalar.addi v886 v887
  v888.toNat
def k0_dev17 (d0 : Dev nD) : Nat :=
  let c0_i32_758 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_757 : BitVec 32 := 4#32
  let v895 : BitVec 32 := Scalar.muli v2 c4_i32_757
  let v896 : BitVec 32 := Scalar.addi c0_i32_758 v895
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_759 : BitVec 32 := 2#32
  let v897 : BitVec 32 := Scalar.muli v5 c2_i32_759
  let v898 : BitVec 32 := Scalar.addi v896 v897
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_760 : BitVec 32 := 1#32
  let v899 : BitVec 32 := Scalar.muli v11 c1_i32_760
  let v900 : BitVec 32 := Scalar.addi v898 v899
  v900.toNat
def k0_off11 (d0 : Dev nD) (c0_i32_228 : BitVec 32) : Fin 3 → Nat :=
  let c4_i32_227 : BitVec 32 := 4#32
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let v225 : BitVec 32 := Scalar.muli c4_i32_227 v19
  let v226 : BitVec 32 := Scalar.addi v225 c0_i32_228
  let c0_i32_839 : BitVec 32 := 0#32
  let c0_i32_840 : BitVec 32 := 0#32
  ![v226.toNat, 0, 0]
def k0_off12 (d0 : Dev nD) : Fin 3 → Nat :=
  let c4_i32_198 : BitVec 32 := 4#32
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let v196 : BitVec 32 := Scalar.muli c4_i32_198 v19
  let c1_i32_199 : BitVec 32 := 1#32
  let v197 : BitVec 32 := Scalar.addi v196 c1_i32_199
  let c0_i32_200 : BitVec 32 := 0#32
  let v198 : BitVec 32 := Scalar.addi v197 c0_i32_200
  let c0_i32_850 : BitVec 32 := 0#32
  let c0_i32_851 : BitVec 32 := 0#32
  ![v198.toNat, 0, 0]
def k0_dev18 (d0 : Dev nD) : Nat :=
  let c0_i32_847 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_846 : BitVec 32 := 4#32
  let v1073 : BitVec 32 := Scalar.muli v2 c4_i32_846
  let v1074 : BitVec 32 := Scalar.addi c0_i32_847 v1073
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_848 : BitVec 32 := 2#32
  let v1075 : BitVec 32 := Scalar.muli v10 c2_i32_848
  let v1076 : BitVec 32 := Scalar.addi v1074 v1075
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_849 : BitVec 32 := 1#32
  let v1077 : BitVec 32 := Scalar.muli v8 c1_i32_849
  let v1078 : BitVec 32 := Scalar.addi v1076 v1077
  v1078.toNat
def k0_off13 (d0 : Dev nD) (c0_i32_224 : BitVec 32) : Fin 3 → Nat :=
  let c4_i32_223 : BitVec 32 := 4#32
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v221 : BitVec 32 := Scalar.muli c4_i32_223 v16
  let v222 : BitVec 32 := Scalar.addi v221 c0_i32_224
  let c0_i32_860 : BitVec 32 := 0#32
  let c0_i32_861 : BitVec 32 := 0#32
  ![v222.toNat, 0, 0]
def k0_off14 (d0 : Dev nD) : Fin 3 → Nat :=
  let c4_i32_210 : BitVec 32 := 4#32
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v208 : BitVec 32 := Scalar.muli c4_i32_210 v16
  let c1_i32_211 : BitVec 32 := 1#32
  let v209 : BitVec 32 := Scalar.addi v208 c1_i32_211
  let c0_i32_212 : BitVec 32 := 0#32
  let v210 : BitVec 32 := Scalar.addi v209 c0_i32_212
  let c0_i32_871 : BitVec 32 := 0#32
  let c0_i32_872 : BitVec 32 := 0#32
  ![v210.toNat, 0, 0]
def k0_dev19 (d0 : Dev nD) : Nat :=
  let c0_i32_868 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_867 : BitVec 32 := 4#32
  let v1095 : BitVec 32 := Scalar.muli v2 c4_i32_867
  let v1096 : BitVec 32 := Scalar.addi c0_i32_868 v1095
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_869 : BitVec 32 := 2#32
  let v1097 : BitVec 32 := Scalar.muli v5 c2_i32_869
  let v1098 : BitVec 32 := Scalar.addi v1096 v1097
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_870 : BitVec 32 := 1#32
  let v1099 : BitVec 32 := Scalar.muli v11 c1_i32_870
  let v1100 : BitVec 32 := Scalar.addi v1098 v1099
  v1100.toNat
def k0_off15 (d0 : Dev nD) : Fin 3 → Nat :=
  let c4_i32_204 : BitVec 32 := 4#32
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let v202 : BitVec 32 := Scalar.muli c4_i32_204 v19
  let c1_i32_205 : BitVec 32 := 1#32
  let v203 : BitVec 32 := Scalar.addi v202 c1_i32_205
  let c1_i32_206 : BitVec 32 := 1#32
  let v204 : BitVec 32 := Scalar.addi v203 c1_i32_206
  let c0_i32_892 : BitVec 32 := 0#32
  let c0_i32_893 : BitVec 32 := 0#32
  ![v204.toNat, 0, 0]
def k0_dev20 (d0 : Dev nD) : Nat :=
  let c0_i32_889 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_888 : BitVec 32 := 4#32
  let v1117 : BitVec 32 := Scalar.muli v2 c4_i32_888
  let v1118 : BitVec 32 := Scalar.addi c0_i32_889 v1117
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_890 : BitVec 32 := 2#32
  let v1119 : BitVec 32 := Scalar.muli v10 c2_i32_890
  let v1120 : BitVec 32 := Scalar.addi v1118 v1119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_891 : BitVec 32 := 1#32
  let v1121 : BitVec 32 := Scalar.muli v8 c1_i32_891
  let v1122 : BitVec 32 := Scalar.addi v1120 v1121
  v1122.toNat
def k0_off16 (d0 : Dev nD) : Fin 3 → Nat :=
  let c4_i32_216 : BitVec 32 := 4#32
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v214 : BitVec 32 := Scalar.muli c4_i32_216 v16
  let c1_i32_217 : BitVec 32 := 1#32
  let v215 : BitVec 32 := Scalar.addi v214 c1_i32_217
  let c1_i32_218 : BitVec 32 := 1#32
  let v216 : BitVec 32 := Scalar.addi v215 c1_i32_218
  let c0_i32_913 : BitVec 32 := 0#32
  let c0_i32_914 : BitVec 32 := 0#32
  ![v216.toNat, 0, 0]
def k0_dev21 (d0 : Dev nD) : Nat :=
  let c0_i32_910 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_909 : BitVec 32 := 4#32
  let v1139 : BitVec 32 := Scalar.muli v2 c4_i32_909
  let v1140 : BitVec 32 := Scalar.addi c0_i32_910 v1139
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_911 : BitVec 32 := 2#32
  let v1141 : BitVec 32 := Scalar.muli v5 c2_i32_911
  let v1142 : BitVec 32 := Scalar.addi v1140 v1141
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_912 : BitVec 32 := 1#32
  let v1143 : BitVec 32 := Scalar.muli v11 c1_i32_912
  let v1144 : BitVec 32 := Scalar.addi v1142 v1143
  v1144.toNat
def k0_off17 (d0 : Dev nD) : Fin 3 → Nat :=
  let c4_i32_235 : BitVec 32 := 4#32
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let v233 : BitVec 32 := Scalar.muli c4_i32_235 v23
  let c1_i32_236 : BitVec 32 := 1#32
  let v234 : BitVec 32 := Scalar.addi v233 c1_i32_236
  let c0_i32_237 : BitVec 32 := 0#32
  let v235 : BitVec 32 := Scalar.addi v234 c0_i32_237
  let c0_i32_1125 : BitVec 32 := 0#32
  let c0_i32_1126 : BitVec 32 := 0#32
  ![v235.toNat, 0, 0]
def k0_off18 (d0 : Dev nD) : Fin 3 → Nat :=
  let c4_i32_238 : BitVec 32 := 4#32
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let v236 : BitVec 32 := Scalar.muli c4_i32_238 v23
  let c1_i32_239 : BitVec 32 := 1#32
  let v237 : BitVec 32 := Scalar.addi v236 c1_i32_239
  let c1_i32_240 : BitVec 32 := 1#32
  let v238 : BitVec 32 := Scalar.addi v237 c1_i32_240
  let c0_i32_1147 : BitVec 32 := 0#32
  let c0_i32_1148 : BitVec 32 := 0#32
  ![v238.toNat, 0, 0]
-- ==== ReferenceIdeal.lean ====
abbrev S2x512x8x64 : Shape := ⟨4, ![2, 512, 8, 64]⟩
abbrev S2x8x512x512 : Shape := ⟨4, ![2, 8, 512, 512]⟩
abbrev S_ : Shape := ⟨0, ![]⟩
abbrev S2x8x512 : Shape := ⟨3, ![2, 8, 512]⟩
abbrev S2x8x512x1 : Shape := ⟨4, ![2, 8, 512, 1]⟩
abbrev S2x8x64x512 : Shape := ⟨4, ![2, 8, 64, 512]⟩

abbrev nBuf : Space → Nat
  | .hbm => 20
  | .vmem => 0
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x512x8x64, .f32⟩
  | .hbm, ⟨3, _⟩ => ⟨S2x8x512x512, .f32⟩
  | .hbm, ⟨4, _⟩ => ⟨S_, .f32⟩
  | .hbm, ⟨5, _⟩ => ⟨S2x8x512x512, .f32⟩
  | .hbm, ⟨6, _⟩ => ⟨S2x8x512x512, .f32⟩
  | .hbm, ⟨7, _⟩ => ⟨S_, .f32⟩
  | .hbm, ⟨8, _⟩ => ⟨S2x8x512, .f32⟩
  | .hbm, ⟨9, _⟩ => ⟨S2x8x512x1, .f32⟩
  | .hbm, ⟨10, _⟩ => ⟨S2x8x512x512, .f32⟩
  | .hbm, ⟨11, _⟩ => ⟨S2x8x512x512, .f32⟩
  | .hbm, ⟨12, _⟩ => ⟨S2x8x512x512, .f32⟩
  | .hbm, ⟨13, _⟩ => ⟨S_, .f32⟩
  | .hbm, ⟨14, _⟩ => ⟨S2x8x512, .f32⟩
  | .hbm, ⟨15, _⟩ => ⟨S2x8x512x1, .f32⟩
  | .hbm, ⟨16, _⟩ => ⟨S2x8x512x512, .f32⟩
  | .hbm, ⟨17, _⟩ => ⟨S2x8x512x512, .f32⟩
  | .hbm, ⟨18, _⟩ => ⟨S2x8x64x512, .f32⟩
  | .hbm, ⟨19, _⟩ => ⟨S2x512x8x64, .f32⟩
  | _, _ => ⟨S2x512x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Mesh.lean ====
/-
  The mesh of the exchange and what every buffer of it holds.

  Eight devices in a 2 × 2 × 2 mesh; device `4 x + 2 y + z` is the one at place `(x, y, z)`.  A device talks to three
  others: the one across `x` (`px`), across `y` (`ny`) and across `z` (`nz`).  The sixteen batch-and-head slots are cut in
  four quarters of four; quarter `2 y + z` is the one whose keys and values a device at `(y, z)` fetches from its `x`
  peer (`jm`), and then passes on.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Rounds
public import Idealize.ShloMosaic.Lib.Tactic
public import Idealize.ShloMosaic.Lib.Pipeline.Value
public import Idealize.ShloMosaic.Lib.Pipeline.RegionTalk

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Places and peers -/

/-- The device across `x`. -/
def px (c : Dev nD) : Dev nD := ⟨(c.val + 4) % 8, Nat.mod_lt _ (by decide)⟩
/-- The device across `y`. -/
def ny (c : Dev nD) : Dev nD := ⟨4 * (c.val / 4) + 2 * ((c.val / 2 + 1) % 2) + c.val % 2, by have := c.isLt; simp only [nD] at *; omega⟩
/-- The device across `z`. -/
def nz (c : Dev nD) : Dev nD := ⟨4 * (c.val / 4) + 2 * (c.val / 2 % 2) + (c.val + 1) % 2, by have := c.isLt; simp only [nD] at *; omega⟩

/-- The three peers by number: across `x`, across `y`, across `z`. -/
def pd : Fin 3 → Dev nD → Dev nD
  | 0, c => px c
  | 1, c => ny c
  | 2, c => nz c

theorem pd_pd : ∀ (d : Fin 3) (c : Dev nD), pd d (pd d c) = c := by decide +kernel

/-- The quarter a device fetches itself. -/
def jm (c : Dev nD) : Fin 4 := ⟨2 * (c.val / 2 % 2) + c.val % 2, by omega⟩
/-- The quarter its `y` neighbour fetches. -/
def jy (c : Dev nD) : Fin 4 := ⟨2 * ((c.val / 2 + 1) % 2) + c.val % 2, by omega⟩
/-- The quarter its `z` neighbour fetches. -/
def jz (c : Dev nD) : Fin 4 := ⟨2 * (c.val / 2 % 2) + (c.val + 1) % 2, by omega⟩
/-- The quarter of the device diagonally across. -/
def jd (c : Dev nD) : Fin 4 := ⟨2 * ((c.val / 2 + 1) % 2) + (c.val + 1) % 2, by omega⟩

/-! ## The eighteen remote copies -/

/-- The direction of copy `k`: 0 across `x`, 1 across `y`, 2 across `z`. -/
def dOf : Fin 18 → Fin 3 := ![0, 0, 0, 0, 1, 1, 1, 1, 2, 2, 2, 2, 1, 1, 2, 2, 0, 0]
/-- Whether copy `k` moves values (else keys). -/
def isV : Fin 18 → Bool := ![false, false, true, true, false, false, true, true, false, false, true, true, false, false, true, true, false, true]
/-- The device copy `k` of device `c` goes to, and the one copy `k` comes to `c` from. -/
def peer (k : Fin 18) (c : Dev nD) : Dev nD := pd (dOf k) c
/-- The quarter that copy `k` arriving at `c` lies in. -/
def qR (k : Fin 18) (c : Dev nD) : Fin 4 :=
  if k.val < 4 then jm c else if k.val < 8 then jy c else if k.val < 12 then jz c else jd c
/-- Its first slot within the quarter. -/
def ro : Fin 18 → ℕ := ![0, 2, 0, 2, 0, 2, 0, 2, 0, 2, 0, 2, 1, 2, 1, 2, 0, 0]
/-- How many slots it moves. -/
def rl : Fin 18 → ℕ := ![2, 2, 2, 2, 2, 2, 2, 2, 2, 2, 2, 2, 1, 2, 1, 2, 1, 1]
/-- The first slot of copy `k` arriving at `c`. -/
def lo (k : Fin 18) (c : Dev nD) : ℕ := 4 * (qR k c).val + ro k

theorem peer_peer (k : Fin 18) (c : Dev nD) : peer k (peer k c) = c := pd_pd _ c

/-- The slots from `a` on, `n` of them. -/
def rows (a n : ℕ) : Finset S16x64x256.Idx := Finset.univ.filter fun i => a ≤ (i 0).val ∧ (i 0).val < a + n

theorem mem_rows {a n : ℕ} {i : S16x64x256.Idx} : i ∈ rows a n ↔ a ≤ (i 0).val ∧ (i 0).val < a + n := by
  unfold rows; rw [Finset.mem_filter]; exact ⟨fun h => h.2, fun h => ⟨Finset.mem_univ _, h⟩⟩

/-- One slot of a query-shaped buffer. -/
def qrow (a : ℕ) : Finset S16x256x64.Idx := Finset.univ.filter fun i => (i 0).val = a
theorem mem_qrow {a : ℕ} {i : S16x256x64.Idx} : i ∈ qrow a ↔ (i 0).val = a := by
  unfold qrow; rw [Finset.mem_filter]; exact ⟨fun h => h.2, fun h => ⟨Finset.mem_univ _, h⟩⟩
/-- One slot's column of an array of the problem's layout: batch `a / 8`, head `a % 8`. -/
def col (a : ℕ) : Finset S2x256x8x64.Idx := Finset.univ.filter fun i => 8 * (i 0).val + (i 2).val = a
theorem mem_col {a : ℕ} {i : S2x256x8x64.Idx} : i ∈ col a ↔ 8 * (i 0).val + (i 2).val = a := by
  unfold col; rw [Finset.mem_filter]; exact ⟨fun h => h.2, fun h => ⟨Finset.mem_univ _, h⟩⟩

theorem set_unit_rows {off : Fin 3 → ℕ} {a n : ℕ} (h : off = ![a, 0, 0]) (inb : ∀ x, off x + (![n, 64, 256] : Fin 3 → ℕ) x ≤ S16x64x256.size x) :
    (Rect.unit (s := S16x64x256) off ![n, 64, 256] inb).set = rows a n := by
  subst h
  ext i
  rw [Rect.mem_set_unit, mem_rows]
  constructor
  · intro h; exact h 0
  · intro h x
    match x with
    | ⟨0, _⟩ => exact h
    | ⟨1, _⟩ => exact ⟨Nat.zero_le _, by have := (i 1).isLt; simpa using this⟩
    | ⟨2, _⟩ => exact ⟨Nat.zero_le _, by have := (i 2).isLt; simpa using this⟩

theorem set_unit_qrow {off : Fin 3 → ℕ} {a : ℕ} (h : off = ![a, 0, 0]) (inb : ∀ x, off x + (![1, 256, 64] : Fin 3 → ℕ) x ≤ S16x256x64.size x) :
    (Rect.unit (s := S16x256x64) off ![1, 256, 64] inb).set = qrow a := by
  subst h
  ext i
  rw [Rect.mem_set_unit, mem_qrow]
  constructor
  · intro h; have := h 0; simp at this; omega
  · intro h x
    match x with
    | ⟨0, _⟩ => simp; omega
    | ⟨1, _⟩ => exact ⟨Nat.zero_le _, by have := (i 1).isLt; simpa using this⟩
    | ⟨2, _⟩ => exact ⟨Nat.zero_le _, by have := (i 2).isLt; simpa using this⟩

theorem set_unit_col {off : Fin 4 → ℕ} {b h : ℕ} (hh : h < 8) (e : off = ![b, 0, h, 0])
    (inb : ∀ x, off x + (![1, 256, 1, 64] : Fin 4 → ℕ) x ≤ S2x256x8x64.size x) :
    (Rect.unit (s := S2x256x8x64) off ![1, 256, 1, 64] inb).set = col (8 * b + h) := by
  subst e
  ext i
  rw [Rect.mem_set_unit, mem_col]
  have h2 : (i 2).val < 8 := (i 2).isLt
  constructor
  · intro h; have := h 0; have := h 2; simp at *; omega
  · intro h x
    match x with
    | ⟨0, _⟩ => simp; omega
    | ⟨1, _⟩ => exact ⟨Nat.zero_le _, by have := (i 1).isLt; simpa using this⟩
    | ⟨2, _⟩ => simp; omega
    | ⟨3, _⟩ => exact ⟨Nat.zero_le _, by have := (i 3).isLt; simpa using this⟩

/-! ## The contents -/

/-- A key- or value-shaped buffer's contents. -/
abbrev KB (F : FTy → Type) : Type := S16x64x256.Idx → Elt F .f32
/-- A query-shaped buffer's contents. -/
abbrev QB (F : FTy → Type) : Type := S16x256x64.Idx → Elt F .f32
/-- An array of the problem's layout. -/
abbrev AB (F : FTy → Type) : Type := S2x256x8x64.Idx → Elt F .f32

/-- What every device enters the kernel with: its queries, and its keys and values with the sequence last. -/
structure Inp (F : FTy → Type) where
  /-- the queries -/
  q : Dev nD → AB F
  /-- the keys, sequence last -/
  k : Dev nD → KB F
  /-- the values, sequence last -/
  v : Dev nD → KB F

/-- The device a slot's remote half at `c` started from: the one across `x` at the place the slot's quarter names, but for
    the first slot of the diagonal quarter, which comes straight from `c`'s own `x` peer. -/
def srcDev (c : Dev nD) (r : ℕ) : Dev nD :=
  if r = 4 * (jd c).val then px c
  else ⟨4 * ((c.val / 4 + 1) % 2) + 2 * (r / 8 % 2) + r / 4 % 2, by simp only [nD]; omega⟩

variable (I : Inp F)

/-- The remote keys a device ends with, and the remote values. -/
def RK (c : Dev nD) : KB F := fun i => I.k (srcDev c (i 0).val) i
def RV (c : Dev nD) : KB F := fun i => I.v (srcDev c (i 0).val) i

/-- The index of a query-shaped buffer's element in the array of the problem's layout. -/
def colIdx (i : S16x256x64.Idx) : S2x256x8x64.Idx :=
  fun a => match a with
    | ⟨0, _⟩ => ⟨(i 0).val / 8, by have : (i 0).val < 16 := (i 0).isLt; show _ < 2; omega⟩
    | ⟨1, _⟩ => ⟨(i 1).val, (i 1).isLt⟩
    | ⟨2, _⟩ => ⟨(i 0).val % 8, by show _ < 8; omega⟩
    | ⟨3, _⟩ => ⟨(i 2).val, (i 2).isLt⟩
    | ⟨_ + 4, h⟩ => absurd h (Nat.not_lt.2 (Nat.le_add_left _ _))
/-- The index in a query-shaped buffer of an element of the array of the problem's layout. -/
def rowIdx (i : S2x256x8x64.Idx) : S16x256x64.Idx :=
  fun a => match a with
    | ⟨0, _⟩ => ⟨8 * (i 0).val + (i 2).val, by have : (i 0).val < 2 := (i 0).isLt; have : (i 2).val < 8 := (i 2).isLt; show _ < 16; omega⟩
    | ⟨1, _⟩ => ⟨(i 1).val, (i 1).isLt⟩
    | ⟨2, _⟩ => ⟨(i 3).val, (i 3).isLt⟩
    | ⟨_ + 3, h⟩ => absurd h (Nat.not_lt.2 (Nat.le_add_left _ _))

/-- The queries slot by slot. -/
def QV (c : Dev nD) : QB F := fun i => I.q c (colIdx i)

/-- One slot of a query-shaped buffer, as a load of it reads it. -/
def rowQ (f : QB F) (a : ℕ) (ha : a < 16) : Vec F S1x256x64 .f32 :=
  fun i => f (fun x => match x with
    | ⟨0, _⟩ => ⟨a, ha⟩
    | ⟨1, _⟩ => ⟨(i 1).val, (i 1).isLt⟩
    | ⟨2, _⟩ => ⟨(i 2).val, (i 2).isLt⟩
    | ⟨_ + 3, h⟩ => absurd h (Nat.not_lt.2 (Nat.le_add_left _ _)))
/-- One slot of a key-shaped buffer, as a load of it reads it. -/
def rowK (f : KB F) (a : ℕ) (ha : a < 16) : Vec F S1x64x256 .f32 :=
  fun i => f (fun x => match x with
    | ⟨0, _⟩ => ⟨a, ha⟩
    | ⟨1, _⟩ => ⟨(i 1).val, (i 1).isLt⟩
    | ⟨2, _⟩ => ⟨(i 2).val, (i 2).isLt⟩
    | ⟨_ + 3, h⟩ => absurd h (Nat.not_lt.2 (Nat.le_add_left _ _)))

/-- What landed where: the contents a copy of device `c` reads at the slots it reads are the contents its peer is to end
    with at the slots it writes. -/
theorem srcDev_direct : ∀ (k : Fin 18), k.val < 4 ∨ 16 ≤ k.val → ∀ (c : Dev nD) (r : Fin 16),
    lo k (peer k c) ≤ r.val → r.val < lo k (peer k c) + rl k → srcDev (peer k c) r.val = c := by decide +kernel
theorem srcDev_relay : ∀ (k : Fin 18), 4 ≤ k.val → k.val < 16 → ∀ (c : Dev nD) (r : Fin 16),
    lo k (peer k c) ≤ r.val → r.val < lo k (peer k c) + rl k → srcDev (peer k c) r.val = srcDev c r.val := by decide +kernel

end Cert.KernelIdeal.Attn

end
-- ==== Proof.Sched.lean ====
/-
  The protocol: for each semaphore, what a unit of it hands to the device that waits on it.

  * The barrier semaphore of a device is signalled once by each of its three peers, and waited on for all three.  A peer
    hands over the landing places, in its own remote buffers, of the six copies the device will send to it.
  * `send k` of a device is raised by its own remote copy `k` when the source may be reused: it hands the source back.
  * `recv k` of a device is raised by its peer's copy `k`: it hands over the landing place, at its final contents.
  * The local copies in (`lsem`) and out (`osem`) hand back source and destination.
-/
module

public import proofs.«01_k».proof.Proof.Mesh

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

/-- The ghost state: the launch's own, and the protocol's rounds with duties numbered by three peers. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## Semaphore cells -/

abbrev barCell (c : Dev nD) : GSem nD τ sig := ((c : Thread nD τ), .reg barrier0)
/-- The cell of DMA semaphore number `s`. -/
abbrev dCell (s : Fin 70) (c : Dev nD) : GSem nD τ sig := ((c : Thread nD τ), .dma s)
/-- Local copy in of query slot `i` (16 and 17 are the keys' and the values'). -/
abbrev sQ (i : Fin 16) : Fin 70 := ⟨i.val, by omega⟩
/-- Local copy out, number `i`. -/
abbrev sO (i : Fin 16) : Fin 70 := ⟨18 + i.val, by omega⟩
/-- The sender's semaphore of remote copy `k`. -/
abbrev sS (k : Fin 18) : Fin 70 := ⟨34 + k.val, by omega⟩
/-- The receiver's semaphore of remote copy `k`. -/
abbrev sR (k : Fin 18) : Fin 70 := ⟨52 + k.val, by omega⟩

/-! ## What is held of a buffer -/

/-- The key- and value-shaped buffers: the arrays in main memory, the local copies, the remote halves. -/
inductive KBuf
  | hk | hv | kv | vv | rk | rv
deriving DecidableEq

/-- Elements `S` of a key- or value-shaped buffer of device `c`, at share `q`, holding `f`. -/
def pK (b : KBuf) (c : Dev nD) (S : Finset S16x64x256.Idx) (q : PosShare TreeShare) (f : KB F) : sProp 𝕄 :=
  match b with
  | .hk => ((c : Thread nD τ).loc main_v2) ↦[S]{q} f
  | .hv => ((c : Thread nD τ).loc main_v4) ↦[S]{q} f
  | .kv => ((c : Thread nD τ).loc cc0_scratch1) ↦[S]{q} f
  | .vv => ((c : Thread nD τ).loc cc0_scratch2) ↦[S]{q} f
  | .rk => ((c : Thread nD τ).loc cc0_scratch3) ↦[S]{q} f
  | .rv => ((c : Thread nD τ).loc cc0_scratch4) ↦[S]{q} f

theorem pK_union (b : KBuf) (c : Dev nD) {S T : Finset S16x64x256.Idx} (q : PosShare TreeShare) (f : KB F) (h : Disjoint S T) :
    (pK b c (S ∪ T) q f : sProp 𝕄) ⊣⊢ iprop(pK b c S q f ∗ pK b c T q f) := by
  cases b <;> exact pointsTo_union h
theorem pK_share (b : KBuf) (c : Dev nD) (S : Finset S16x64x256.Idx) {q q₁ q₂ : PosShare TreeShare} (f : KB F) (h : q ∈ q₁ ·? q₂) :
    (pK b c S q f : sProp 𝕄) ⊣⊢ iprop(pK b c S q₁ f ∗ pK b c S q₂ f) := by
  cases b <;> exact pointsTo_share h
theorem pK_congr (b : KBuf) (c : Dev nD) {S : Finset S16x64x256.Idx} (q : PosShare TreeShare) {f g : KB F} (h : ∀ i ∈ S, f i = g i) :
    (pK b c S q f : sProp 𝕄) = pK b c S q g := by
  cases b <;> exact pointsTo_congr h
theorem pK_split (b : KBuf) (c : Dev nD) {S T : Finset S16x64x256.Idx} (q : PosShare TreeShare) (f : KB F) (h : S ⊆ T) :
    (pK b c T q f : sProp 𝕄) ⊣⊢ iprop(pK b c S q f ∗ pK b c (T \ S) q f) := by
  cases b <;> exact pointsTo_split_subset h

instance pK_storable (b : KBuf) (c : Dev nD) (S : Finset S16x64x256.Idx) (q : PosShare TreeShare) (f : KB F) :
    BI.Storable (upEmb : UEmb _ 𝕄) (pK b c S q f) := by
  cases b <;> (unfold pK; infer_instance)

/-- Slots of the query buffer, of the result buffer, and columns of the arrays of the problem's layout. -/
abbrev pQV (c : Dev nD) (S : Finset S16x256x64.Idx) (f : QB F) : sProp 𝕄 := ((c : Thread nD τ).loc cc0_scratch0) ↦[S]{fullShare} f
abbrev pOV (c : Dev nD) (S : Finset S16x256x64.Idx) (f : QB F) : sProp 𝕄 := ((c : Thread nD τ).loc cc0_scratch5) ↦[S]{fullShare} f
abbrev pQ (c : Dev nD) (S : Finset S2x256x8x64.Idx) (f : AB F) : sProp 𝕄 := ((c : Thread nD τ).loc main_arg0) ↦[S]{fullShare} f
abbrev pO (c : Dev nD) (S : Finset S2x256x8x64.Idx) (f : AB F) : sProp 𝕄 := ((c : Thread nD τ).loc main_v5) ↦[S]{fullShare} f

variable (I : Inp F)

/-- What each key- or value-shaped buffer is to hold. -/
def cont (c : Dev nD) : KBuf → KB F
  | .hk => I.k c
  | .hv => I.v c
  | .kv => I.k c
  | .vv => I.v c
  | .rk => RK I c
  | .rv => RV I c

/-! ## The results -/

/-- One head of attention from the local half and the remote half: the local half's running maximum, sum and weighted sum,
    the remote half merged in, the quotient. -/
def headVal (q : Vec F S1x256x64 .f32) (k v rk rv : Vec F S1x64x256 .f32) : Vec F S1x256x64 .f32 :=
  Gen.k0_pay87 (Gen.k0_pay2 q k) (Gen.k0_pay4 q k) (Gen.k0_pay5 q k v) q rk rv

/-- The result of slot `a` at device `c`. -/
def headAt (c : Dev nD) (a : ℕ) (ha : a < 16) : Vec F S1x256x64 .f32 :=
  headVal (rowQ (QV I c) a ha) (rowK (I.k c) a ha) (rowK (I.v c) a ha) (rowK (RK I c) a ha) (rowK (RV I c) a ha)

/-- The results slot by slot. -/
def OV (c : Dev nD) : QB F := fun i => headAt I c (i 0).val (i 0).isLt (fun x => match x with
    | ⟨0, _⟩ => ⟨0, Nat.one_pos⟩
    | ⟨1, _⟩ => ⟨(i 1).val, (i 1).isLt⟩
    | ⟨2, _⟩ => ⟨(i 2).val, (i 2).isLt⟩
    | ⟨_ + 3, h⟩ => absurd h (Nat.not_lt.2 (Nat.le_add_left _ _)))
/-- The results in the problem's layout. -/
def OUT (c : Dev nD) : AB F := fun i => OV I c (rowIdx i)

/-! ## The eighteen remote copies' pieces -/

def srcBuf : Fin 18 → KBuf := ![.hk, .hk, .hv, .hv, .rk, .rk, .rv, .rv, .rk, .rk, .rv, .rv, .rk, .rk, .rv, .rv, .hk, .hv]
def dstBuf : Fin 18 → KBuf := ![.rk, .rk, .rv, .rv, .rk, .rk, .rv, .rv, .rk, .rk, .rv, .rv, .rk, .rk, .rv, .rv, .rk, .rv]
/-- The share a copy holds of its source: half of an array in main memory (the other half is the local copy's), half of a
    landed half (the other half is for the loads), halved again where two copies read it. -/
def srcShare (k : Fin 18) : PosShare TreeShare :=
  if k.val < 4 then fullShare.right else if k.val < 8 then fullShare.left.left else if k.val < 12 then fullShare.left.right
  else if k.val < 16 then fullShare.left else fullShare.right

/-- The source of copy `k` of device `c`. -/
def srcP (k : Fin 18) (c : Dev nD) : sProp 𝕄 := pK (srcBuf k) c (rows (lo k (peer k c)) (rl k)) (srcShare k) (cont I c (srcBuf k))
/-- The landing place at device `c` of copy `k`, landed. -/
def dstP (k : Fin 18) (c : Dev nD) : sProp 𝕄 := pK (dstBuf k) c (rows (lo k c) (rl k)) fullShare (cont I c (dstBuf k))
/-- The landing place at device `c` of copy `k`, before. -/
def anyP (k : Fin 18) (c : Dev nD) : sProp 𝕄 := iprop(∃ f : KB F, pK (dstBuf k) c (rows (lo k c) (rl k)) fullShare f)
/-- What device `c` hands its peer for copy `k`: the landing place, and that its receive semaphore is ready. -/
def landP (k : Fin 18) (c : Dev nD) : sProp 𝕄 := iprop(anyP (F := F) k c ∗ reached ER (dCell (sR k) c) 0)
/-- The landing places at device `c` of the six copies of one direction. -/
def landD (d : Fin 3) (c : Dev nD) : sProp 𝕄 := bigSep (Finset.univ.filter fun k => dOf k = d) fun k => landP (F := F) k c

/-- What DMA semaphore `s` of device `c` hands over. -/
def dpay (s : Fin 70) (c : Dev nD) : sProp 𝕄 :=
  if s.val < 16 then iprop(pQV c (qrow s.val) (QV I c) ∗ pQ c (col s.val) (I.q c))
  else if s.val = 16 then iprop(pK .kv c Finset.univ fullShare (I.k c) ∗ pK .hk c Finset.univ fullShare.left (I.k c))
  else if s.val = 17 then iprop(pK .vv c Finset.univ fullShare (I.v c) ∗ pK .hv c Finset.univ fullShare.left (I.v c))
  else if s.val < 34 then iprop(pO c (col (s.val - 18)) (OUT I c) ∗ pOV c (qrow (s.val - 18)) (OV I c))
  else if h : s.val < 52 then srcP I ⟨s.val - 34, by omega⟩ c
  else dstP I ⟨s.val - 52, by omega⟩ c

theorem dpay_q (i : Fin 16) (c : Dev nD) : dpay I (sQ i) c = iprop(pQV c (qrow i.val) (QV I c) ∗ pQ c (col i.val) (I.q c)) := if_pos i.isLt
theorem dpay_k (c : Dev nD) : dpay I 16 c = iprop(pK .kv c Finset.univ fullShare (I.k c) ∗ pK .hk c Finset.univ fullShare.left (I.k c)) := rfl
theorem dpay_v (c : Dev nD) : dpay I 17 c = iprop(pK .vv c Finset.univ fullShare (I.v c) ∗ pK .hv c Finset.univ fullShare.left (I.v c)) := rfl
theorem dpay_o (i : Fin 16) (c : Dev nD) : dpay I (sO i) c = iprop(pO c (col i.val) (OUT I c) ∗ pOV c (qrow i.val) (OV I c)) := by
  unfold dpay
  rw [if_neg (by show ¬ (18 + i.val < 16); omega), if_neg (by show ¬ (18 + i.val = 16); omega), if_neg (by show ¬ (18 + i.val = 17); omega),
    if_pos (by show 18 + i.val < 34; omega)]
  simp only [Nat.add_sub_cancel_left]
theorem dpay_s (k : Fin 18) (c : Dev nD) : dpay I (sS k) c = srcP I k c := by
  unfold dpay
  rw [if_neg (by show ¬ (34 + k.val < 16); omega), if_neg (by show ¬ (34 + k.val = 16); omega), if_neg (by show ¬ (34 + k.val = 17); omega),
    if_neg (by show ¬ (34 + k.val < 34); omega), dif_pos (by show 34 + k.val < 52; omega)]
  exact congrArg (fun k => srcP I k c) (Fin.ext (Nat.add_sub_cancel_left _ _))
theorem dpay_r (k : Fin 18) (c : Dev nD) : dpay I (sR k) c = dstP I k c := by
  unfold dpay
  rw [if_neg (by show ¬ (52 + k.val < 16); omega), if_neg (by show ¬ (52 + k.val = 16); omega), if_neg (by show ¬ (52 + k.val = 17); omega),
    if_neg (by show ¬ (52 + k.val < 34); omega), dif_neg (by show ¬ (52 + k.val < 52); omega)]
  exact congrArg (fun k => dstP I k c) (Fin.ext (Nat.add_sub_cancel_left _ _))

instance srcP_storable (k : Fin 18) (c : Dev nD) : BI.Storable (upEmb : UEmb _ 𝕄) (srcP I k c) := by unfold srcP; infer_instance
instance dstP_storable (k : Fin 18) (c : Dev nD) : BI.Storable (upEmb : UEmb _ 𝕄) (dstP I k c) := by unfold dstP; infer_instance
instance landP_storable (k : Fin 18) (c : Dev nD) : BI.Storable (upEmb : UEmb _ 𝕄) (landP (F := F) k c) := by unfold landP anyP; infer_instance
instance landD_storable (d : Fin 3) (c : Dev nD) : BI.Storable (upEmb : UEmb _ 𝕄) (landD (F := F) d c) := by unfold landD; infer_instance
instance dpay_storable (s : Fin 70) (c : Dev nD) : BI.Storable (upEmb : UEmb _ 𝕄) (dpay I s c) := by
  unfold dpay; (repeat' split) <;> infer_instance

/-- The units a transfer of one query slot, of a whole key-shaped buffer, of `n` slots of one credits. -/
def nQ : ℕ := RefSig.tileCredit S256x64 .f32
def nW : ℕ := RefSig.tileCredit S16x64x256 .f32
def nK (k : Fin 18) : ℕ := RefSig.tileCredit ⟨3, ![rl k, 64, 256]⟩ .f32
/-- The units DMA semaphore `s` is raised by. -/
def amt (s : Fin 70) : ℕ :=
  if s.val < 16 then nQ else if s.val < 18 then nW else if s.val < 34 then nQ
  else if h : s.val < 52 then nK ⟨s.val - 34, by omega⟩ else nK ⟨s.val - 52, by omega⟩

theorem nK_pos (k : Fin 18) : 0 < nK k := RefSig.tileCredit_pos _ _ (by revert k; decide +kernel)
theorem nQ_pos : 0 < nQ := RefSig.tileCredit_pos _ _ (by decide +kernel)
theorem nW_pos : 0 < nW := RefSig.tileCredit_pos _ _ (by decide +kernel)
theorem amt_pos (s : Fin 70) : 0 < amt s := by
  unfold amt
  split
  · exact nQ_pos
  split
  · exact nW_pos
  split
  · exact nQ_pos
  split
  · exact nK_pos _
  · exact nK_pos _
theorem amt_q (i : Fin 16) : amt (sQ i) = nQ := if_pos i.isLt
theorem amt_o (i : Fin 16) : amt (sO i) = nQ := by
  unfold amt
  rw [if_neg (by show ¬ (18 + i.val < 16); omega), if_neg (by show ¬ (18 + i.val < 18); omega), if_pos (by show 18 + i.val < 34; omega)]
theorem amt_s (k : Fin 18) : amt (sS k) = nK k := by
  unfold amt
  rw [if_neg (by show ¬ (34 + k.val < 16); omega), if_neg (by show ¬ (34 + k.val < 18); omega), if_neg (by show ¬ (34 + k.val < 34); omega),
    dif_pos (by show 34 + k.val < 52; omega)]
  exact congrArg nK (Fin.ext (Nat.add_sub_cancel_left _ _))
theorem amt_r (k : Fin 18) : amt (sR k) = nK k := by
  unfold amt
  rw [if_neg (by show ¬ (52 + k.val < 16); omega), if_neg (by show ¬ (52 + k.val < 18); omega), if_neg (by show ¬ (52 + k.val < 34); omega),
    dif_neg (by show ¬ (52 + k.val < 52); omega)]
  exact congrArg nK (Fin.ext (Nat.add_sub_cancel_left _ _))

/-- The schedule: one round; a barrier has one duty per peer, a DMA semaphore one duty. -/
def sched : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma s => amt s
  payload g _ d := match g.2 with | .reg _ => landD (F := F) d (pd d g.1.1) | .dma s => dpay I s g.1.1
  amount_pos g _ _ _ := by rcases g.2 with s | s; exacts [Nat.one_pos, amt_pos s]

instance sched_storable (g : GSem nD τ sig) (r : ℕ) (d : Fin 3) : BI.Storable (upEmb : UEmb _ 𝕄) ((sched I).payload g r d) := by
  show BI.Storable upEmb (match g.2 with | .reg _ => landD (F := F) d (pd d g.1.1) | .dma s => dpay I s g.1.1)
  rcases g.2 with s | s <;> infer_instance

theorem duties_bar (c : Dev nD) : (sched I).duties (barCell c) 0 = Finset.univ := by
  dsimp only [sched]; exact if_pos ⟨rfl, rfl⟩
theorem duties_dma (s : Fin 70) (c : Dev nD) : (sched I).duties (dCell s c) 0 = {0} := by
  dsimp only [sched]; exact if_pos ⟨rfl, rfl⟩
theorem duties_later (g : GSem nD τ sig) : ∀ r, 1 ≤ r → (sched I).duties g r = ∅ := fun r hr => if_neg (fun h => by omega)
theorem amount_bar (c : Dev nD) (d : Fin 3) : (sched I).amount (barCell c) 0 d = 1 := rfl
theorem amount_dma (s : Fin 70) (c : Dev nD) (d : Fin 3) : (sched I).amount (dCell s c) 0 d = amt s := rfl
theorem payload_bar (c : Dev nD) (d : Fin 3) : (sched I).payload (barCell c) 0 d = landD (F := F) d (pd d c) := rfl
theorem payload_dma (s : Fin 70) (c : Dev nD) (d : Fin 3) : (sched I).payload (dCell s c) 0 d = dpay I s c := rfl

theorem expect_bar (c : Dev nD) : (sched I).expect (barCell c) 0 = 3 := by
  unfold Schedule.expect Schedule.amountOf; rw [duties_bar]; rfl
theorem expect_dma (s : Fin 70) (c : Dev nD) : (sched I).expect (dCell s c) 0 = amt s := by
  unfold Schedule.expect Schedule.amountOf; rw [duties_dma, Finset.sum_singleton, amount_dma]

theorem rest_dma (s : Fin 70) (c : Dev nD) :
    bigSep ((sched I).duties (dCell s c) 0 \ ∅) (fun d => (sched I).payload (dCell s c) 0 d) = dpay I s c := by
  rw [Finset.sdiff_empty, duties_dma, bigSep_singleton, payload_dma]
theorem rest_bar (c : Dev nD) :
    bigSep ((sched I).duties (barCell c) 0 \ ∅) (fun d => (sched I).payload (barCell c) 0 d)
      = bigSep Finset.univ fun k => landP (F := F) k (peer k c) := by
  rw [Finset.sdiff_empty, duties_bar, bigSep_fiberwise Finset.univ dOf,
    show (Finset.univ : Finset (Fin 18)).image dOf = Finset.univ by decide +kernel]
  refine bigSep_congr fun d _ => (payload_bar I c d).trans (bigSep_congr fun k hk => ?_)
  rw [peer, (Finset.mem_filter.mp hk).2]

/-! ## What is owed, and in which order it may be waited for -/

/-- A device owes, to the receive semaphores of its peers, the copies of the list it has still to issue. -/
def owe (c : Dev nD) : List (Fin 18) → CellTallies nD τ sig Unit
  | [] => 0
  | k :: ks => owe c ks + tallyAt (dCell (sR k) (peer k c)) () (nK k)

def L (g : GSem nD τ sig) : Finset Unit := if g.1.2 = .tc then {()} else ∅
/-- The rank of receive semaphore `k`: the direct copies, then the first relays, then the second. -/
def lvR : Fin 18 → ℕ := ![2, 2, 2, 2, 3, 3, 3, 3, 3, 3, 3, 3, 4, 4, 4, 4, 2, 2]
def lvD (s : Fin 70) : ℕ := if h : 52 ≤ s.val then lvR ⟨s.val - 52, by omega⟩ else 0
def lv (g : GSem nD τ sig) (_ : Unit) : ℕ := match g.2 with | .reg _ => 1 | .dma s => lvD s

theorem lvD_r : ∀ k, lvD (sR k) = lvR k := by decide +kernel
theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} {g : GSem nD τ sig} {u : Unit} : ∀ {ks : List (Fin 18)}, 0 < owe c ks g u → ∃ k ∈ ks, g = dCell (sR k) (peer k c)
  | [], h => absurd h (Nat.lt_irrefl 0)
  | k :: ks, h => by
    unfold owe at h
    rw [Pi.add_apply, Finsupp.add_apply] at h
    rcases Nat.add_pos_iff_pos_or_pos.mp h with h | h
    · obtain ⟨k', hk, e⟩ := owe_pos h
      exact ⟨k', List.mem_cons_of_mem _ hk, e⟩
    · rw [tallyAt_apply] at h
      split at h
      · next hg => exact ⟨k, List.mem_cons_self .., hg.1⟩
      · exact absurd h (Nat.lt_irrefl 0)

theorem mayWait_owe (c : Dev nD) (sm : SemLoc sig) (ks : List (Fin 18)) (h : ∀ k ∈ ks, lv ((c : Thread nD τ), sm) () < lvR k) :
    (levAts L lv : sProp 𝕄) ⊢ MayWait (c : Thread nD τ) sm () (owe c ks) :=
  MayOwe.of_cut (L := L) (lev := lv) (lv ((c : Thread nD τ), sm) ()) (fun p hp => by rw [Finset.mem_singleton.mp hp, L_tc]; exact Finset.mem_singleton_self _)
    (fun g u hg => by
      obtain ⟨k, -, rfl⟩ := owe_pos hg
      rw [L_tc]; exact Finset.mem_singleton_self _)
    (fun p hp => by rw [Finset.mem_singleton.mp hp])
    (fun g u hg => by
      obtain ⟨k, hk, rfl⟩ := owe_pos hg
      show _ < lvD (sR k)
      rw [lvD_r]; exact h k hk)

end Cert.KernelIdeal.Attn

end
-- ==== Proof.Steps.lean ====
/-
  One rule per kind of step of the kernel, in the protocol's terms: the signals and the wait of the barrier, the local
  copies, the remote copies, the waits for them, the loads of one slot and the store of one.
-/
module

public import proofs.«01_k».proof.Proof.Sched

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Running `p` on device `c` ends in `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A run at its end. -/
theorem wp_done (c : Dev nD) {α : Type} {a : α} {Q : α → sProp 𝕄} : Q a ⊢ WP c (.ret a) Q := by
  show _ ⊢ wp frame (wpE (defs₀ (F := F)) 𝒱₀ (c : Thread nD τ) none) Set.univ (.ret a) Q
  rw [wp_ret]; iintro H; imodintro; iexact H

variable (I : Inp F) (K : GSem nD τ sig → ℕ)

/-! ## What is known throughout, and the tokens -/

/-- What every step may use: the cells of all devices, that the barriers and the device's own semaphores are ready, and the order
    of waiting. -/
def Env (c : Dev nD) : sProp 𝕄 :=
  iprop((bigSep Finset.univ fun c' : Dev nD => cellInv ER (sched I) (K (barCell c')) (barCell c'))
    ∗ (bigSep Finset.univ fun p : Fin 70 × Dev nD => cellInv ER (sched I) (K (dCell p.1 p.2)) (dCell p.1 p.2))
    ∗ (bigSep Finset.univ fun c' : Dev nD => reached ER (barCell c') 0)
    ∗ (bigSep Finset.univ fun s : Fin 70 => reached ER (dCell s c) 0)
    ∗ levAts L lv)

instance Env_persistent (c : Dev nD) : Persistent (Env I K c) := by unfold Env; infer_instance

theorem env_bar (c c' : Dev nD) : Env I K c ⊢ cellInv ER (sched I) (K (barCell c')) (barCell c') := by
  unfold Env; iintro ⟨H, -⟩; iapply (show (bigSep Finset.univ (fun c' : Dev nD => cellInv ER (sched I) (K (barCell c')) (barCell c')) : sProp 𝕄) ⊢ _ from bigSep_elim (Finset.mem_univ c')); iexact H
theorem env_dma (c : Dev nD) (s : Fin 70) (c' : Dev nD) : Env I K c ⊢ cellInv ER (sched I) (K (dCell s c')) (dCell s c') := by
  unfold Env; iintro ⟨-, H, -⟩; iapply (show (bigSep Finset.univ (fun p : Fin 70 × Dev nD => cellInv ER (sched I) (K (dCell p.1 p.2)) (dCell p.1 p.2)) : sProp 𝕄) ⊢ _ from bigSep_elim (Finset.mem_univ (s, c'))); iexact H
theorem env_rbar (c c' : Dev nD) : Env I K c ⊢ reached ER (barCell c') 0 := by
  unfold Env; iintro ⟨-, -, H, -⟩; iapply (show (bigSep Finset.univ (fun c' : Dev nD => reached ER (barCell c') 0) : sProp 𝕄) ⊢ _ from bigSep_elim (Finset.mem_univ c')); iexact H
theorem env_rdma (c : Dev nD) (s : Fin 70) : Env I K c ⊢ reached ER (dCell s c) 0 := by
  unfold Env; iintro ⟨-, -, -, H, -⟩; iapply (show (bigSep Finset.univ (fun s : Fin 70 => reached ER (dCell s c) 0) : sProp 𝕄) ⊢ _ from bigSep_elim (Finset.mem_univ s)); iexact H
theorem env_lev (c : Dev nD) : Env I K c ⊢ levAts L lv := by
  unfold Env; iintro ⟨-, -, -, -, H⟩; iexact H

/-- A DMA semaphore before its transfer is issued: the right to raise it, and to wait on it. -/
def tok (s : Fin 70) (c : Dev nD) : sProp 𝕄 := iprop(dutyTok ER (dCell s c) 0 0 ∗ atPos ER (dCell s c) 0 ∅ 0)
/-- One whose raise is under way. -/
def pend (s : Fin 70) (c : Dev nD) : sProp 𝕄 := iprop(cred (tallyAt (dCell s c) () (amt s)) ∗ atPos ER (dCell s c) 0 ∅ 0)
/-- The rights remote copy `k` of device `c` needs. -/
def sTok (k : Fin 18) (c : Dev nD) : sProp 𝕄 := iprop(tok (sS k) c ∗ dutyTok ER (dCell (sR k) (peer k c)) 0 0)
/-- Device `c` owes `O`. -/
def owesE (c : Dev nD) (O : CellTallies nD τ sig Unit) : sProp 𝕄 := iprop(∃ W, owes (c : Thread nD τ) O W)

/-! ## A family of which the first are done -/

/-- `A` of the members below `n`, `B` of the others. -/
def prog {N : ℕ} (A B : Fin N → sProp 𝕄) (n : ℕ) : sProp 𝕄 := bigSep Finset.univ fun i : Fin N => if i.val < n then A i else B i

theorem prog_zero {N : ℕ} (A B : Fin N → sProp 𝕄) : prog A B 0 = bigSep Finset.univ B :=
  bigSep_congr fun i _ => if_neg (Nat.not_lt_zero _)
theorem prog_all {N : ℕ} (A B : Fin N → sProp 𝕄) : prog A B N = bigSep Finset.univ A :=
  bigSep_congr fun i _ => if_pos i.isLt
theorem prog_step {N : ℕ} (A B : Fin N → sProp 𝕄) (n : Fin N) : prog A B n.val ⊢ iprop(B n ∗ (A n -∗ prog A B (n.val + 1))) := by
  unfold prog
  rw [bigSep_univ_split n, bigSep_univ_split n (Φ := fun i : Fin N => if i.val < n.val + 1 then A i else B i), if_neg (Nat.lt_irrefl _),
    if_pos (Nat.lt_succ_self _), bigSep_congr (Φ := fun i : Fin N => if i.val < n.val then A i else B i)
      (Ψ := fun i : Fin N => if i.val < n.val + 1 then A i else B i) (fun i hi => by
        have : i.val ≠ n.val := fun e => (Finset.mem_erase.mp hi).1 (Fin.ext e)
        by_cases h : i.val < n.val
        · rw [if_pos h, if_pos (by omega)]
        · rw [if_neg h, if_neg (by omega)])]
  show iprop(B n ∗ bigSep _ _) ⊢ iprop(B n ∗ (A n -∗ (A n ∗ bigSep _ _)))
  iintro ⟨HB, Hr⟩
  isplitl [HB]; · iexact HB
  iintro HA
  isplitl [HA]; · iexact HA
  iexact Hr

/-! ## Waiting for a transfer -/

theorem step_wait (s : Fin 70) (c : Dev nD) {α : Type} {sp sp' : Space} {sh sh' : Shape} {e e' : EltTy} {x : DmaSem sig} (hx : x = s)
    {src : Memref sig .tc sp' sh' e'} {dst : Memref sig .tc sp sh e} {hsrc : src.view.WordExact} {hdst : dst.view.WordExact}
    {k : PUnit → Prog (TpuEff nD τ sig (Elt F) Λ₀ .tc) α} {Q : α → sProp 𝕄} (hN : dst.view.dmaCredit = amt s)
    {O : CellTallies nD τ sig Unit} (hM : (levAts L lv : sProp 𝕄) ⊢ MayWait (c : Thread nD τ) (.dma s) () O) :
    Env I K c ⊢ iprop(pend s c -∗ owesE c O -∗ ((semVal (dCell s c) 0 ∗ owesE c O ∗ dpay I s c) -∗ WP c (k ⟨⟩) Q)
      -∗ WP c (.op (.waitDma2 x src dst hsrc hdst) k) Q) := by
  subst hx
  unfold pend owesE
  iintro #HE ⟨Hc, Hat⟩ ⟨%W, HO⟩ Hk
  ihave #HI := (env_dma I K c x c) $$ HE
  iapply (Rounds.wp_wait_rest_token 𝒱₀ ER (sched I) (c : Thread nD τ) none (κ := K (dCell x c))
      (wpE_waitDma2_eq (src := src) (dst := dst) 𝒱₀ (c : Thread nD τ) none Set.univ) (Set.mem_univ _) () (O := O)
      (W := W) (R := 0) (m := 0) (T := ∅)
      ((Nat.zero_add _).trans (hN.trans (expect_dma I x c).symm))) $$ [Hc HO Hat]
  · isplitr; · iexact HI
    isplitl [Hc]; · rw [hN]; iexact Hc
    isplitl [HO]; · iexact HO
    isplitr; · iapply hM; iapply (env_lev I K c); iexact HE
    iexact Hat
  iintro ⟨HO, Hat, -, Hpay⟩
  ihave Hp := (Entails.of_eq (rest_dma I x c)) $$ Hpay
  imod (cell_close ER (sched I) (Set.mem_univ _) (fun h => h) (R := 1) (duties_later I (dCell x c))) $$ [Hat] with Hs
  · isplitr; · iexact HI
    iexact Hat
  iapply Hk
  isplitl [Hs]; · iexact Hs
  isplitl [HO]; · iexists _; iexact HO
  iexact Hp

/-! ## The local copies -/

theorem step_copy (s : Fin 70) (c : Dev nD) {α : Type} {sp sp' : Space} {sh : Shape} {e : EltTy} {x : DmaSem sig} (hx : x = s)
    {src : Memref sig .tc sp sh e} {dst : Memref sig .tc sp' sh e} {hsrc : src.view.WordExact} {hdst : dst.view.WordExact}
    {hsem : DmaTarget.Typed (nD := nD) sp (.dma x) (.here (p := (Proc.tc : Proc τ)) dst)}
    {k : PUnit → Prog (TpuEff nD τ sig (Elt F) Λ₀ .tc) α} {Q : α → sProp 𝕄} (q : PosShare TreeShare)
    {fs : Buf (Elt F) (src.view.loc (c : Thread nD τ))} {fd : Buf (Elt F) (dst.view.loc (c : Thread nD τ))}
    (hN : dst.view.dmaCredit = amt s)
    (hp : iprop((dst.view.loc (c : Thread nD τ) ↦[dst.view.set]{fullShare} (dst.view.write (Elt F) fd (src.view.read (Elt F) fs) Finset.univ))
              ∗ (src.view.loc (c : Thread nD τ) ↦[src.view.set]{q} fs)) ⊢ (dpay I s c : sProp 𝕄)) :
    Env I K c ⊢ iprop(tok s c -∗ (src.view.loc (c : Thread nD τ) ↦[src.view.set]{q} fs)
      -∗ (dst.view.loc (c : Thread nD τ) ↦[dst.view.set]{fullShare} fd) -∗ (pend s c -∗ WP c (k ⟨⟩) Q)
      -∗ WP c (.op (.enqueueDma src (.here dst) (.dma x) hsrc hdst hsem) k) Q) := by
  subst hx
  unfold tok pend
  iintro #HE ⟨Ht, Hat⟩ Hs Hd Hk
  ihave #HI := (env_dma I K c x c) $$ HE
  iapply (Rounds.wp_copy_pointsTo 𝒱₀ ER (sched I) (c : Thread nD τ) none (src := src) (dst := dst) (sem := .dma x) (q := q)
      (fs := fs) (fd := fd) (r := 0) (d := 0) (κ := K (dCell x c))
      (by rw [duties_dma]; exact Finset.mem_singleton_self _) () (amt x) hN (amount_dma I x c 0)
      (hp.trans (Entails.of_eq (payload_dma I x c 0).symm))) $$ [Hs Hd Ht]
  · isplitr; · iexact HI
    isplitl [Hs]; · iexact Hs
    isplitl [Hd]; · iexact Hd
    isplitl [Ht]; · iexact Ht
    iapply (env_rdma I K c x); iexact HE
  iintro Hc
  iapply Hk
  isplitl [Hc]; · iexact Hc
  iexact Hat

/-! ## The remote copies -/

theorem step_send (k : Fin 18) (c c' : Dev nD) (hc : c' = peer k c) {α : Type} {sp sp' : Space} {sh : Shape} {e : EltTy}
    {src : Memref sig .tc sp sh e} {dst : Memref sig .tc sp' sh e} {hsc : dst.view.ref.isScScratch = false}
    {x y : DmaSem sig} (hx : x = sS k) (hy : y = sR k) {hsrc : src.view.WordExact} {hdst : dst.view.WordExact}
    {hsem : DmaTarget.Typed sp (.dma y) (.remote (p := (Proc.tc : Proc τ)) (Dev.tc c' : Thread nD τ) dst (.dma x) hsc)}
    {kk : PUnit → Prog (TpuEff nD τ sig (Elt F) Λ₀ .tc) α} {Q : α → sProp 𝕄}
    {fs : Buf (Elt F) (src.view.loc (c : Thread nD τ))}
    (hs : (srcP I k c : sProp 𝕄) = (src.view.loc (c : Thread nD τ) ↦[src.view.set]{srcShare k} fs))
    (ha : (anyP k c' : sProp 𝕄) ⊢ iprop(∃ fd : Buf (Elt F) (dst.view.loc (c' : Thread nD τ)), dst.view.loc (c' : Thread nD τ) ↦[dst.view.set]{fullShare} fd))
    (hl : ∀ fd : Buf (Elt F) (dst.view.loc (c' : Thread nD τ)), (dst.view.loc (c' : Thread nD τ) ↦[dst.view.set]{fullShare}
      (dst.view.write (Elt F) fd (src.view.read (Elt F) fs) Finset.univ) : sProp 𝕄) ⊢ dstP I k c')
    (hN : dst.view.dmaCredit = nK k) (ks : List (Fin 18)) :
    Env I K c ⊢ iprop(sTok k c -∗ landP k (peer k c) -∗ srcP I k c -∗ owesE c (owe c (k :: ks))
      -∗ ((pend (sS k) c ∗ owesE c (owe c ks)) -∗ WP c (kk ⟨⟩) Q)
      -∗ WP c (.op (.enqueueDma src (.remote (Dev.tc c' : Thread nD τ) dst (.dma x) hsc) (.dma y) hsrc hdst hsem) kk) Q) := by
  subst hx hy hc
  unfold sTok tok landP owesE
  iintro #HE ⟨⟨Ht, Hat⟩, Ht'⟩ ⟨Hd, #Hr⟩ Hs ⟨%W, HO⟩ Hk
  ihave #HI := (env_dma I K c (sS k) c) $$ HE
  ihave #HI' := (env_dma I K c (sR k) (peer k c)) $$ HE
  ihave #Hr0 := (env_rdma I K c (sS k)) $$ HE
  ihave Hd := ha $$ Hd
  icases Hd with ⟨%fd, Hd⟩
  ihave Hs := (Entails.of_eq hs) $$ Hs
  iapply (Rounds.wp_send_pointsTo 𝒱₀ ER (sched I) (c : Thread nD τ) none (c' := (peer k c : Thread nD τ)) (src := src) (dst := dst)
      (sS := .dma (sS k)) (sem := .dma (sR k)) (q := srcShare k) (fs := fs) (fd := fd) (r₁ := 0) (r₂ := 0) (d₁ := 0) (d₂ := 0)
      (κ₁ := K (dCell (sS k) c)) (κ₂ := K (dCell (sR k) (peer k c)))
      (by rw [duties_dma]; exact Finset.mem_singleton_self _) (by rw [duties_dma]; exact Finset.mem_singleton_self _)
      () () (nK k) hN ((amount_dma I (sS k) c 0).trans (amt_s k)) ((amount_dma I (sR k) (peer k c) 0).trans (amt_r k))
      (owe c ks) rfl (W := W)
      ((Entails.of_eq hs.symm).trans (Entails.of_eq ((payload_dma I (sS k) c 0).trans (dpay_s I k c)).symm))
      ((hl fd).trans (Entails.of_eq ((payload_dma I (sR k) (peer k c) 0).trans (dpay_r I k (peer k c))).symm))) $$ [Hs Hd Ht Ht' HO]
  · isplitr; · iexact HI
    isplitr; · iexact HI'
    isplitl [Hs]; · iexact Hs
    isplitl [Hd]; · iexact Hd
    isplitl [HO]; · iexact HO
    isplitl [Ht]; · iexact Ht
    isplitr; · iexact Hr0
    isplitl [Ht']; · iexact Ht'
    iexact Hr
  iintro ⟨Hc, HO⟩
  iapply Hk
  isplitl [Hc Hat]
  · unfold pend; rw [amt_s]
    isplitl [Hc]; · iexact Hc
    iexact Hat
  iexists W; iexact HO

/-- What copy `k` of device `c` moves is what its peer is to hold. -/
theorem cont_land (k : Fin 18) (c : Dev nD) (i : S16x64x256.Idx) (hi : i ∈ rows (lo k (peer k c)) (rl k)) :
    cont I c (srcBuf k) i = cont I (peer k c) (dstBuf k) i := by
  obtain ⟨h1, h2⟩ := mem_rows.mp hi
  have hd := fun h => srcDev_direct k h c ⟨(i 0).val, (i 0).isLt⟩ h1 h2
  have hr := fun h h' => srcDev_relay k h h' c ⟨(i 0).val, (i 0).isLt⟩ h1 h2
  by_cases hk : k.val < 4 ∨ 16 ≤ k.val
  · have e := hd hk
    clear hd hr hi h1 h2
    have : (srcBuf k = .hk ∧ dstBuf k = .rk) ∨ (srcBuf k = .hv ∧ dstBuf k = .rv) := by
      clear e; revert k; decide +kernel
    rcases this with ⟨a, b⟩ | ⟨a, b⟩ <;> rw [a, b]
    · show I.k c i = I.k (srcDev (peer k c) (i 0).val) i; rw [e]
    · show I.v c i = I.v (srcDev (peer k c) (i 0).val) i; rw [e]
  · have e := hr (by omega) (by omega)
    clear hd hr hi h1 h2
    have : (srcBuf k = .rk ∧ dstBuf k = .rk) ∨ (srcBuf k = .rv ∧ dstBuf k = .rv) := by
      clear e; revert k; decide +kernel
    rcases this with ⟨a, b⟩ | ⟨a, b⟩ <;> rw [a, b]
    · show I.k (srcDev c (i 0).val) i = I.k (srcDev (peer k c) (i 0).val) i; rw [e]
    · show I.v (srcDev c (i 0).val) i = I.v (srcDev (peer k c) (i 0).val) i; rw [e]

end Cert.KernelIdeal.Attn

end
-- ==== Proof.Moves.lean ====
/-
  The same steps at the buffers the kernel names: which slots a copy or a load touches, and what it finds or leaves there.
-/
module

public import proofs.«01_k».proof.Proof.Steps

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : GSem nD τ sig → ℕ)

/-! ## Views -/

/-- A slice's elements are the rectangle's. -/
theorem mem_emb {s : Shape} {r : Rect s} {i : s.Idx} (hi : i ∈ r.set) : ∃ j, r.emb j = i := by
  rw [← Rect.map_emb_univ] at hi
  obtain ⟨j, -, e⟩ := Finset.mem_map.mp hi
  exact ⟨j, e⟩

/-- The two forms in which a head's plane is transferred, `[1, 256, 64]` and `[1, 256, 1, 64]`, run through the plane
    alike. -/
theorem plane_coords (h3 : S256x64.numel = S1x256x64.numel) (h4 : S256x64.numel = S1x256x1x64.numel) (j : S256x64.Idx) :
    (Shape.reshapeEquiv h4 j 1).val = (Shape.reshapeEquiv h3 j 1).val ∧ (Shape.reshapeEquiv h4 j 3).val = (Shape.reshapeEquiv h3 j 2).val := by
  have e3 := Shape.rowMajor_reshapeEquiv h3 j
  have e4 := Shape.rowMajor_reshapeEquiv h4 j
  rw [Shape.rowMajor_val_three] at e3
  rw [Shape.rowMajor_val_four] at e4
  generalize Shape.reshapeEquiv h3 j = x at *
  generalize Shape.reshapeEquiv h4 j = y at *
  have e := e4.trans e3.symm
  have x0 : (x 0).val < 1 := (x 0).isLt
  have x1 : (x 1).val < 256 := (x 1).isLt
  have x2 : (x 2).val < 64 := (x 2).isLt
  have y0 : (y 0).val < 1 := (y 0).isLt
  have y1 : (y 1).val < 256 := (y 1).isLt
  have y2 : (y 2).val < 1 := (y 2).isLt
  have y3 : (y 3).val < 64 := (y 3).isLt
  have e : (((y 0).val * 256 + (y 1).val) * 1 + (y 2).val) * 64 + (y 3).val = ((x 0).val * 256 + (x 1).val) * 64 + (x 2).val := e
  constructor <;> omega

/-- The element of the problem's layout under a plane's element, of batch `b` and head `h`, is the one `colIdx` names for
    the slot's. -/
theorem colIdx_plane {a b h : ℕ} (ha : a = 8 * b + h) (hh : h < 8)
    (inb : ∀ x, (![a, 0, 0] : Fin 3 → ℕ) x + (![1, 256, 64] : Fin 3 → ℕ) x ≤ S16x256x64.size x)
    (inb' : ∀ x, (![b, 0, h, 0] : Fin 4 → ℕ) x + (![1, 256, 1, 64] : Fin 4 → ℕ) x ≤ S2x256x8x64.size x)
    (h3 : S256x64.numel = S1x256x64.numel) (h4 : S256x64.numel = S1x256x1x64.numel) (j : S256x64.Idx) :
    (Rect.unit (s := S2x256x8x64) ![b, 0, h, 0] ![1, 256, 1, 64] inb').emb (Shape.reshapeEquiv h4 j)
      = colIdx ((Rect.unit (s := S16x256x64) ![a, 0, 0] ![1, 256, 64] inb).emb (Shape.reshapeEquiv h3 j)) := by
  obtain ⟨p, q⟩ := plane_coords h3 h4 j
  have x0 : (Shape.reshapeEquiv h3 j 0).val < 1 := (Shape.reshapeEquiv h3 j 0).isLt
  have y0 : (Shape.reshapeEquiv h4 j 0).val < 1 := (Shape.reshapeEquiv h4 j 0).isLt
  have y2 : (Shape.reshapeEquiv h4 j 2).val < 1 := (Shape.reshapeEquiv h4 j 2).isLt
  subst ha
  funext x
  apply Fin.ext
  match x with
  | ⟨0, _⟩ => show b + 1 * (Shape.reshapeEquiv h4 j 0).val = (8 * b + h + 1 * (Shape.reshapeEquiv h3 j 0).val) / 8; omega
  | ⟨1, _⟩ => show 0 + 1 * (Shape.reshapeEquiv h4 j 1).val = 0 + 1 * (Shape.reshapeEquiv h3 j 1).val; omega
  | ⟨2, _⟩ => show h + 1 * (Shape.reshapeEquiv h4 j 2).val = (8 * b + h + 1 * (Shape.reshapeEquiv h3 j 0).val) % 8; omega
  | ⟨3, _⟩ => show 0 + 1 * (Shape.reshapeEquiv h4 j 3).val = 0 + 1 * (Shape.reshapeEquiv h3 j 2).val; omega

theorem rowIdx_colIdx (i : S16x256x64.Idx) : rowIdx (colIdx i) = i := by
  funext x
  apply Fin.ext
  match x with
  | ⟨0, _⟩ => show 8 * ((i 0).val / 8) + (i 0).val % 8 = _; exact Nat.div_add_mod _ _
  | ⟨1, _⟩ => rfl
  | ⟨2, _⟩ => rfl

/-! ## The remote copies, by source and destination -/

theorem step_send_hk (k : Fin 18) (c c' : Dev nD) (hc : c' = peer k c) (hb : srcBuf k = .hk ∧ dstBuf k = .rk) {α : Type}
    {off off' : Fin 3 → ℕ} (ho : off = ![lo k (peer k c), 0, 0]) (ho' : off' = ![lo k (peer k c), 0, 0])
    {inb : ∀ a, off a + (![rl k, 64, 256] : Fin 3 → ℕ) a ≤ S16x64x256.size a}
    {inb' : ∀ a, off' a + (![rl k, 64, 256] : Fin 3 → ℕ) a ≤ S16x64x256.size a} {h h'} {hsc}
    {x y : DmaSem sig} (hx : x = sS k) (hy : y = sR k) {hsrc hdst hsem}
    {kk : PUnit → Prog (TpuEff nD τ sig (Elt F) Λ₀ .tc) α} {Q : α → sProp 𝕄} (ks : List (Fin 18)) :
    Env I K c ⊢ iprop(sTok k c -∗ landP k (peer k c) -∗ srcP I k c -∗ owesE c (owe c (k :: ks))
      -∗ ((pend (sS k) c ∗ owesE c (owe c ks)) -∗ WP c (kk ⟨⟩) Q)
      -∗ WP c (.op (.enqueueDma ((Memref.whole main_v2).slice (Rect.unit (s := S16x64x256) off ![rl k, 64, 256] inb) h)
          (.remote (Dev.tc c' : Thread nD τ) ((Memref.whole cc0_scratch3).slice (Rect.unit (s := S16x64x256) off' ![rl k, 64, 256] inb') h') (.dma x) hsc)
          (.dma y) hsrc hdst hsem) kk) Q) := by
  subst hc ho ho'
  have hset := set_unit_rows (n := rl k) rfl inb
  refine step_send I K k c _ rfl hx hy (fs := I.k c) ?_ ?_ ?_ rfl ks
  · unfold srcP; rw [hb.1, ← hset]
    exact congrArg (fun S => ((c : Thread nD τ).loc main_v2) ↦[S]{srcShare k} I.k c) (View.set_slice_whole main_v2 _).symm
  · unfold anyP; rw [hb.2, ← hset]
    exact Entails.of_eq (congrArg (fun S => iprop(∃ f, ((peer k c : Thread nD τ).loc cc0_scratch3) ↦[S]{fullShare} f)) (View.set_slice_whole cc0_scratch3 _).symm)
  · intro fd
    unfold dstP; rw [hb.2]
    refine Entails.of_eq ((congrArg (fun S => ((peer k c : Thread nD τ).loc cc0_scratch3) ↦[S]{fullShare} _)
      ((View.set_slice_whole cc0_scratch3 _).trans hset)).trans (pointsTo_congr fun i hi => ?_))
    obtain ⟨j, rfl⟩ := mem_emb (hset ▸ hi)
    have := cont_land I k c _ hi
    rw [hb.1, hb.2] at this
    exact ((View.write_emb_of_mem (v := ((Memref.whole cc0_scratch3).slice (Rect.unit (s := S16x64x256) ![lo k (peer k c), 0, 0] ![rl k, 64, 256] inb') h').view) (x := j) fd _ (Finset.mem_univ j)).trans rfl).trans this

theorem step_send_hv (k : Fin 18) (c c' : Dev nD) (hc : c' = peer k c) (hb : srcBuf k = .hv ∧ dstBuf k = .rv) {α : Type}
    {off off' : Fin 3 → ℕ} (ho : off = ![lo k (peer k c), 0, 0]) (ho' : off' = ![lo k (peer k c), 0, 0])
    {inb : ∀ a, off a + (![rl k, 64, 256] : Fin 3 → ℕ) a ≤ S16x64x256.size a}
    {inb' : ∀ a, off' a + (![rl k, 64, 256] : Fin 3 → ℕ) a ≤ S16x64x256.size a} {h h'} {hsc}
    {x y : DmaSem sig} (hx : x = sS k) (hy : y = sR k) {hsrc hdst hsem}
    {kk : PUnit → Prog (TpuEff nD τ sig (Elt F) Λ₀ .tc) α} {Q : α → sProp 𝕄} (ks : List (Fin 18)) :
    Env I K c ⊢ iprop(sTok k c -∗ landP k (peer k c) -∗ srcP I k c -∗ owesE c (owe c (k :: ks))
      -∗ ((pend (sS k) c ∗ owesE c (owe c ks)) -∗ WP c (kk ⟨⟩) Q)
      -∗ WP c (.op (.enqueueDma ((Memref.whole main_v4).slice (Rect.unit (s := S16x64x256) off ![rl k, 64, 256] inb) h)
          (.remote (Dev.tc c' : Thread nD τ) ((Memref.whole cc0_scratch4).slice (Rect.unit (s := S16x64x256) off' ![rl k, 64, 256] inb') h') (.dma x) hsc)
          (.dma y) hsrc hdst hsem) kk) Q) := by
  subst hc ho ho'
  have hset := set_unit_rows (n := rl k) rfl inb
  refine step_send I K k c _ rfl hx hy (fs := I.v c) ?_ ?_ ?_ rfl ks
  · unfold srcP; rw [hb.1, ← hset]
    exact congrArg (fun S => ((c : Thread nD τ).loc main_v4) ↦[S]{srcShare k} I.v c) (View.set_slice_whole main_v4 _).symm
  · unfold anyP; rw [hb.2, ← hset]
    exact Entails.of_eq (congrArg (fun S => iprop(∃ f, ((peer k c : Thread nD τ).loc cc0_scratch4) ↦[S]{fullShare} f)) (View.set_slice_whole cc0_scratch4 _).symm)
  · intro fd
    unfold dstP; rw [hb.2]
    refine Entails.of_eq ((congrArg (fun S => ((peer k c : Thread nD τ).loc cc0_scratch4) ↦[S]{fullShare} _)
      ((View.set_slice_whole cc0_scratch4 _).trans hset)).trans (pointsTo_congr fun i hi => ?_))
    obtain ⟨j, rfl⟩ := mem_emb (hset ▸ hi)
    have := cont_land I k c _ hi
    rw [hb.1, hb.2] at this
    exact ((View.write_emb_of_mem (v := ((Memref.whole cc0_scratch4).slice (Rect.unit (s := S16x64x256) ![lo k (peer k c), 0, 0] ![rl k, 64, 256] inb') h').view) (x := j) fd _ (Finset.mem_univ j)).trans rfl).trans this

theorem step_send_rk (k : Fin 18) (c c' : Dev nD) (hc : c' = peer k c) (hb : srcBuf k = .rk ∧ dstBuf k = .rk) {α : Type}
    {off off' : Fin 3 → ℕ} (ho : off = ![lo k (peer k c), 0, 0]) (ho' : off' = ![lo k (peer k c), 0, 0])
    {inb : ∀ a, off a + (![rl k, 64, 256] : Fin 3 → ℕ) a ≤ S16x64x256.size a}
    {inb' : ∀ a, off' a + (![rl k, 64, 256] : Fin 3 → ℕ) a ≤ S16x64x256.size a} {h h'} {hsc}
    {x y : DmaSem sig} (hx : x = sS k) (hy : y = sR k) {hsrc hdst hsem}
    {kk : PUnit → Prog (TpuEff nD τ sig (Elt F) Λ₀ .tc) α} {Q : α → sProp 𝕄} (ks : List (Fin 18)) :
    Env I K c ⊢ iprop(sTok k c -∗ landP k (peer k c) -∗ srcP I k c -∗ owesE c (owe c (k :: ks))
      -∗ ((pend (sS k) c ∗ owesE c (owe c ks)) -∗ WP c (kk ⟨⟩) Q)
      -∗ WP c (.op (.enqueueDma ((Memref.whole cc0_scratch3).slice (Rect.unit (s := S16x64x256) off ![rl k, 64, 256] inb) h)
          (.remote (Dev.tc c' : Thread nD τ) ((Memref.whole cc0_scratch3).slice (Rect.unit (s := S16x64x256) off' ![rl k, 64, 256] inb') h') (.dma x) hsc)
          (.dma y) hsrc hdst hsem) kk) Q) := by
  subst hc ho ho'
  have hset := set_unit_rows (n := rl k) rfl inb
  refine step_send I K k c _ rfl hx hy (fs := RK I c) ?_ ?_ ?_ rfl ks
  · unfold srcP; rw [hb.1, ← hset]
    exact congrArg (fun S => ((c : Thread nD τ).loc cc0_scratch3) ↦[S]{srcShare k} RK I c) (View.set_slice_whole cc0_scratch3 _).symm
  · unfold anyP; rw [hb.2, ← hset]
    exact Entails.of_eq (congrArg (fun S => iprop(∃ f, ((peer k c : Thread nD τ).loc cc0_scratch3) ↦[S]{fullShare} f)) (View.set_slice_whole cc0_scratch3 _).symm)
  · intro fd
    unfold dstP; rw [hb.2]
    refine Entails.of_eq ((congrArg (fun S => ((peer k c : Thread nD τ).loc cc0_scratch3) ↦[S]{fullShare} _)
      ((View.set_slice_whole cc0_scratch3 _).trans hset)).trans (pointsTo_congr fun i hi => ?_))
    obtain ⟨j, rfl⟩ := mem_emb (hset ▸ hi)
    have := cont_land I k c _ hi
    rw [hb.1, hb.2] at this
    exact ((View.write_emb_of_mem (v := ((Memref.whole cc0_scratch3).slice (Rect.unit (s := S16x64x256) ![lo k (peer k c), 0, 0] ![rl k, 64, 256] inb') h').view) (x := j) fd _ (Finset.mem_univ j)).trans rfl).trans this

theorem step_send_rv (k : Fin 18) (c c' : Dev nD) (hc : c' = peer k c) (hb : srcBuf k = .rv ∧ dstBuf k = .rv) {α : Type}
    {off off' : Fin 3 → ℕ} (ho : off = ![lo k (peer k c), 0, 0]) (ho' : off' = ![lo k (peer k c), 0, 0])
    {inb : ∀ a, off a + (![rl k, 64, 256] : Fin 3 → ℕ) a ≤ S16x64x256.size a}
    {inb' : ∀ a, off' a + (![rl k, 64, 256] : Fin 3 → ℕ) a ≤ S16x64x256.size a} {h h'} {hsc}
    {x y : DmaSem sig} (hx : x = sS k) (hy : y = sR k) {hsrc hdst hsem}
    {kk : PUnit → Prog (TpuEff nD τ sig (Elt F) Λ₀ .tc) α} {Q : α → sProp 𝕄} (ks : List (Fin 18)) :
    Env I K c ⊢ iprop(sTok k c -∗ landP k (peer k c) -∗ srcP I k c -∗ owesE c (owe c (k :: ks))
      -∗ ((pend (sS k) c ∗ owesE c (owe c ks)) -∗ WP c (kk ⟨⟩) Q)
      -∗ WP c (.op (.enqueueDma ((Memref.whole cc0_scratch4).slice (Rect.unit (s := S16x64x256) off ![rl k, 64, 256] inb) h)
          (.remote (Dev.tc c' : Thread nD τ) ((Memref.whole cc0_scratch4).slice (Rect.unit (s := S16x64x256) off' ![rl k, 64, 256] inb') h') (.dma x) hsc)
          (.dma y) hsrc hdst hsem) kk) Q) := by
  subst hc ho ho'
  have hset := set_unit_rows (n := rl k) rfl inb
  refine step_send I K k c _ rfl hx hy (fs := RV I c) ?_ ?_ ?_ rfl ks
  · unfold srcP; rw [hb.1, ← hset]
    exact congrArg (fun S => ((c : Thread nD τ).loc cc0_scratch4) ↦[S]{srcShare k} RV I c) (View.set_slice_whole cc0_scratch4 _).symm
  · unfold anyP; rw [hb.2, ← hset]
    exact Entails.of_eq (congrArg (fun S => iprop(∃ f, ((peer k c : Thread nD τ).loc cc0_scratch4) ↦[S]{fullShare} f)) (View.set_slice_whole cc0_scratch4 _).symm)
  · intro fd
    unfold dstP; rw [hb.2]
    refine Entails.of_eq ((congrArg (fun S => ((peer k c : Thread nD τ).loc cc0_scratch4) ↦[S]{fullShare} _)
      ((View.set_slice_whole cc0_scratch4 _).trans hset)).trans (pointsTo_congr fun i hi => ?_))
    obtain ⟨j, rfl⟩ := mem_emb (hset ▸ hi)
    have := cont_land I k c _ hi
    rw [hb.1, hb.2] at this
    exact ((View.write_emb_of_mem (v := ((Memref.whole cc0_scratch4).slice (Rect.unit (s := S16x64x256) ![lo k (peer k c), 0, 0] ![rl k, 64, 256] inb') h').view) (x := j) fd _ (Finset.mem_univ j)).trans rfl).trans this

/-! ## The local copies -/

theorem step_copy_q (i : Fin 16) (c : Dev nD) {α : Type} {b h : ℕ} (hi : i.val = 8 * b + h) (hh : h < 8)
    {off : Fin 4 → ℕ} {off' : Fin 3 → ℕ} (ho : off = ![b, 0, h, 0]) (ho' : off' = ![i.val, 0, 0])
    {inb : ∀ x, off x + (![1, 256, 1, 64] : Fin 4 → ℕ) x ≤ S2x256x8x64.size x}
    {inb' : ∀ x, off' x + (![1, 256, 64] : Fin 3 → ℕ) x ≤ S16x256x64.size x} {s1 s2 z1 z2}
    {x : DmaSem sig} (hx : x = sQ i) {hsrc hdst hsem}
    {k : PUnit → Prog (TpuEff nD τ sig (Elt F) Λ₀ .tc) α} {Q : α → sProp 𝕄} :
    Env I K c ⊢ iprop(tok (sQ i) c -∗ pQ c (col i.val) (I.q c) -∗ (∃ f, pQV c (qrow i.val) f)
      -∗ (pend (sQ i) c -∗ WP c (k ⟨⟩) Q)
      -∗ WP c (.op (.enqueueDma (((Memref.whole main_arg0).slice (Rect.unit (s := S2x256x8x64) off ![1, 256, 1, 64] inb) s1).squeeze S256x64 z1)
          (.here (((Memref.whole cc0_scratch0).slice (Rect.unit (s := S16x256x64) off' ![1, 256, 64] inb') s2).squeeze S256x64 z2))
          (.dma x) hsrc hdst hsem) k) Q) := by
  subst ho ho'
  have hset := set_unit_col hh rfl inb
  have hset' := set_unit_qrow rfl inb'
  rw [← hi] at hset
  have e1 : ((((Memref.whole main_arg0).slice (Rect.unit (s := S2x256x8x64) ![b, 0, h, 0] ![1, 256, 1, 64] inb) s1).squeeze S256x64 z1).view.set) = col i.val :=
    (View.set_reshape _ _).trans ((View.set_slice_whole main_arg0 _).trans hset)
  have e2 : ((((Memref.whole cc0_scratch0).slice (Rect.unit (s := S16x256x64) ![i.val, 0, 0] ![1, 256, 64] inb') s2).squeeze S256x64 z2).view.set) = qrow i.val :=
    (View.set_reshape _ _).trans ((View.set_slice_whole cc0_scratch0 _).trans hset')
  iintro #HE Ht Hs ⟨%f, Hd⟩ Hk
  iapply (step_copy I K (sQ i) c hx fullShare (src := ((Memref.whole main_arg0).slice (Rect.unit (s := S2x256x8x64) ![b, 0, h, 0] ![1, 256, 1, 64] inb) s1).squeeze S256x64 z1)
      (dst := ((Memref.whole cc0_scratch0).slice (Rect.unit (s := S16x256x64) ![i.val, 0, 0] ![1, 256, 64] inb') s2).squeeze S256x64 z2)
      (fs := I.q c) (fd := f) ((amt_q i).symm ▸ rfl) (by
        rw [dpay_q I i c]
        refine BIClass.sep_mono ?_ (Entails.of_eq (congrArg (fun S => pQ c S (I.q c)) e1))
        refine Entails.of_eq ((congrArg (fun S => pQV c S _) e2).trans (pointsTo_congr fun y hy => ?_))
        obtain ⟨j, -, rfl⟩ := Finset.mem_map.mp (e2.symm ▸ hy)
        refine ((View.write_emb_of_mem (v := (((Memref.whole cc0_scratch0).slice (Rect.unit (s := S16x256x64) ![i.val, 0, 0] ![1, 256, 64] inb') s2).squeeze S256x64 z2).view) (x := j) f _ (Finset.mem_univ j)).trans rfl).trans ?_
        exact congrArg (I.q c) (colIdx_plane hi hh inb' inb z2.numel_eq z1.numel_eq j))) $$ HE Ht [Hs] [Hd] Hk
  · rw [e1]; iexact Hs
  · rw [e2]; iexact Hd

theorem step_copy_k (c : Dev nD) {α : Type} {x : DmaSem sig} (hx : x = (16 : Fin 70)) {hsrc hdst hsem}
    {k : PUnit → Prog (TpuEff nD τ sig (Elt F) Λ₀ .tc) α} {Q : α → sProp 𝕄} :
    Env I K c ⊢ iprop(tok 16 c -∗ pK .hk c Finset.univ fullShare.left (I.k c) -∗ (∃ f : KB F, pK .kv c Finset.univ fullShare f)
      -∗ (pend 16 c -∗ WP c (k ⟨⟩) Q)
      -∗ WP c (.op (.enqueueDma (Memref.whole main_v2) (.here (Memref.whole cc0_scratch1)) (.dma x) hsrc hdst hsem) k) Q) := by
  have e1 : (pK .hk c Finset.univ fullShare.left (I.k c) : sProp 𝕄)
      = ((Memref.whole main_v2).view.loc (c : Thread nD τ) ↦[(Memref.whole main_v2).view.set]{fullShare.left} I.k c) :=
    congrArg (fun S => pK .hk c S fullShare.left (I.k c)) (View.set_whole main_v2).symm
  have e2 : ∀ f : KB F, (pK .kv c Finset.univ fullShare f : sProp 𝕄)
      = ((Memref.whole cc0_scratch1).view.loc (c : Thread nD τ) ↦[(Memref.whole cc0_scratch1).view.set]{fullShare} f) := fun f =>
    congrArg (fun S => pK .kv c S fullShare f) (View.set_whole cc0_scratch1).symm
  iintro #HE Ht Hs ⟨%f, Hd⟩ Hk
  iapply (step_copy I K 16 c hx fullShare.left (src := Memref.whole main_v2) (dst := Memref.whole cc0_scratch1)
      (fs := I.k c) (fd := f) rfl (by
        rw [dpay_k I c]
        refine BIClass.sep_mono (Entails.of_eq ?_) (Entails.of_eq e1.symm)
        refine Eq.trans ?_ (e2 _).symm
        exact congrArg (fun g => ((Memref.whole cc0_scratch1).view.loc (c : Thread nD τ) ↦[(Memref.whole cc0_scratch1).view.set]{fullShare} g : sProp 𝕄))
          (View.write_whole_univ cc0_scratch1 f (I.k c)))) $$ HE Ht [Hs] [Hd] Hk
  · iapply (Entails.of_eq e1); iexact Hs
  · iapply (Entails.of_eq (e2 f)); iexact Hd

theorem step_copy_v (c : Dev nD) {α : Type} {x : DmaSem sig} (hx : x = (17 : Fin 70)) {hsrc hdst hsem}
    {k : PUnit → Prog (TpuEff nD τ sig (Elt F) Λ₀ .tc) α} {Q : α → sProp 𝕄} :
    Env I K c ⊢ iprop(tok 17 c -∗ pK .hv c Finset.univ fullShare.left (I.v c) -∗ (∃ f : KB F, pK .vv c Finset.univ fullShare f)
      -∗ (pend 17 c -∗ WP c (k ⟨⟩) Q)
      -∗ WP c (.op (.enqueueDma (Memref.whole main_v4) (.here (Memref.whole cc0_scratch2)) (.dma x) hsrc hdst hsem) k) Q) := by
  have e1 : (pK .hv c Finset.univ fullShare.left (I.v c) : sProp 𝕄)
      = ((Memref.whole main_v4).view.loc (c : Thread nD τ) ↦[(Memref.whole main_v4).view.set]{fullShare.left} I.v c) :=
    congrArg (fun S => pK .hv c S fullShare.left (I.v c)) (View.set_whole main_v4).symm
  have e2 : ∀ f : KB F, (pK .vv c Finset.univ fullShare f : sProp 𝕄)
      = ((Memref.whole cc0_scratch2).view.loc (c : Thread nD τ) ↦[(Memref.whole cc0_scratch2).view.set]{fullShare} f) := fun f =>
    congrArg (fun S => pK .vv c S fullShare f) (View.set_whole cc0_scratch2).symm
  iintro #HE Ht Hs ⟨%f, Hd⟩ Hk
  iapply (step_copy I K 17 c hx fullShare.left (src := Memref.whole main_v4) (dst := Memref.whole cc0_scratch2)
      (fs := I.v c) (fd := f) rfl (by
        rw [dpay_v I c]
        refine BIClass.sep_mono (Entails.of_eq ?_) (Entails.of_eq e1.symm)
        refine Eq.trans ?_ (e2 _).symm
        exact congrArg (fun g => ((Memref.whole cc0_scratch2).view.loc (c : Thread nD τ) ↦[(Memref.whole cc0_scratch2).view.set]{fullShare} g : sProp 𝕄))
          (View.write_whole_univ cc0_scratch2 f (I.v c)))) $$ HE Ht [Hs] [Hd] Hk
  · iapply (Entails.of_eq e1); iexact Hs
  · iapply (Entails.of_eq (e2 f)); iexact Hd

theorem step_copy_o (i : Fin 16) (c : Dev nD) {α : Type} {b h : ℕ} (hi : i.val = 8 * b + h) (hh : h < 8)
    {off : Fin 4 → ℕ} {off' : Fin 3 → ℕ} (ho : off = ![b, 0, h, 0]) (ho' : off' = ![i.val, 0, 0])
    {inb : ∀ x, off x + (![1, 256, 1, 64] : Fin 4 → ℕ) x ≤ S2x256x8x64.size x}
    {inb' : ∀ x, off' x + (![1, 256, 64] : Fin 3 → ℕ) x ≤ S16x256x64.size x} {s1 s2 z1 z2}
    {x : DmaSem sig} (hx : x = sO i) {hsrc hdst hsem}
    {k : PUnit → Prog (TpuEff nD τ sig (Elt F) Λ₀ .tc) α} {Q : α → sProp 𝕄} :
    Env I K c ⊢ iprop(tok (sO i) c -∗ pOV c (qrow i.val) (OV I c) -∗ (∃ f, pO c (col i.val) f)
      -∗ (pend (sO i) c -∗ WP c (k ⟨⟩) Q)
      -∗ WP c (.op (.enqueueDma (((Memref.whole cc0_scratch5).slice (Rect.unit (s := S16x256x64) off' ![1, 256, 64] inb') s2).squeeze S256x64 z2)
          (.here (((Memref.whole main_v5).slice (Rect.unit (s := S2x256x8x64) off ![1, 256, 1, 64] inb) s1).squeeze S256x64 z1))
          (.dma x) hsrc hdst hsem) k) Q) := by
  subst ho ho'
  have hset := set_unit_col hh rfl inb
  have hset' := set_unit_qrow rfl inb'
  rw [← hi] at hset
  have e1 : ((((Memref.whole main_v5).slice (Rect.unit (s := S2x256x8x64) ![b, 0, h, 0] ![1, 256, 1, 64] inb) s1).squeeze S256x64 z1).view.set) = col i.val :=
    (View.set_reshape _ _).trans ((View.set_slice_whole main_v5 _).trans hset)
  have e2 : ((((Memref.whole cc0_scratch5).slice (Rect.unit (s := S16x256x64) ![i.val, 0, 0] ![1, 256, 64] inb') s2).squeeze S256x64 z2).view.set) = qrow i.val :=
    (View.set_reshape _ _).trans ((View.set_slice_whole cc0_scratch5 _).trans hset')
  iintro #HE Ht Hs ⟨%f, Hd⟩ Hk
  iapply (step_copy I K (sO i) c hx fullShare (src := ((Memref.whole cc0_scratch5).slice (Rect.unit (s := S16x256x64) ![i.val, 0, 0] ![1, 256, 64] inb') s2).squeeze S256x64 z2)
      (dst := ((Memref.whole main_v5).slice (Rect.unit (s := S2x256x8x64) ![b, 0, h, 0] ![1, 256, 1, 64] inb) s1).squeeze S256x64 z1)
      (fs := OV I c) (fd := f) ((amt_o i).symm ▸ rfl) (by
        rw [dpay_o I i c]
        refine BIClass.sep_mono ?_ (Entails.of_eq (congrArg (fun S => pOV c S (OV I c)) e2))
        refine Entails.of_eq ((congrArg (fun S => pO c S _) e1).trans (pointsTo_congr fun y hy => ?_))
        obtain ⟨j, -, rfl⟩ := Finset.mem_map.mp (e1.symm ▸ hy)
        refine ((View.write_emb_of_mem (v := (((Memref.whole main_v5).slice (Rect.unit (s := S2x256x8x64) ![b, 0, h, 0] ![1, 256, 1, 64] inb) s1).squeeze S256x64 z1).view) (x := j) f _ (Finset.mem_univ j)).trans rfl).trans ?_
        refine congrArg (OV I c) ((rowIdx_colIdx _).symm.trans ?_)
        exact congrArg rowIdx (colIdx_plane hi hh inb' inb z2.numel_eq z1.numel_eq j).symm)) $$ HE Ht [Hs] [Hd] Hk
  · rw [e2]; iexact Hs
  · rw [e1]; iexact Hd

/-! ## Loads and stores of one slot -/

/-- The elements a load of slot `a` reads, of a query-shaped buffer and of a key-shaped one. -/
theorem rowQ_read (f : QB F) {a : ℕ} (ha : a < 16) (inb : ∀ x, (![a, 0, 0] : Fin 3 → ℕ) x + (![1, 256, 64] : Fin 3 → ℕ) x ≤ S16x256x64.size x) :
    (fun i => f ((Rect.unit (s := S16x256x64) ![a, 0, 0] ![1, 256, 64] inb).emb i)) = rowQ f a ha := by
  funext i
  refine congrArg f (funext fun x => Fin.ext ?_)
  have i0 : (i 0).val < 1 := (i 0).isLt
  match x with
  | ⟨0, _⟩ => show a + 1 * (i 0).val = a; omega
  | ⟨1, _⟩ => show 0 + 1 * (i 1).val = (i 1).val; omega
  | ⟨2, _⟩ => show 0 + 1 * (i 2).val = (i 2).val; omega
theorem rowK_read (f : KB F) {a : ℕ} (ha : a < 16) (inb : ∀ x, (![a, 0, 0] : Fin 3 → ℕ) x + (![1, 64, 256] : Fin 3 → ℕ) x ≤ S16x64x256.size x) :
    (fun i => f ((Rect.unit (s := S16x64x256) ![a, 0, 0] ![1, 64, 256] inb).emb i)) = rowK f a ha := by
  funext i
  refine congrArg f (funext fun x => Fin.ext ?_)
  have i0 : (i 0).val < 1 := (i 0).isLt
  match x with
  | ⟨0, _⟩ => show a + 1 * (i 0).val = a; omega
  | ⟨1, _⟩ => show 0 + 1 * (i 1).val = (i 1).val; omega
  | ⟨2, _⟩ => show 0 + 1 * (i 2).val = (i 2).val; omega

theorem step_load_q (c : Dev nD) {α : Type} {a : ℕ} (ha : a < 16) {off : Fin 3 → ℕ} (ho : off = ![a, 0, 0])
    {inb : ∀ x, off x + (![1, 256, 64] : Fin 3 → ℕ) x ≤ S16x256x64.size x} {hl}
    {k : Vec F S1x256x64 .f32 → Prog (TpuEff nD τ sig (Elt F) Λ₀ .tc) α} {Q : α → sProp 𝕄} :
    (pQV c Finset.univ (QV I c) : sProp 𝕄) ⊢ iprop((pQV c Finset.univ (QV I c) -∗ WP c (k (rowQ (QV I c) a ha)) Q)
      -∗ WP c (.op (.load (Memref.whole cc0_scratch0) (Rect.unit (s := S16x256x64) off ![1, 256, 64] inb).toLoadRect hl) k) Q) := by
  subst ho
  rw [← rowQ_read (QV I c) ha inb]
  exact wp_load 𝒱₀ (c : Thread nD τ) none Set.univ (m := Memref.whole cc0_scratch0) (Finset.subset_univ _)

theorem step_load_k (c : Dev nD) {α : Type} {a : ℕ} (ha : a < 16) {off : Fin 3 → ℕ} (ho : off = ![a, 0, 0])
    {inb : ∀ x, off x + (![1, 64, 256] : Fin 3 → ℕ) x ≤ S16x64x256.size x} {hl}
    {k : Vec F S1x64x256 .f32 → Prog (TpuEff nD τ sig (Elt F) Λ₀ .tc) α} {Q : α → sProp 𝕄} :
    (pK .kv c Finset.univ fullShare (I.k c) : sProp 𝕄) ⊢ iprop((pK .kv c Finset.univ fullShare (I.k c) -∗ WP c (k (rowK (I.k c) a ha)) Q)
      -∗ WP c (.op (.load (Memref.whole cc0_scratch1) (Rect.unit (s := S16x64x256) off ![1, 64, 256] inb).toLoadRect hl) k) Q) := by
  subst ho
  rw [← rowK_read (I.k c) ha inb]
  exact wp_load 𝒱₀ (c : Thread nD τ) none Set.univ (m := Memref.whole cc0_scratch1) (Finset.subset_univ _)

theorem step_load_v (c : Dev nD) {α : Type} {a : ℕ} (ha : a < 16) {off : Fin 3 → ℕ} (ho : off = ![a, 0, 0])
    {inb : ∀ x, off x + (![1, 64, 256] : Fin 3 → ℕ) x ≤ S16x64x256.size x} {hl}
    {k : Vec F S1x64x256 .f32 → Prog (TpuEff nD τ sig (Elt F) Λ₀ .tc) α} {Q : α → sProp 𝕄} :
    (pK .vv c Finset.univ fullShare (I.v c) : sProp 𝕄) ⊢ iprop((pK .vv c Finset.univ fullShare (I.v c) -∗ WP c (k (rowK (I.v c) a ha)) Q)
      -∗ WP c (.op (.load (Memref.whole cc0_scratch2) (Rect.unit (s := S16x64x256) off ![1, 64, 256] inb).toLoadRect hl) k) Q) := by
  subst ho
  rw [← rowK_read (I.v c) ha inb]
  exact wp_load 𝒱₀ (c : Thread nD τ) none Set.univ (m := Memref.whole cc0_scratch2) (Finset.subset_univ _)

theorem step_load_rk (c : Dev nD) {α : Type} {a : ℕ} (ha : a < 16) {S : Finset S16x64x256.Idx} (hS : rows a 1 ⊆ S) {q : PosShare TreeShare}
    {off : Fin 3 → ℕ} (ho : off = ![a, 0, 0])
    {inb : ∀ x, off x + (![1, 64, 256] : Fin 3 → ℕ) x ≤ S16x64x256.size x} {hl}
    {k : Vec F S1x64x256 .f32 → Prog (TpuEff nD τ sig (Elt F) Λ₀ .tc) α} {Q : α → sProp 𝕄} :
    (pK .rk c S q (RK I c) : sProp 𝕄) ⊢ iprop((pK .rk c S q (RK I c) -∗ WP c (k (rowK (RK I c) a ha)) Q)
      -∗ WP c (.op (.load (Memref.whole cc0_scratch3) (Rect.unit (s := S16x64x256) off ![1, 64, 256] inb).toLoadRect hl) k) Q) := by
  subst ho
  rw [← rowK_read (RK I c) ha inb]
  refine wp_load 𝒱₀ (c : Thread nD τ) none Set.univ (m := Memref.whole cc0_scratch3) fun j hj => ?_
  obtain ⟨y, hy, rfl⟩ := Finset.mem_map.mp hj
  exact hS (set_unit_rows (n := 1) rfl inb ▸ hy)

theorem step_load_rv (c : Dev nD) {α : Type} {a : ℕ} (ha : a < 16) {S : Finset S16x64x256.Idx} (hS : rows a 1 ⊆ S) {q : PosShare TreeShare}
    {off : Fin 3 → ℕ} (ho : off = ![a, 0, 0])
    {inb : ∀ x, off x + (![1, 64, 256] : Fin 3 → ℕ) x ≤ S16x64x256.size x} {hl}
    {k : Vec F S1x64x256 .f32 → Prog (TpuEff nD τ sig (Elt F) Λ₀ .tc) α} {Q : α → sProp 𝕄} :
    (pK .rv c S q (RV I c) : sProp 𝕄) ⊢ iprop((pK .rv c S q (RV I c) -∗ WP c (k (rowK (RV I c) a ha)) Q)
      -∗ WP c (.op (.load (Memref.whole cc0_scratch4) (Rect.unit (s := S16x64x256) off ![1, 64, 256] inb).toLoadRect hl) k) Q) := by
  subst ho
  rw [← rowK_read (RV I c) ha inb]
  refine wp_load 𝒱₀ (c : Thread nD τ) none Set.univ (m := Memref.whole cc0_scratch4) fun j hj => ?_
  obtain ⟨y, hy, rfl⟩ := Finset.mem_map.mp hj
  exact hS (set_unit_rows (n := 1) rfl inb ▸ hy)

/-- A load of one slot of the result buffer: what it reads is not used. -/
theorem step_load_o (c : Dev nD) {α : Type} {a : ℕ} {off : Fin 3 → ℕ} (ho : off = ![a, 0, 0])
    {inb : ∀ x, off x + (![1, 256, 64] : Fin 3 → ℕ) x ≤ S16x256x64.size x} {hl} {f : QB F}
    {k : Vec F S1x256x64 .f32 → Prog (TpuEff nD τ sig (Elt F) Λ₀ .tc) α} {Q : α → sProp 𝕄} :
    (pOV c (qrow a) f : sProp 𝕄) ⊢ iprop((pOV c (qrow a) f -∗ ∀ w, WP c (k w) Q)
      -∗ WP c (.op (.load (Memref.whole cc0_scratch5) (Rect.unit (s := S16x256x64) off ![1, 256, 64] inb).toLoadRect hl) k) Q) := by
  subst ho
  iintro H Hk
  iapply (wp_load 𝒱₀ (c : Thread nD τ) none Set.univ (m := Memref.whole cc0_scratch5) (S := qrow a) (f := f) (fun j hj => by
    obtain ⟨y, hy, rfl⟩ := Finset.mem_map.mp hj
    exact (set_unit_qrow rfl inb) ▸ hy)) $$ H
  iintro H
  ispecialize Hk $$ H
  iapply Hk

/-- The store of one slot of the result buffer, of the slot's result. -/
theorem step_store_o (c : Dev nD) {α : Type} {a : ℕ} (ha : a < 16) {off : Fin 3 → ℕ} (ho : off = ![a, 0, 0])
    {inb : ∀ x, off x + (![1, 256, 64] : Fin 3 → ℕ) x ≤ S16x256x64.size x} {hx hm} {f : QB F} {w : Vec F S1x256x64 .f32} (hw : w = headAt I c a ha)
    {k : PUnit → Prog (TpuEff nD τ sig (Elt F) Λ₀ .tc) α} {Q : α → sProp 𝕄} :
    (pOV c (qrow a) f : sProp 𝕄) ⊢ iprop((pOV c (qrow a) (OV I c) -∗ WP c (k ⟨⟩) Q)
      -∗ WP c (.op (.store (Memref.whole cc0_scratch5) (Rect.unit (s := S16x256x64) off ![1, 256, 64] inb) w Finset.univ hx hm) k) Q) := by
  subst ho hw
  have e2 : ((Memref.whole cc0_scratch5).access (Rect.unit (s := S16x256x64) ![a, 0, 0] ![1, 256, 64] inb)).set = qrow a :=
    (View.set_slice_whole cc0_scratch5 _).trans (set_unit_qrow rfl inb)
  have e3 : (pOV c (qrow a) (((Memref.whole cc0_scratch5).access (Rect.unit (s := S16x256x64) ![a, 0, 0] ![1, 256, 64] inb)).write (Elt F) f (headAt I c a ha) Finset.univ) : sProp 𝕄)
      = pOV c (qrow a) (OV I c) := by
    refine pointsTo_congr fun y hy => ?_
    obtain ⟨j, rfl⟩ := mem_emb ((set_unit_qrow rfl inb).symm ▸ hy)
    refine ((View.write_emb_of_mem (v := (Memref.whole cc0_scratch5).access (Rect.unit (s := S16x256x64) ![a, 0, 0] ![1, 256, 64] inb)) f _ (Finset.mem_univ j)).trans rfl).trans ?_
    have j0 : (j 0).val < 1 := (j 0).isLt
    have key : ∀ (b : ℕ) (hb : b < 16), b = a → headAt I c a ha j = headAt I c b hb j := by
      intro b hb e; subst e; rfl
    refine (key _ ((Rect.unit (s := S16x256x64) ![a, 0, 0] ![1, 256, 64] inb).emb j 0).isLt (by show a + 1 * (j 0).val = a; omega)).trans ?_
    refine congrArg (headAt I c _ _) (funext fun x => Fin.ext ?_)
    match x with
    | ⟨0, _⟩ => show (j 0).val = 0; omega
    | ⟨1, _⟩ => show (j 1).val = 0 + 1 * (j 1).val; omega
    | ⟨2, _⟩ => show (j 2).val = 0 + 1 * (j 2).val; omega
  iintro H Hk
  iapply (wp_store 𝒱₀ (c : Thread nD τ) none Set.univ (m := Memref.whole cc0_scratch5) (r := Rect.unit (s := S16x256x64) ![a, 0, 0] ![1, 256, 64] inb) (S := qrow a) (f := f) (le_of_eq e2)) $$ H
  iintro H
  iapply Hk
  ihave H := (Entails.of_eq e3) $$ H
  iexact H

end Cert.KernelIdeal.Attn

end
-- ==== Proof.State.lean ====
/-
  What the kernel holds between its steps, by family: the query copies, the remote copies issued and received, the result
  slots; and the kernel's steps on those families.
-/
module

public import proofs.«01_k».proof.Proof.Moves

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : GSem nD τ sig → ℕ)

/-! ## Orders and slots -/

/-- The order in which the remote copies are issued. -/
def sList : List (Fin 18) := [0, 2, 1, 3, 16, 17, 4, 8, 6, 10, 5, 9, 7, 11, 12, 14, 13, 15]
def sOrd : Fin 18 → Fin 18 := ![0, 2, 1, 3, 16, 17, 4, 8, 6, 10, 5, 9, 7, 11, 12, 14, 13, 15]
/-- The order in which they are received. -/
def rOrd : Fin 18 → Fin 18 := ![0, 2, 1, 3, 8, 6, 9, 7, 4, 5, 10, 11, 16, 17, 12, 14, 13, 15]

theorem sList_drop : ∀ n : Fin 18, sList.drop n.val = sOrd n :: sList.drop (n.val + 1) := by decide +kernel

/-- The four quarters in the order in which a device computes them. -/
def J (c : Dev nD) : Fin 4 → Fin 4 := ![jm c, jy c, jz c, jd c]
/-- The slot of place `p` in that order. -/
def sl (p : Fin 16) (c : Dev nD) : ℕ := 4 * (J c ⟨p.val / 4, by omega⟩).val + p.val % 4
theorem sl_lt (p : Fin 16) (c : Dev nD) : sl p c < 16 := by unfold sl; omega

/-- The queries, the local keys and values, the remote keys and values of the slot of place `p`. -/
def qA (c : Dev nD) (p : Fin 16) : Vec F S1x256x64 .f32 := rowQ (QV I c) (sl p c) (sl_lt p c)
def kA (c : Dev nD) (p : Fin 16) : Vec F S1x64x256 .f32 := rowK (I.k c) (sl p c) (sl_lt p c)
def vA (c : Dev nD) (p : Fin 16) : Vec F S1x64x256 .f32 := rowK (I.v c) (sl p c) (sl_lt p c)
def rkA (c : Dev nD) (p : Fin 16) : Vec F S1x64x256 .f32 := rowK (RK I c) (sl p c) (sl_lt p c)
def rvA (c : Dev nD) (p : Fin 16) : Vec F S1x64x256 .f32 := rowK (RV I c) (sl p c) (sl_lt p c)

/-! ## The families -/

/-- The first `n` query copies under way. -/
def qGo (c : Dev nD) (n : ℕ) : sProp 𝕄 :=
  prog (fun i : Fin 16 => pend (F := F) (sQ i) c) (fun i => iprop(tok (sQ i) c ∗ pQ c (col i.val) (I.q c) ∗ ∃ f, pQV c (qrow i.val) f)) n
/-- The first `n` query copies done. -/
def qIn (c : Dev nD) (n : ℕ) : sProp 𝕄 :=
  prog (fun i : Fin 16 => iprop(semVal (dCell (sQ i) c) 0 ∗ dpay I (sQ i) c)) (fun i => pend (sQ i) c) n
/-- The first `n` remote copies issued. -/
def sent (c : Dev nD) (n : ℕ) : sProp 𝕄 :=
  prog (fun n : Fin 18 => pend (F := F) (sS (sOrd n)) c) (fun n => iprop(sTok (sOrd n) c ∗ landP (sOrd n) (peer (sOrd n) c))) n
/-- What is owed once the first `n` are issued. -/
def owing (c : Dev nD) (n : ℕ) : sProp 𝕄 := owesE (F := F) c (owe c (sList.drop n))

/-- The share of a landed half that stays for the loads. -/
def kShare (k : Fin 18) : PosShare TreeShare := if k.val < 4 ∨ (6 ≤ k.val ∧ k.val < 10) then fullShare.right else fullShare
/-- What stays of landed half `k` once its relays have their share. -/
def keepP (k : Fin 18) (c : Dev nD) : sProp 𝕄 :=
  iprop(pK (dstBuf k) c (rows (lo k c) (rl k)) (kShare k) (cont I c (dstBuf k))
    ∗ if k = 6 ∨ k = 8 then pK (dstBuf k) c (rows (lo k c) 1) fullShare.left (cont I c (dstBuf k)) else iprop(emp))
/-- The first `n` remote copies received. -/
def rcvd (c : Dev nD) (n : ℕ) : sProp 𝕄 :=
  prog (fun n : Fin 18 => iprop(semVal (dCell (sR (rOrd n)) c) 0 ∗ keepP I (rOrd n) c)) (fun n => pend (sR (rOrd n)) c) n

/-- A result slot before its result is stored, after, and under way to the result array. -/
def raw (a : ℕ) (ha : a < 16) (c : Dev nD) : sProp 𝕄 := iprop(tok (sO ⟨a, ha⟩) c ∗ (∃ f, pOV (F := F) c (qrow a) f) ∗ ∃ f, pO (F := F) c (col a) f)
def made (a : ℕ) (ha : a < 16) (c : Dev nD) : sProp 𝕄 := iprop(tok (sO ⟨a, ha⟩) c ∗ pOV c (qrow a) (OV I c) ∗ ∃ f, pO (F := F) c (col a) f)
/-- Quarter `q`, of whose slots the first `n` are made. -/
def quarter (c : Dev nD) (q : Fin 4) (n : ℕ) : sProp 𝕄 :=
  prog (fun t : Fin 4 => made I (4 * (J c q).val + t.val) (by omega) c) (fun t => raw (4 * (J c q).val + t.val) (by omega) c) n
/-- The quarter of value `j`, under way. -/
def going (c : Dev nD) (j : Fin 4) : sProp 𝕄 := bigSep Finset.univ fun t : Fin 4 => pend (F := F) (sO ⟨4 * j.val + t.val, by omega⟩) c

/-- The queries and the local keys and values, loaded. -/
def ins (c : Dev nD) : sProp 𝕄 :=
  iprop(pQV c Finset.univ (QV I c) ∗ pK .kv c Finset.univ fullShare (I.k c) ∗ pK .vv c Finset.univ fullShare (I.v c))

/-- The first `n` remote copies waited for at the sender. -/
def back (c : Dev nD) (n : ℕ) : sProp 𝕄 :=
  prog (fun k : Fin 18 => iprop(semVal (dCell (sS k) c) 0 ∗ srcP I k c)) (fun k => pend (sS k) c) n
/-- The first `n` result slots written back. -/
def outs (c : Dev nD) (n : ℕ) : sProp 𝕄 :=
  prog (fun i : Fin 16 => iprop(semVal (dCell (sO i) c) 0 ∗ dpay I (sO i) c)) (fun i => pend (sO i) c) n

theorem prog_next {N : ℕ} {A B : Fin N → sProp 𝕄} (n : ℕ) (hn : n < N) : prog A B n ⊢ iprop(B ⟨n, hn⟩ ∗ (A ⟨n, hn⟩ -∗ prog A B (n + 1))) :=
  prog_step A B ⟨n, hn⟩
theorem prog_peek {N : ℕ} {A B : Fin N → sProp 𝕄} (n m : ℕ) (hm : m < N) (h : m < n) :
    prog A B n ⊢ iprop(A ⟨m, hm⟩ ∗ (A ⟨m, hm⟩ -∗ prog A B n)) := by
  unfold prog
  rw [bigSep_univ_split ⟨m, hm⟩, if_pos h]
  show iprop(A _ ∗ bigSep _ _) ⊢ iprop(A _ ∗ (A _ -∗ (A _ ∗ bigSep _ _)))
  iintro ⟨HA, Hr⟩
  isplitl [HA]; · iexact HA
  iintro HA
  isplitl [HA]; · iexact HA
  iexact Hr

/-! ## The local copies in -/

theorem go_q (n' : ℕ) (hn' : n' < 16) (i : Fin 16) (hi' : i = ⟨n', hn'⟩) (c : Dev nD) {α : Type} {b h : ℕ} (hi : i.val = 8 * b + h) (hh : h < 8)
    {off : Fin 4 → ℕ} {off' : Fin 3 → ℕ} (ho : off = ![b, 0, h, 0]) (ho' : off' = ![i.val, 0, 0])
    {inb : ∀ x, off x + (![1, 256, 1, 64] : Fin 4 → ℕ) x ≤ S2x256x8x64.size x}
    {inb' : ∀ x, off' x + (![1, 256, 64] : Fin 3 → ℕ) x ≤ S16x256x64.size x} {s1 s2 z1 z2}
    {x : DmaSem sig} (hx : x = sQ i) {hsrc hdst hsem}
    {k : PUnit → Prog (TpuEff nD τ sig (Elt F) Λ₀ .tc) α} {Q : α → sProp 𝕄} :
    Env I K c ⊢ iprop(qGo I c n' -∗ (qGo I c (n' + 1) -∗ WP c (k ⟨⟩) Q)
      -∗ WP c (.op (.enqueueDma (((Memref.whole main_arg0).slice (Rect.unit (s := S2x256x8x64) off ![1, 256, 1, 64] inb) s1).squeeze S256x64 z1)
          (.here (((Memref.whole cc0_scratch0).slice (Rect.unit (s := S16x256x64) off' ![1, 256, 64] inb') s2).squeeze S256x64 z2))
          (.dma x) hsrc hdst hsem) k) Q) := by
  subst hi'
  iintro #HE H Hk
  unfold qGo
  ihave H := (prog_next n' hn') $$ H
  icases H with ⟨⟨Ht, Hq, Hf⟩, Hc⟩
  iapply (step_copy_q I K ⟨n', hn'⟩ c hi hh ho ho' hx) $$ HE Ht Hq Hf
  iintro Hp
  iapply Hk
  iapply Hc
  iexact Hp

theorem mayWait_dma (c : Dev nD) (s : Fin 70) (n : ℕ) (h : ∀ k ∈ sList.drop n, lvD s < lvR k) :
    (levAts L lv : sProp 𝕄) ⊢ MayWait (c : Thread nD τ) (.dma s) () (owe c (sList.drop n)) := mayWait_owe c _ _ h

theorem in_q (n' : ℕ) (hn' : n' < 16) (i : Fin 16) (hi' : i = ⟨n', hn'⟩) (c : Dev nD) {α : Type} {sp sp' : Space} {sh sh' : Shape} {e e' : EltTy} {x : DmaSem sig} (hx : x = sQ i) (n : ℕ)
    (h : ∀ k ∈ sList.drop n, lvD (sQ i) < lvR k)
    {src : Memref sig .tc sp' sh' e'} {dst : Memref sig .tc sp sh e} {hsrc : src.view.WordExact} {hdst : dst.view.WordExact}
    (hN : dst.view.dmaCredit = nQ)
    {k : PUnit → Prog (TpuEff nD τ sig (Elt F) Λ₀ .tc) α} {Q : α → sProp 𝕄} :
    Env I K c ⊢ iprop(owing c n -∗ qIn I c n' -∗ ((owing c n ∗ qIn I c (n' + 1)) -∗ WP c (k ⟨⟩) Q)
      -∗ WP c (.op (.waitDma2 x src dst hsrc hdst) k) Q) := by
  subst hi'
  iintro #HE HO H Hk
  unfold qIn owing
  ihave H := (prog_next n' hn') $$ H
  icases H with ⟨Hp, Hc⟩
  iapply (step_wait I K (sQ ⟨n', hn'⟩) c hx (hN.trans (amt_q ⟨n', hn'⟩).symm) (mayWait_dma c (sQ ⟨n', hn'⟩) n h)) $$ HE Hp HO
  iintro ⟨Hs, HO, Hd⟩
  iapply Hk
  isplitl [HO]; · iexact HO
  iapply Hc
  isplitl [Hs]; · iexact Hs
  iexact Hd

/-! ## The remote copies -/

theorem owe_next (c : Dev nD) (n : ℕ) (hn : n < 18) : (owing c n : sProp 𝕄) = owesE c (owe c (sOrd ⟨n, hn⟩ :: sList.drop (n + 1))) := by
  unfold owing; rw [← sList_drop ⟨n, hn⟩]

/-- Remote copy number `n` in the order of issue, of keys of its own. -/
theorem send_hk (n : ℕ) (hn : n < 18) (k : Fin 18) (hk : k = sOrd ⟨n, hn⟩) (c c' : Dev nD) (hc : c' = peer k c) (hb : srcBuf k = .hk ∧ dstBuf k = .rk) {α : Type}
    {off off' : Fin 3 → ℕ} (ho : off = ![lo k (peer k c), 0, 0]) (ho' : off' = ![lo k (peer k c), 0, 0])
    {inb : ∀ a, off a + (![rl k, 64, 256] : Fin 3 → ℕ) a ≤ S16x64x256.size a}
    {inb' : ∀ a, off' a + (![rl k, 64, 256] : Fin 3 → ℕ) a ≤ S16x64x256.size a} {h h'} {hsc}
    {x y : DmaSem sig} (hx : x = sS k) (hy : y = sR k) {hsrc hdst hsem}
    {kk : PUnit → Prog (TpuEff nD τ sig (Elt F) Λ₀ .tc) α} {Q : α → sProp 𝕄} :
    Env I K c ⊢ iprop(owing c n -∗ sent c n -∗ srcP I k c -∗ ((owing c (n + 1) ∗ sent c (n + 1)) -∗ WP c (kk ⟨⟩) Q)
      -∗ WP c (.op (.enqueueDma ((Memref.whole main_v2).slice (Rect.unit (s := S16x64x256) off ![rl k, 64, 256] inb) h)
          (.remote (Dev.tc c' : Thread nD τ) ((Memref.whole cc0_scratch3).slice (Rect.unit (s := S16x64x256) off' ![rl k, 64, 256] inb') h') (.dma x) hsc)
          (.dma y) hsrc hdst hsem) kk) Q) := by
  iintro #HE HO H Hs Hk
  ihave HO := (Entails.of_eq (owe_next c n hn)) $$ HO
  unfold sent
  ihave H := (prog_next n hn) $$ H
  subst hk
  icases H with ⟨⟨Ht, Hl⟩, Hc⟩
  iapply (step_send_hk I K (sOrd ⟨n, hn⟩) c c' hc hb ho ho' hx hy (sList.drop (n + 1))) $$ HE Ht Hl Hs HO
  iintro ⟨Hp, HO⟩
  iapply Hk
  isplitl [HO]; · unfold owing; iexact HO
  iapply Hc
  iexact Hp

/-- Remote copy number `n` in the order of issue, of values of its own. -/
theorem send_hv (n : ℕ) (hn : n < 18) (k : Fin 18) (hk : k = sOrd ⟨n, hn⟩) (c c' : Dev nD) (hc : c' = peer k c) (hb : srcBuf k = .hv ∧ dstBuf k = .rv) {α : Type}
    {off off' : Fin 3 → ℕ} (ho : off = ![lo k (peer k c), 0, 0]) (ho' : off' = ![lo k (peer k c), 0, 0])
    {inb : ∀ a, off a + (![rl k, 64, 256] : Fin 3 → ℕ) a ≤ S16x64x256.size a}
    {inb' : ∀ a, off' a + (![rl k, 64, 256] : Fin 3 → ℕ) a ≤ S16x64x256.size a} {h h'} {hsc}
    {x y : DmaSem sig} (hx : x = sS k) (hy : y = sR k) {hsrc hdst hsem}
    {kk : PUnit → Prog (TpuEff nD τ sig (Elt F) Λ₀ .tc) α} {Q : α → sProp 𝕄} :
    Env I K c ⊢ iprop(owing c n -∗ sent c n -∗ srcP I k c -∗ ((owing c (n + 1) ∗ sent c (n + 1)) -∗ WP c (kk ⟨⟩) Q)
      -∗ WP c (.op (.enqueueDma ((Memref.whole main_v4).slice (Rect.unit (s := S16x64x256) off ![rl k, 64, 256] inb) h)
          (.remote (Dev.tc c' : Thread nD τ) ((Memref.whole cc0_scratch4).slice (Rect.unit (s := S16x64x256) off' ![rl k, 64, 256] inb') h') (.dma x) hsc)
          (.dma y) hsrc hdst hsem) kk) Q) := by
  iintro #HE HO H Hs Hk
  ihave HO := (Entails.of_eq (owe_next c n hn)) $$ HO
  unfold sent
  ihave H := (prog_next n hn) $$ H
  subst hk
  icases H with ⟨⟨Ht, Hl⟩, Hc⟩
  iapply (step_send_hv I K (sOrd ⟨n, hn⟩) c c' hc hb ho ho' hx hy (sList.drop (n + 1))) $$ HE Ht Hl Hs HO
  iintro ⟨Hp, HO⟩
  iapply Hk
  isplitl [HO]; · unfold owing; iexact HO
  iapply Hc
  iexact Hp

/-- Remote copy number `n` in the order of issue, of landed keys. -/
theorem send_rk (n : ℕ) (hn : n < 18) (k : Fin 18) (hk : k = sOrd ⟨n, hn⟩) (c c' : Dev nD) (hc : c' = peer k c) (hb : srcBuf k = .rk ∧ dstBuf k = .rk) {α : Type}
    {off off' : Fin 3 → ℕ} (ho : off = ![lo k (peer k c), 0, 0]) (ho' : off' = ![lo k (peer k c), 0, 0])
    {inb : ∀ a, off a + (![rl k, 64, 256] : Fin 3 → ℕ) a ≤ S16x64x256.size a}
    {inb' : ∀ a, off' a + (![rl k, 64, 256] : Fin 3 → ℕ) a ≤ S16x64x256.size a} {h h'} {hsc}
    {x y : DmaSem sig} (hx : x = sS k) (hy : y = sR k) {hsrc hdst hsem}
    {kk : PUnit → Prog (TpuEff nD τ sig (Elt F) Λ₀ .tc) α} {Q : α → sProp 𝕄} :
    Env I K c ⊢ iprop(owing c n -∗ sent c n -∗ srcP I k c -∗ ((owing c (n + 1) ∗ sent c (n + 1)) -∗ WP c (kk ⟨⟩) Q)
      -∗ WP c (.op (.enqueueDma ((Memref.whole cc0_scratch3).slice (Rect.unit (s := S16x64x256) off ![rl k, 64, 256] inb) h)
          (.remote (Dev.tc c' : Thread nD τ) ((Memref.whole cc0_scratch3).slice (Rect.unit (s := S16x64x256) off' ![rl k, 64, 256] inb') h') (.dma x) hsc)
          (.dma y) hsrc hdst hsem) kk) Q) := by
  iintro #HE HO H Hs Hk
  ihave HO := (Entails.of_eq (owe_next c n hn)) $$ HO
  unfold sent
  ihave H := (prog_next n hn) $$ H
  subst hk
  icases H with ⟨⟨Ht, Hl⟩, Hc⟩
  iapply (step_send_rk I K (sOrd ⟨n, hn⟩) c c' hc hb ho ho' hx hy (sList.drop (n + 1))) $$ HE Ht Hl Hs HO
  iintro ⟨Hp, HO⟩
  iapply Hk
  isplitl [HO]; · unfold owing; iexact HO
  iapply Hc
  iexact Hp

/-- Remote copy number `n` in the order of issue, of landed values. -/
theorem send_rv (n : ℕ) (hn : n < 18) (k : Fin 18) (hk : k = sOrd ⟨n, hn⟩) (c c' : Dev nD) (hc : c' = peer k c) (hb : srcBuf k = .rv ∧ dstBuf k = .rv) {α : Type}
    {off off' : Fin 3 → ℕ} (ho : off = ![lo k (peer k c), 0, 0]) (ho' : off' = ![lo k (peer k c), 0, 0])
    {inb : ∀ a, off a + (![rl k, 64, 256] : Fin 3 → ℕ) a ≤ S16x64x256.size a}
    {inb' : ∀ a, off' a + (![rl k, 64, 256] : Fin 3 → ℕ) a ≤ S16x64x256.size a} {h h'} {hsc}
    {x y : DmaSem sig} (hx : x = sS k) (hy : y = sR k) {hsrc hdst hsem}
    {kk : PUnit → Prog (TpuEff nD τ sig (Elt F) Λ₀ .tc) α} {Q : α → sProp 𝕄} :
    Env I K c ⊢ iprop(owing c n -∗ sent c n -∗ srcP I k c -∗ ((owing c (n + 1) ∗ sent c (n + 1)) -∗ WP c (kk ⟨⟩) Q)
      -∗ WP c (.op (.enqueueDma ((Memref.whole cc0_scratch4).slice (Rect.unit (s := S16x64x256) off ![rl k, 64, 256] inb) h)
          (.remote (Dev.tc c' : Thread nD τ) ((Memref.whole cc0_scratch4).slice (Rect.unit (s := S16x64x256) off' ![rl k, 64, 256] inb') h') (.dma x) hsc)
          (.dma y) hsrc hdst hsem) kk) Q) := by
  iintro #HE HO H Hs Hk
  ihave HO := (Entails.of_eq (owe_next c n hn)) $$ HO
  unfold sent
  ihave H := (prog_next n hn) $$ H
  subst hk
  icases H with ⟨⟨Ht, Hl⟩, Hc⟩
  iapply (step_send_rv I K (sOrd ⟨n, hn⟩) c c' hc hb ho ho' hx hy (sList.drop (n + 1))) $$ HE Ht Hl Hs HO
  iintro ⟨Hp, HO⟩
  iapply Hk
  isplitl [HO]; · unfold owing; iexact HO
  iapply Hc
  iexact Hp

/-- The receipt of a remote copy, number `n` in the order of receipt; `X` is what of it goes on to relays. -/
theorem recv (n : ℕ) (hn : n < 18) (k : Fin 18) (hk : k = rOrd ⟨n, hn⟩) (c : Dev nD) {X : sProp 𝕄} (hX : dstP I k c ⊢ iprop(keepP I k c ∗ X)) (m : ℕ)
    (h : ∀ k' ∈ sList.drop m, lvD (sR k) < lvR k') {α : Type} {sp sp' : Space} {sh sh' : Shape} {e e' : EltTy} {x : DmaSem sig} (hx : x = sR k)
    {src : Memref sig .tc sp' sh' e'} {dst : Memref sig .tc sp sh e} {hsrc : src.view.WordExact} {hdst : dst.view.WordExact}
    (hN : dst.view.dmaCredit = nK k)
    {kk : PUnit → Prog (TpuEff nD τ sig (Elt F) Λ₀ .tc) α} {Q : α → sProp 𝕄} :
    Env I K c ⊢ iprop(owing c m -∗ rcvd I c n -∗ ((owing c m ∗ rcvd I c (n + 1) ∗ X) -∗ WP c (kk ⟨⟩) Q)
      -∗ WP c (.op (.waitDma2 x src dst hsrc hdst) kk) Q) := by
  iintro #HE HO H Hk
  unfold rcvd owing
  ihave H := (prog_next n hn) $$ H
  subst hk
  icases H with ⟨Hp, Hc⟩
  iapply (step_wait I K (sR (rOrd ⟨n, hn⟩)) c hx (hN.trans (amt_r _).symm) (mayWait_dma c (sR (rOrd ⟨n, hn⟩)) m h)) $$ HE Hp HO
  iintro ⟨Hs, HO, Hd⟩
  ihave Hd := ((Entails.of_eq (dpay_r I (rOrd ⟨n, hn⟩) c)).trans hX) $$ Hd
  icases Hd with ⟨Hd, HX⟩
  iapply Hk
  isplitl [HO]; · iexact HO
  isplitr [HX]
  · iapply Hc
    isplitl [Hs]; · iexact Hs
    iexact Hd
  iexact HX

/-- The wait for remote copy `k` at its sender. -/
theorem sent_back (n' : ℕ) (hn' : n' < 18) (k : Fin 18) (hk' : k = ⟨n', hn'⟩) (c : Dev nD) {α : Type} {sp sp' : Space} {sh sh' : Shape} {e e' : EltTy} {x : DmaSem sig} (hx : x = sS k)
    {src : Memref sig .tc sp' sh' e'} {dst : Memref sig .tc sp sh e} {hsrc : src.view.WordExact} {hdst : dst.view.WordExact}
    (hN : dst.view.dmaCredit = nK k)
    {kk : PUnit → Prog (TpuEff nD τ sig (Elt F) Λ₀ .tc) α} {Q : α → sProp 𝕄} :
    Env I K c ⊢ iprop(owing c 18 -∗ back I c n' -∗ ((owing c 18 ∗ back I c (n' + 1)) -∗ WP c (kk ⟨⟩) Q)
      -∗ WP c (.op (.waitDma2 x src dst hsrc hdst) kk) Q) := by
  subst hk'
  iintro #HE HO H Hk
  unfold back owing
  ihave H := (prog_next n' hn') $$ H
  icases H with ⟨Hp, Hc⟩
  iapply (step_wait I K (sS ⟨n', hn'⟩) c hx (hN.trans (amt_s _).symm) (mayWait_dma c (sS ⟨n', hn'⟩) 18 (fun _ h => by cases h))) $$ HE Hp HO
  iintro ⟨Hs, HO, Hd⟩
  ihave Hd := (Entails.of_eq (dpay_s I ⟨n', hn'⟩ c)) $$ Hd
  iapply Hk
  isplitl [HO]; · iexact HO
  iapply Hc
  isplitl [Hs]; · iexact Hs
  iexact Hd

/-- The wait for the write-back of result slot `i`. -/
theorem out_o (n' : ℕ) (hn' : n' < 16) (i : Fin 16) (hi' : i = ⟨n', hn'⟩) (c : Dev nD) {α : Type} {sp sp' : Space} {sh sh' : Shape} {e e' : EltTy} {x : DmaSem sig} (hx : x = sO i)
    {src : Memref sig .tc sp' sh' e'} {dst : Memref sig .tc sp sh e} {hsrc : src.view.WordExact} {hdst : dst.view.WordExact}
    (hN : dst.view.dmaCredit = nQ)
    {kk : PUnit → Prog (TpuEff nD τ sig (Elt F) Λ₀ .tc) α} {Q : α → sProp 𝕄} :
    Env I K c ⊢ iprop(owing c 18 -∗ outs I c n' -∗ ((owing c 18 ∗ outs I c (n' + 1)) -∗ WP c (kk ⟨⟩) Q)
      -∗ WP c (.op (.waitDma2 x src dst hsrc hdst) kk) Q) := by
  subst hi'
  iintro #HE HO H Hk
  unfold outs owing
  ihave H := (prog_next n' hn') $$ H
  icases H with ⟨Hp, Hc⟩
  iapply (step_wait I K (sO ⟨n', hn'⟩) c hx (hN.trans (amt_o _).symm) (mayWait_dma c (sO ⟨n', hn'⟩) 18 (fun _ h => by cases h))) $$ HE Hp HO
  iintro ⟨Hs, HO, Hd⟩
  iapply Hk
  isplitl [HO]; · iexact HO
  iapply Hc
  isplitl [Hs]; · iexact Hs
  iexact Hd

/-! ## The landed halves' shares -/

theorem keep_full {k : Fin 18} (c : Dev nD) (h : kShare k = fullShare ∧ ¬ (k = 6 ∨ k = 8)) : dstP I k c ⊣⊢ iprop(keepP I k c ∗ emp) := by
  unfold dstP keepP
  rw [h.1, if_neg h.2]
  constructor
  · iintro H
    isplitl [H]
    · isplitl [H]; · iexact H
      iempintro
    iempintro
  · iintro ⟨⟨H, -⟩, -⟩; iexact H

/-- A landed half both of whose neighbours get a relay of it. -/
theorem keep_two {k a b : Fin 18} (c : Dev nD) (h : kShare k = fullShare.right ∧ ¬ (k = 6 ∨ k = 8) ∧ srcBuf a = dstBuf k ∧ srcBuf b = dstBuf k
      ∧ srcShare a = fullShare.left.left ∧ srcShare b = fullShare.left.right ∧ rl a = rl k ∧ rl b = rl k)
    (h' : lo a (peer a c) = lo k c ∧ lo b (peer b c) = lo k c) : dstP I k c ⊣⊢ iprop(keepP I k c ∗ (srcP I a c ∗ srcP I b c)) := by
  obtain ⟨h1, h2, h3, h4, h5, h6, h7, h8⟩ := h
  unfold dstP keepP srcP
  rw [h1, if_neg h2, h3, h4, h5, h6, h7, h8, h'.1, h'.2]
  have e := pK_share (dstBuf k) c (rows (lo k c) (rl k)) (cont I c (dstBuf k)) (PosShare.mem_left_op_right fullShare)
  have e' := pK_share (dstBuf k) c (rows (lo k c) (rl k)) (cont I c (dstBuf k)) (PosShare.mem_left_op_right fullShare.left)
  constructor
  · iintro H
    ihave H := e.1 $$ H
    icases H with ⟨Hl, Hr⟩
    ihave Hl := e'.1 $$ Hl
    icases Hl with ⟨Ha, Hb⟩
    isplitl [Hr]
    · isplitl [Hr]; · iexact Hr
      iempintro
    isplitl [Ha]; · iexact Ha
    iexact Hb
  · iintro ⟨⟨Hr, -⟩, Ha, Hb⟩
    iapply e.2
    isplitl [Ha Hb]
    · iapply e'.2
      isplitl [Ha]; · iexact Ha
      iexact Hb
    iexact Hr

/-- A landed half that goes on whole to one relay. -/
theorem keep_one {k a : Fin 18} (c : Dev nD) (h : kShare k = fullShare.right ∧ ¬ (k = 6 ∨ k = 8) ∧ srcBuf a = dstBuf k
      ∧ srcShare a = fullShare.left ∧ rl a = rl k) (h' : lo a (peer a c) = lo k c) : dstP I k c ⊣⊢ iprop(keepP I k c ∗ srcP I a c) := by
  obtain ⟨h1, h2, h3, h4, h5⟩ := h
  unfold dstP keepP srcP
  rw [h1, if_neg h2, h3, h4, h5, h']
  have e := pK_share (dstBuf k) c (rows (lo k c) (rl k)) (cont I c (dstBuf k)) (PosShare.mem_left_op_right fullShare)
  constructor
  · iintro H
    ihave H := e.1 $$ H
    icases H with ⟨Hl, Hr⟩
    isplitl [Hr]
    · isplitl [Hr]; · iexact Hr
      iempintro
    iexact Hl
  · iintro ⟨⟨Hr, -⟩, Ha⟩
    iapply e.2
    isplitl [Ha]; · iexact Ha
    iexact Hr

/-- A landed half whose second slot goes on to a relay. -/
theorem keep_half {k a : Fin 18} (c : Dev nD) (h : kShare k = fullShare.right ∧ (k = 6 ∨ k = 8) ∧ srcBuf a = dstBuf k
      ∧ srcShare a = fullShare.left ∧ rl a = 1 ∧ rl k = 2) (h' : lo a (peer a c) = lo k c + 1) : dstP I k c ⊣⊢ iprop(keepP I k c ∗ srcP I a c) := by
  obtain ⟨h1, h2, h3, h4, h5, h6⟩ := h
  unfold dstP keepP srcP
  rw [h1, if_pos h2, h3, h4, h5, h6, h']
  have e := pK_share (dstBuf k) c (rows (lo k c) 2) (cont I c (dstBuf k)) (PosShare.mem_left_op_right fullShare)
  have hs : rows (lo k c) 2 = rows (lo k c) 1 ∪ rows (lo k c + 1) 1 := by
    ext i; rw [Finset.mem_union, mem_rows, mem_rows, mem_rows]; omega
  have e' := pK_union (dstBuf k) c (S := rows (lo k c) 1) (T := rows (lo k c + 1) 1) fullShare.left (cont I c (dstBuf k)) (by
    rw [Finset.disjoint_left]; intro i h h'; rw [mem_rows] at h h'; omega)
  rw [← hs] at e'
  constructor
  · iintro H
    ihave H := e.1 $$ H
    icases H with ⟨Hl, Hr⟩
    ihave Hl := e'.1 $$ Hl
    icases Hl with ⟨Ha, Hb⟩
    isplitl [Hr Ha]
    · isplitl [Hr]; · iexact Hr
      iexact Ha
    iexact Hb
  · iintro ⟨⟨Hr, Ha⟩, Hb⟩
    iapply e.2
    isplitl [Ha Hb]
    · iapply e'.2
      isplitl [Ha]; · iexact Ha
      iexact Hb
    iexact Hr

/-! ## Loads and stores -/

theorem ld_q (p : Fin 16) (c : Dev nD) {α : Type} {off : Fin 3 → ℕ} (ho : off = ![sl p c, 0, 0])
    {inb : ∀ x, off x + (![1, 256, 64] : Fin 3 → ℕ) x ≤ S16x256x64.size x} {hl}
    {k : Vec F S1x256x64 .f32 → Prog (TpuEff nD τ sig (Elt F) Λ₀ .tc) α} {Q : α → sProp 𝕄} :
    ins I c ⊢ iprop((ins I c -∗ WP c (k (qA I c p)) Q)
      -∗ WP c (.op (.load (Memref.whole cc0_scratch0) (Rect.unit (s := S16x256x64) off ![1, 256, 64] inb).toLoadRect hl) k) Q) := by
  unfold ins
  iintro ⟨Hq, Hkv⟩ Hk
  iapply (step_load_q I c (sl_lt p c) ho) $$ Hq
  iintro Hq
  iapply Hk
  isplitl [Hq]; · iexact Hq
  iexact Hkv

theorem ld_k (p : Fin 16) (c : Dev nD) {α : Type} {off : Fin 3 → ℕ} (ho : off = ![sl p c, 0, 0])
    {inb : ∀ x, off x + (![1, 64, 256] : Fin 3 → ℕ) x ≤ S16x64x256.size x} {hl}
    {k : Vec F S1x64x256 .f32 → Prog (TpuEff nD τ sig (Elt F) Λ₀ .tc) α} {Q : α → sProp 𝕄} :
    ins I c ⊢ iprop((ins I c -∗ WP c (k (kA I c p)) Q)
      -∗ WP c (.op (.load (Memref.whole cc0_scratch1) (Rect.unit (s := S16x64x256) off ![1, 64, 256] inb).toLoadRect hl) k) Q) := by
  unfold ins
  iintro ⟨Hq, Hkk, Hv⟩ Hk
  iapply (step_load_k I c (sl_lt p c) ho) $$ Hkk
  iintro Hkk
  iapply Hk
  isplitl [Hq]; · iexact Hq
  isplitl [Hkk]; · iexact Hkk
  iexact Hv

theorem ld_v (p : Fin 16) (c : Dev nD) {α : Type} {off : Fin 3 → ℕ} (ho : off = ![sl p c, 0, 0])
    {inb : ∀ x, off x + (![1, 64, 256] : Fin 3 → ℕ) x ≤ S16x64x256.size x} {hl}
    {k : Vec F S1x64x256 .f32 → Prog (TpuEff nD τ sig (Elt F) Λ₀ .tc) α} {Q : α → sProp 𝕄} :
    ins I c ⊢ iprop((ins I c -∗ WP c (k (vA I c p)) Q)
      -∗ WP c (.op (.load (Memref.whole cc0_scratch2) (Rect.unit (s := S16x64x256) off ![1, 64, 256] inb).toLoadRect hl) k) Q) := by
  unfold ins
  iintro ⟨Hq, Hkk, Hv⟩ Hk
  iapply (step_load_v I c (sl_lt p c) ho) $$ Hv
  iintro Hv
  iapply Hk
  isplitl [Hq]; · iexact Hq
  isplitl [Hkk]; · iexact Hkk
  iexact Hv

theorem rows_sub {a b n : ℕ} (h : b ≤ a ∧ a + 1 ≤ b + n) : rows a 1 ⊆ rows b n := fun i hi => by
  rw [mem_rows] at *; omega

/-- A load of a landed slot, of the copy received as number `m`. -/
theorem ld_rk (p : Fin 16) (n m : ℕ) (hm : m < 18) (hmn : m < n) (k : Fin 18) (hk : k = rOrd ⟨m, hm⟩) (hb : dstBuf k = .rk) (c : Dev nD)
    (hr : lo k c ≤ sl p c ∧ sl p c + 1 ≤ lo k c + rl k) {α : Type} {off : Fin 3 → ℕ} (ho : off = ![sl p c, 0, 0])
    {inb : ∀ x, off x + (![1, 64, 256] : Fin 3 → ℕ) x ≤ S16x64x256.size x} {hl}
    {kk : Vec F S1x64x256 .f32 → Prog (TpuEff nD τ sig (Elt F) Λ₀ .tc) α} {Q : α → sProp 𝕄} :
    rcvd I c n ⊢ iprop((rcvd I c n -∗ WP c (kk (rkA I c p)) Q)
      -∗ WP c (.op (.load (Memref.whole cc0_scratch3) (Rect.unit (s := S16x64x256) off ![1, 64, 256] inb).toLoadRect hl) kk) Q) := by
  subst hk
  unfold rcvd
  iintro H Hk
  ihave H := (prog_peek n m hm hmn) $$ H
  icases H with ⟨⟨Hs, Hp⟩, Hc⟩
  unfold keepP
  icases Hp with ⟨Hp, Hx⟩
  have e : ∀ q, (pK (dstBuf (rOrd ⟨m, hm⟩)) c (rows (lo (rOrd ⟨m, hm⟩) c) (rl (rOrd ⟨m, hm⟩))) q (cont I c (dstBuf (rOrd ⟨m, hm⟩))) : sProp 𝕄)
      = pK .rk c (rows (lo (rOrd ⟨m, hm⟩) c) (rl (rOrd ⟨m, hm⟩))) q (RK I c) := fun q => by rw [hb]; rfl
  ihave Hp := (Entails.of_eq (e _)) $$ Hp
  iapply (step_load_rk I c (sl_lt p c) (rows_sub hr) ho) $$ Hp
  iintro Hp
  iapply Hk
  iapply Hc
  isplitl [Hs]; · iexact Hs
  isplitl [Hp]; · iapply (Entails.of_eq (e _).symm); iexact Hp
  iexact Hx

theorem ld_rv (p : Fin 16) (n m : ℕ) (hm : m < 18) (hmn : m < n) (k : Fin 18) (hk : k = rOrd ⟨m, hm⟩) (hb : dstBuf k = .rv) (c : Dev nD)
    (hr : lo k c ≤ sl p c ∧ sl p c + 1 ≤ lo k c + rl k) {α : Type} {off : Fin 3 → ℕ} (ho : off = ![sl p c, 0, 0])
    {inb : ∀ x, off x + (![1, 64, 256] : Fin 3 → ℕ) x ≤ S16x64x256.size x} {hl}
    {kk : Vec F S1x64x256 .f32 → Prog (TpuEff nD τ sig (Elt F) Λ₀ .tc) α} {Q : α → sProp 𝕄} :
    rcvd I c n ⊢ iprop((rcvd I c n -∗ WP c (kk (rvA I c p)) Q)
      -∗ WP c (.op (.load (Memref.whole cc0_scratch4) (Rect.unit (s := S16x64x256) off ![1, 64, 256] inb).toLoadRect hl) kk) Q) := by
  subst hk
  unfold rcvd
  iintro H Hk
  ihave H := (prog_peek n m hm hmn) $$ H
  icases H with ⟨⟨Hs, Hp⟩, Hc⟩
  unfold keepP
  icases Hp with ⟨Hp, Hx⟩
  have e : ∀ q, (pK (dstBuf (rOrd ⟨m, hm⟩)) c (rows (lo (rOrd ⟨m, hm⟩) c) (rl (rOrd ⟨m, hm⟩))) q (cont I c (dstBuf (rOrd ⟨m, hm⟩))) : sProp 𝕄)
      = pK .rv c (rows (lo (rOrd ⟨m, hm⟩) c) (rl (rOrd ⟨m, hm⟩))) q (RV I c) := fun q => by rw [hb]; rfl
  ihave Hp := (Entails.of_eq (e _)) $$ Hp
  iapply (step_load_rv I c (sl_lt p c) (rows_sub hr) ho) $$ Hp
  iintro Hp
  iapply Hk
  iapply Hc
  isplitl [Hs]; · iexact Hs
  isplitl [Hp]; · iapply (Entails.of_eq (e _).symm); iexact Hp
  iexact Hx

/-- The load of a result slot before it is stored to: what it reads is not used. -/
theorem ld_o (q : Fin 4) (t : ℕ) (ht : t < 4) (c : Dev nD) {α : Type} {off : Fin 3 → ℕ} (ho : off = ![4 * (J c q).val + t, 0, 0])
    {inb : ∀ x, off x + (![1, 256, 64] : Fin 3 → ℕ) x ≤ S16x256x64.size x} {hl}
    {k : Vec F S1x256x64 .f32 → Prog (TpuEff nD τ sig (Elt F) Λ₀ .tc) α} {Q : α → sProp 𝕄} :
    quarter I c q t ⊢ iprop((quarter I c q t -∗ ∀ w, WP c (k w) Q)
      -∗ WP c (.op (.load (Memref.whole cc0_scratch5) (Rect.unit (s := S16x256x64) off ![1, 256, 64] inb).toLoadRect hl) k) Q) := by
  unfold quarter prog
  rw [bigSep_univ_split (⟨t, ht⟩ : Fin 4), if_neg (Nat.lt_irrefl t)]
  show iprop(raw _ _ c ∗ bigSep _ _) ⊢ iprop((iprop(raw _ _ c ∗ bigSep _ _) -∗ ∀ w, WP c (k w) Q) -∗ _)
  unfold raw
  iintro ⟨⟨Ht, ⟨%f, Hf⟩, Ho⟩, Hr⟩ Hk
  iapply (step_load_o c ho) $$ Hf
  iintro Hf
  iapply Hk
  isplitr [Hr]
  · isplitl [Ht]; · iexact Ht
    isplitl [Hf]; · iexists f; iexact Hf
    iexact Ho
  iexact Hr

/-- The store of a result slot. -/
theorem st_o (q : Fin 4) (t : ℕ) (ht : t < 4) (c : Dev nD) {α : Type} {off : Fin 3 → ℕ} (ho : off = ![4 * (J c q).val + t, 0, 0])
    {inb : ∀ x, off x + (![1, 256, 64] : Fin 3 → ℕ) x ≤ S16x256x64.size x} {hx hm} {w : Vec F S1x256x64 .f32}
    (hw : w = headAt I c (4 * (J c q).val + t) (by omega))
    {k : PUnit → Prog (TpuEff nD τ sig (Elt F) Λ₀ .tc) α} {Q : α → sProp 𝕄} :
    quarter I c q t ⊢ iprop((quarter I c q (t + 1) -∗ WP c (k ⟨⟩) Q)
      -∗ WP c (.op (.store (Memref.whole cc0_scratch5) (Rect.unit (s := S16x256x64) off ![1, 256, 64] inb) w Finset.univ hx hm) k) Q) := by
  unfold quarter
  iintro H Hk
  ihave H := (prog_next t ht) $$ H
  icases H with ⟨Hd, Hc⟩
  unfold raw made
  icases Hd with ⟨Ht, ⟨%f, Hf⟩, Ho⟩
  iapply (step_store_o I c (by omega) ho hw) $$ Hf
  iintro Hf
  iapply Hk
  iapply Hc
  isplitl [Ht]; · iexact Ht
  isplitl [Hf]; · iexact Hf
  iexact Ho

end Cert.KernelIdeal.Attn

end
-- ==== Proof.Talk.lean ====
module

public import proofs.«01_k».proof.Proof.State

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : GSem nD τ sig → ℕ)

/-- A part of the body, on what the body is called with. -/
abbrev on {β : Type 1} (f : (a0 : Memref sig .tc .hbm S2x256x8x64 .f32) → a0.IsWhole → (a1 : Memref sig .tc .hbm S16x64x256 .f32) → a1.IsWhole
    → (a2 : Memref sig .tc .hbm S16x64x256 .f32) → a2.IsWhole → (a3 : Memref sig .tc .hbm S2x256x8x64 .f32) → a3.IsWhole
    → (a4 : Memref sig .tc .vmem S16x256x64 .f32) → a4.IsWhole → (a5 : Memref sig .tc .vmem S16x64x256 .f32) → a5.IsWhole
    → (a6 : Memref sig .tc .vmem S16x64x256 .f32) → a6.IsWhole → (a7 : Memref sig .tc .vmem S16x64x256 .f32) → a7.IsWhole
    → (a8 : Memref sig .tc .vmem S16x64x256 .f32) → a8.IsWhole → (a9 : Memref sig .tc .vmem S16x256x64 .f32) → a9.IsWhole
    → DmaSems sig S18 → DmaSems sig S16 → DmaSems sig S18 → DmaSems sig S18 → β) : β :=
  f (Memref.whole main_arg0) (Memref.isWhole_whole _) (Memref.whole main_v2) (Memref.isWhole_whole _) (Memref.whole main_v4) (Memref.isWhole_whole _)
    (Memref.whole main_v5) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) cc0_scratch6 cc0_scratch7 cc0_scratch8 cc0_scratch9

/-- The number of the quarter of place `q`, as the word the program computes with. -/
def wj (c : Dev nD) (q : Fin 4) : BitVec 32 := BitVec.ofNat 32 (J c q).val

/-! ## The local copies of the keys and the values -/

theorem in_s (s : Fin 70) (c : Dev nD) (n : ℕ) (h : ∀ k ∈ sList.drop n, lvD s < lvR k) {α : Type} {sp sp' : Space} {sh sh' : Shape} {e e' : EltTy}
    {x : DmaSem sig} (hx : x = s)
    {src : Memref sig .tc sp' sh' e'} {dst : Memref sig .tc sp sh e} {hsrc : src.view.WordExact} {hdst : dst.view.WordExact}
    (hN : dst.view.dmaCredit = amt s)
    {k : PUnit → Prog (TpuEff nD τ sig (Elt F) Λ₀ .tc) α} {Q : α → sProp 𝕄} :
    Env I K c ⊢ iprop(owing c n -∗ pend s c -∗ ((owing c n ∗ semVal (dCell s c) 0 ∗ dpay I s c) -∗ WP c (k ⟨⟩) Q)
      -∗ WP c (.op (.waitDma2 x src dst hsrc hdst) k) Q) := by
  iintro #HE HO H Hk
  unfold owing
  iapply (step_wait I K s c hx hN (mayWait_owe c (.dma s) _ h)) $$ HE H HO
  iintro ⟨Hs, HO, Hp⟩
  iapply Hk
  isplitl [HO]; · iexact HO
  isplitl [Hs]; · iexact Hs
  iexact Hp

/-- What the copies in leave besides the loaded buffers: their semaphores, and the arrays they read. -/
def inRest (c : Dev nD) : sProp 𝕄 :=
  iprop((bigSep Finset.univ fun i : Fin 16 => iprop(semVal (dCell (sQ i) c) 0 ∗ pQ c (col i.val) (I.q c)))
    ∗ (semVal (dCell 16 c) 0 ∗ pK .hk c Finset.univ fullShare.left (I.k c)) ∗ (semVal (dCell 17 c) 0 ∗ pK .hv c Finset.univ fullShare.left (I.v c)))

theorem qrow_disj : ∀ i ∈ (Finset.univ : Finset (Fin 16)), ∀ j ∈ (Finset.univ : Finset (Fin 16)), i ≠ j → Disjoint (qrow i.val) (qrow j.val) := by
  intro i _ j _ h
  rw [Finset.disjoint_left]
  intro x hx hy
  rw [mem_qrow] at hx hy
  exact h (Fin.ext (hx.symm.trans hy))
theorem qrow_cover : (Finset.univ : Finset (Fin 16)).biUnion (fun i => qrow i.val) = Finset.univ := by
  ext x
  refine ⟨fun _ => Finset.mem_univ _, fun _ => Finset.mem_biUnion.mpr ⟨⟨(x 0).val, (x 0).isLt⟩, Finset.mem_univ _, mem_qrow.mpr rfl⟩⟩

/-- All copies in done: the loaded buffers, whole, and the rest. -/
theorem ins_intro (c : Dev nD) :
    qIn I c 16 ⊢ iprop((semVal (dCell 16 c) 0 ∗ dpay I 16 c) -∗ (semVal (dCell 17 c) 0 ∗ dpay I 17 c) -∗ (ins I c ∗ inRest I c)) := by
  unfold qIn
  rw [prog_all, dpay_k, dpay_v]
  refine (bigSep_mono (Ψ := fun i : Fin 16 => iprop(pQV c (qrow i.val) (QV I c) ∗ (semVal (dCell (sQ i) c) 0 ∗ pQ c (col i.val) (I.q c))))
    (fun i _ => by
      rw [dpay_q]
      show (iprop(_ ∗ _ ∗ _) : sProp 𝕄) ⊢ iprop(_ ∗ _ ∗ _)
      iintro ⟨A, B, C⟩; isplitl [B]; · iexact B
      isplitl [A]; · iexact A
      iexact C)).trans ?_
  refine (Entails.of_eq (bigSep_sep' _ _ _)).trans ?_
  iintro ⟨Hq, Hr⟩ ⟨Hs, Hk, Hk'⟩ ⟨Hs', Hv, Hv'⟩
  unfold ins inRest
  isplitl [Hq Hk Hv]
  · isplitl [Hq]
    · iapply (Entails.of_eq ((pointsTo_biUnion (ℓ := (c : Thread nD τ).loc cc0_scratch0) (q := fullShare) (f := QV I c) (Finset.univ : Finset (Fin 16))
        (fun i : Fin 16 => qrow i.val) qrow_disj).symm.trans (by rw [qrow_cover])) : _ ⊢ pQV c Finset.univ (QV I c))
      iexact Hq
    isplitl [Hk]; · iexact Hk
    iexact Hv
  isplitl [Hr]; · iexact Hr
  isplitl [Hs Hk']
  · isplitl [Hs]; · iexact Hs
    iexact Hk'
  isplitl [Hs']; · iexact Hs'
  iexact Hv'

/-! ## The barrier -/

theorem bar_signal (d : Fin 3) (c p : Dev nD) (hp : p = pd d c) {α : Type} {x : Sem sig} (hx : x = barrier0) {n : ℤ} (hn : n = ((1 : ℕ) : ℤ))
    (O : CellTallies nD τ sig Unit) {k : PUnit → Prog (TpuEff nD τ sig (Elt F) Λ₀ .tc) α} {Q : α → sProp 𝕄} :
    Env I K c ⊢ iprop(owesE c (O + tallyAt (barCell (pd d c)) () 1) -∗ dutyTok ER (barCell (pd d c)) 0 d -∗ landD d c -∗ (owesE c O -∗ WP c (k ⟨⟩) Q)
      -∗ WP c (.op (.semSignal (p, Proc.tc) x n) k) Q) := by
  subst hp hx hn
  unfold owesE
  iintro #HE ⟨%W, HO⟩ Ht HL Hk
  ihave #HI := (env_bar I K c (pd d c)) $$ HE
  ihave #HR := (env_rbar I K c (pd d c)) $$ HE
  iapply (Rounds.wp_signal 𝒱₀ ER (sched I) (c : Thread nD τ) none (dst := (pd d c : Thread nD τ)) (sem := barrier0) (r := 0) (d := d)
      (κ := K (barCell (pd d c))) (by rw [duties_bar]; exact Finset.mem_univ _) (amount_bar I (pd d c) d) () O rfl) $$ [HO Ht HL]
  · isplitr; · iexact HI
    isplitl [HO]; · iexact HO
    isplitl [Ht]; · iexact Ht
    isplitl [HL]
    · rw [payload_bar, pd_pd]; iexact HL
    iexact HR
  iintro HO
  iapply Hk
  iexists W; iexact HO

theorem bar_wait (c : Dev nD) {α : Type} {x : Sem sig} (hx : x = barrier0) {n : ℤ} (hn : n = ((3 : ℕ) : ℤ))
    {k : PUnit → Prog (TpuEff nD τ sig (Elt F) Λ₀ .tc) α} {Q : α → sProp 𝕄} :
    Env I K c ⊢ iprop(owing c 0 -∗ cred (tallyAt (barCell c) () 3) -∗ atPos ER (barCell c) 0 ∅ 0
      -∗ ((owing c 0 ∗ semVal (barCell c) 0 ∗ bigSep Finset.univ fun k => landP k (peer k c)) -∗ WP c (k ⟨⟩) Q)
      -∗ WP c (.op (.semWait x n) k) Q) := by
  subst hx hn
  unfold owing owesE
  iintro #HE ⟨%W, HO⟩ Hc Hat Hk
  ihave #HI := (env_bar I K c c) $$ HE
  iapply (Rounds.wp_wait_rest_token 𝒱₀ ER (sched I) (c : Thread nD τ) none (κ := K (barCell c))
      (wpE_semWait_eq 𝒱₀ (c : Thread nD τ) none Set.univ) (Set.mem_univ _) () (O := owe c (sList.drop 0))
      (W := W) (R := 0) (m := 0) (T := ∅) ((Nat.zero_add _).trans (expect_bar I c).symm)) $$ [Hc HO Hat]
  · isplitr; · iexact HI
    isplitl [Hc]; · iexact Hc
    isplitl [HO]; · iexact HO
    isplitr
    · iapply (mayWait_owe c (.reg barrier0) _ (by
        intro k _
        show 1 < lvR k
        revert k; decide +kernel))
      iapply (env_lev I K c); iexact HE
    iexact Hat
  iintro ⟨HO, Hat, -, Hpay⟩
  ihave Hp := (Entails.of_eq (rest_bar I c)) $$ Hpay
  imod (cell_close ER (sched I) (Set.mem_univ _) (fun h => h) (R := 1) (duties_later I (barCell c))) $$ [Hat] with Hs
  · isplitr; · iexact HI
    iexact Hat
  iapply Hk
  isplitl [HO]; · iexists _; iexact HO
  isplitl [Hs]; · iexact Hs
  iexact Hp

/-- The rights of the remote copies and their landing places, in the order of issue. -/
theorem sent_intro (c : Dev nD) :
    (bigSep Finset.univ fun k : Fin 18 => sTok k c : sProp 𝕄) ⊢ iprop((bigSep Finset.univ fun k : Fin 18 => landP k (peer k c)) -∗ sent (F := F) c 0) := by
  unfold sent
  have e : (bigSep Finset.univ fun n : Fin 18 => iprop(sTok (sOrd n) c ∗ landP (sOrd n) (peer (sOrd n) c)) : sProp 𝕄)
      = bigSep Finset.univ fun k : Fin 18 => iprop(sTok k c ∗ landP k (peer k c)) :=
    (bigSep_univ_equiv (Equiv.ofBijective sOrd (by decide +kernel)) (fun k : Fin 18 => (iprop(sTok k c ∗ landP k (peer k c)) : sProp 𝕄))).symm
  rw [prog_zero, e]
  iintro A B
  iapply (show (_ : sProp 𝕄) ⊢ _ from Entails.of_eq (bigSep_sep' _ (fun k : Fin 18 => (sTok k c : sProp 𝕄)) (fun k => landP k (peer k c))).symm)
  isplitl [A]; · iexact A
  iexact B

/-! ## The writebacks -/

/-- Quarter `q` while the program looks for its number: tried up to `n`. -/
def wbS (c : Dev nD) (q : Fin 4) (n : ℕ) : sProp 𝕄 :=
  if (J c q).val < n then going (F := F) c (J c q) else quarter I c q 4

/-- A quarter of number `j` all made. -/
def full (c : Dev nD) (j : Fin 4) : sProp 𝕄 := bigSep Finset.univ fun t : Fin 4 => made I (4 * j.val + t.val) (by omega) c

theorem wb_start (c : Dev nD) (q : Fin 4) : quarter I c q 4 ⊢ wbS I c q 0 := by
  unfold wbS; rw [if_neg (Nat.not_lt_zero _)]
theorem wb_end (c : Dev nD) (q : Fin 4) : wbS I c q 4 ⊢ going (F := F) c (J c q) := by
  unfold wbS; rw [if_pos (J c q).isLt]

/-- One test of the quarter's number against `j`, and the writeback if it is `j`. -/
theorem wb_if (q j : Fin 4) (n n' : ℕ) (hn : j.val = n) (hn' : n' = n + 1) (c : Dev nD) {α : Type} {C : Prop} [Decidable C] (hC : C ↔ J c q = j)
    {p p' : Prog (TpuEff nD τ sig (Elt F) Λ₀ .tc) PUnit} {k : PUnit → Prog (TpuEff nD τ sig (Elt F) Λ₀ .tc) α} {r : Prog (TpuEff nD τ sig (Elt F) Λ₀ .tc) α} {Q : α → sProp 𝕄}
    (hk : k ⟨⟩ = r) (he : p = p')
    (hp : ∀ Q' : PUnit → sProp 𝕄, Env I K c ⊢ iprop(full I c j -∗ (going c j -∗ Q' ⟨⟩) -∗ WP c p' Q')) :
    Env I K c ⊢ iprop(wbS I c q n -∗ (wbS I c q n' -∗ WP c r Q)
      -∗ WP c (if _h : C then (p >>= k) else r) Q) := by
  subst hn hn' he
  by_cases h : J c q = j
  · rw [dif_pos (hC.mpr h)]
    show _ ⊢ iprop(_ -∗ _ -∗ wp frame (wpE (defs₀ (F := F)) 𝒱₀ (c : Thread nD τ) none) Set.univ (p >>= k) Q)
    rw [wp_bind]
    subst h
    unfold wbS
    rw [if_neg (Nat.lt_irrefl _), if_pos (Nat.lt_succ_self _)]
    iintro #HE H Hk
    ihave H := (show quarter I c q 4 ⊢ full I c (J c q) from Entails.of_eq (prog_all _ _)) $$ H
    iapply (hp _) $$ HE H
    iintro H
    rw [hk]
    iapply Hk
    iexact H
  · rw [dif_neg (fun hc => h (hC.mp hc))]
    have e : wbS I c q (j.val + 1) = wbS I c q j.val := by
      unfold wbS
      by_cases h' : (J c q).val < j.val
      · rw [if_pos h', if_pos (by omega)]
      · rw [if_neg h', if_neg (fun hh => h (Fin.ext (by omega)))]
    rw [e]
    iintro #HE H Hk
    iapply Hk
    iexact H

/-- The copy of a made result slot to the result array. -/
theorem out_go (a : ℕ) (ha : a < 16) (i : Fin 16) (hi : i.val = a) (c : Dev nD) {α : Type} {b h : ℕ} (hbh : a = 8 * b + h) (hh : h < 8)
    {off : Fin 4 → ℕ} {off' : Fin 3 → ℕ} (ho : off = ![b, 0, h, 0]) (ho' : off' = ![a, 0, 0])
    {inb : ∀ x, off x + (![1, 256, 1, 64] : Fin 4 → ℕ) x ≤ S2x256x8x64.size x}
    {inb' : ∀ x, off' x + (![1, 256, 64] : Fin 3 → ℕ) x ≤ S16x256x64.size x} {s1 s2 z1 z2}
    {x : DmaSem sig} (hx : x = sO i) {hsrc hdst hsem}
    {k : PUnit → Prog (TpuEff nD τ sig (Elt F) Λ₀ .tc) α} {Q : α → sProp 𝕄} :
    Env I K c ⊢ iprop(made I a ha c -∗ (pend (sO i) c -∗ WP c (k ⟨⟩) Q)
      -∗ WP c (.op (.enqueueDma (((Memref.whole cc0_scratch5).slice (Rect.unit (s := S16x256x64) off' ![1, 256, 64] inb') s1).squeeze S256x64 z1)
          (.here (((Memref.whole main_v5).slice (Rect.unit (s := S2x256x8x64) off ![1, 256, 1, 64] inb) s2).squeeze S256x64 z2))
          (.dma x) hsrc hdst hsem) k) Q) := by
  subst hi
  unfold made
  iintro #HE ⟨A, B, C⟩ Hk
  iapply (step_copy_o I K i c hbh hh ho ho' hx) $$ HE A B C
  iexact Hk

theorem q4 (j : Fin 4) (t : ℕ) (ht : t < 4) : 4 * j.val + t < 16 := by omega
theorem full_split (c : Dev nD) (j : Fin 4) {a b d e : ℕ} (ha : a = 4 * j.val) (hb : b = 4 * j.val + 1) (hd : d = 4 * j.val + 2) (he : e = 4 * j.val + 3)
    (h1 : a < 16) (h2 : b < 16) (h3 : d < 16) (h4 : e < 16) :
    full I c j ⊢ iprop(made I a h1 c ∗ made I b h2 c ∗ made I d h3 c ∗ made I e h4 c) := by
  subst ha hb hd he
  unfold full
  exact Entails.of_eq (bigSep_eq_bigSepL_of_eq (S := (Finset.univ : Finset (Fin 4))) [0, 1, 2, 3] (by decide) (by decide) _)
theorem going_join (c : Dev nD) (j : Fin 4) {a b d e : Fin 16} (ha : a.val = 4 * j.val) (hb : b.val = 4 * j.val + 1) (hd : d.val = 4 * j.val + 2) (he : e.val = 4 * j.val + 3) :
    iprop(pend (sO a) c ∗ pend (sO b) c ∗ pend (sO d) c ∗ pend (sO e) c) ⊢ (going (F := F) c j : sProp 𝕄) := by
  obtain rfl : a = ⟨4 * j.val + 0, q4 j 0 (by decide)⟩ := Fin.ext ha
  obtain rfl : b = ⟨4 * j.val + 1, q4 j 1 (by decide)⟩ := Fin.ext hb
  obtain rfl : d = ⟨4 * j.val + 2, q4 j 2 (by decide)⟩ := Fin.ext hd
  obtain rfl : e = ⟨4 * j.val + 3, q4 j 3 (by decide)⟩ := Fin.ext he
  unfold going
  exact Entails.of_eq (bigSep_eq_bigSepL_of_eq (S := (Finset.univ : Finset (Fin 4))) [0, 1, 2, 3] (by decide) (by decide) (fun t : Fin 4 => pend (F := F) (sO ⟨4 * j.val + t.val, by omega⟩) c)).symm

theorem wb0 (c : Dev nD) (Q : PUnit → sProp 𝕄) :
    Env I K c ⊢ iprop(full I c 0 -∗ (going c 0 -∗ Q ⟨⟩) -∗ WP c (on k0_part1) Q) := by
  unfold on; rw [Gen.k0_part1_eq_skeleton]
  unfold Gen.k0_part1_skel
  simp only [Prog.lift, Prog.bind_op, Prog.bind_ret, Prog.pure_eq_ret, Prog.bind_assoc]
  iintro #HE H Hk
  ihave H := (full_split I c 0 (a := 0) (b := 1) (d := 2) (e := 3) rfl rfl rfl rfl (by decide) (by decide) (by decide) (by decide)) $$ H
  icases H with ⟨A, B, C, D⟩
  iapply (out_go I K 0 _ 0 rfl c (b := 0) (h := 0) rfl (by decide) rfl rfl rfl) $$ HE A
  iintro A
  iapply (out_go I K 1 _ 1 rfl c (b := 0) (h := 1) rfl (by decide) rfl rfl rfl) $$ HE B
  iintro B
  iapply (out_go I K 2 _ 2 rfl c (b := 0) (h := 2) rfl (by decide) rfl rfl rfl) $$ HE C
  iintro C
  iapply (out_go I K 3 _ 3 rfl c (b := 0) (h := 3) rfl (by decide) rfl rfl rfl) $$ HE D
  iintro D
  iapply (wp_done c)
  iapply Hk
  iapply (going_join c 0 (a := 0) (b := 1) (d := 2) (e := 3) rfl rfl rfl rfl)
  isplitl [A]; · iexact A
  isplitl [B]; · iexact B
  isplitl [C]; · iexact C
  iexact D

theorem wb1 (c : Dev nD) (Q : PUnit → sProp 𝕄) :
    Env I K c ⊢ iprop(full I c 1 -∗ (going c 1 -∗ Q ⟨⟩) -∗ WP c (on k0_part2) Q) := by
  unfold on; rw [Gen.k0_part2_eq_skeleton]
  unfold Gen.k0_part2_skel
  simp only [Prog.lift, Prog.bind_op, Prog.bind_ret, Prog.pure_eq_ret, Prog.bind_assoc]
  iintro #HE H Hk
  ihave H := (full_split I c 1 (a := 4) (b := 5) (d := 6) (e := 7) rfl rfl rfl rfl (by decide) (by decide) (by decide) (by decide)) $$ H
  icases H with ⟨A, B, C, D⟩
  iapply (out_go I K 4 _ 4 rfl c (b := 0) (h := 4) rfl (by decide) rfl rfl rfl) $$ HE A
  iintro A
  iapply (out_go I K 5 _ 5 rfl c (b := 0) (h := 5) rfl (by decide) rfl rfl rfl) $$ HE B
  iintro B
  iapply (out_go I K 6 _ 6 rfl c (b := 0) (h := 6) rfl (by decide) rfl rfl rfl) $$ HE C
  iintro C
  iapply (out_go I K 7 _ 7 rfl c (b := 0) (h := 7) rfl (by decide) rfl rfl rfl) $$ HE D
  iintro D
  iapply (wp_done c)
  iapply Hk
  iapply (going_join c 1 (a := 4) (b := 5) (d := 6) (e := 7) rfl rfl rfl rfl)
  isplitl [A]; · iexact A
  isplitl [B]; · iexact B
  isplitl [C]; · iexact C
  iexact D

theorem wb2 (c : Dev nD) (Q : PUnit → sProp 𝕄) :
    Env I K c ⊢ iprop(full I c 2 -∗ (going c 2 -∗ Q ⟨⟩) -∗ WP c (on k0_part3) Q) := by
  unfold on; rw [Gen.k0_part3_eq_skeleton]
  unfold Gen.k0_part3_skel
  simp only [Prog.lift, Prog.bind_op, Prog.bind_ret, Prog.pure_eq_ret, Prog.bind_assoc]
  iintro #HE H Hk
  ihave H := (full_split I c 2 (a := 8) (b := 9) (d := 10) (e := 11) rfl rfl rfl rfl (by decide) (by decide) (by decide) (by decide)) $$ H
  icases H with ⟨A, B, C, D⟩
  iapply (out_go I K 8 _ 8 rfl c (b := 1) (h := 0) rfl (by decide) rfl rfl rfl) $$ HE A
  iintro A
  iapply (out_go I K 9 _ 9 rfl c (b := 1) (h := 1) rfl (by decide) rfl rfl rfl) $$ HE B
  iintro B
  iapply (out_go I K 10 _ 10 rfl c (b := 1) (h := 2) rfl (by decide) rfl rfl rfl) $$ HE C
  iintro C
  iapply (out_go I K 11 _ 11 rfl c (b := 1) (h := 3) rfl (by decide) rfl rfl rfl) $$ HE D
  iintro D
  iapply (wp_done c)
  iapply Hk
  iapply (going_join c 2 (a := 8) (b := 9) (d := 10) (e := 11) rfl rfl rfl rfl)
  isplitl [A]; · iexact A
  isplitl [B]; · iexact B
  isplitl [C]; · iexact C
  iexact D

theorem wb3 (c : Dev nD) (Q : PUnit → sProp 𝕄) :
    Env I K c ⊢ iprop(full I c 3 -∗ (going c 3 -∗ Q ⟨⟩) -∗ WP c (on k0_part4) Q) := by
  unfold on; rw [Gen.k0_part4_eq_skeleton]
  unfold Gen.k0_part4_skel
  simp only [Prog.lift, Prog.bind_op, Prog.bind_ret, Prog.pure_eq_ret, Prog.bind_assoc]
  iintro #HE H Hk
  ihave H := (full_split I c 3 (a := 12) (b := 13) (d := 14) (e := 15) rfl rfl rfl rfl (by decide) (by decide) (by decide) (by decide)) $$ H
  icases H with ⟨A, B, C, D⟩
  iapply (out_go I K 12 _ 12 rfl c (b := 1) (h := 4) rfl (by decide) rfl rfl rfl) $$ HE A
  iintro A
  iapply (out_go I K 13 _ 13 rfl c (b := 1) (h := 5) rfl (by decide) rfl rfl rfl) $$ HE B
  iintro B
  iapply (out_go I K 14 _ 14 rfl c (b := 1) (h := 6) rfl (by decide) rfl rfl rfl) $$ HE C
  iintro C
  iapply (out_go I K 15 _ 15 rfl c (b := 1) (h := 7) rfl (by decide) rfl rfl rfl) $$ HE D
  iintro D
  iapply (wp_done c)
  iapply Hk
  iapply (going_join c 3 (a := 12) (b := 13) (d := 14) (e := 15) rfl rfl rfl rfl)
  isplitl [A]; · iexact A
  isplitl [B]; · iexact B
  isplitl [C]; · iexact C
  iexact D

end Cert.KernelIdeal.Attn

end
-- ==== Proof.BodyA.lean ====
module

public import proofs.«01_k».proof.Proof.Talk

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : GSem nD τ sig → ℕ)

/-! Running the parts of the body: the copies in, the first remote copies. -/

theorem part18 (c : Dev nD) {Q} :
    Env I K c ⊢ iprop(qGo I c 1 -∗ ((qGo I c 5) -∗ Q ⟨⟩)
      -∗ WP c ((on k0_part18)) Q) := by
  unfold on; rw [Gen.k0_part18_eq_skeleton]
  unfold Gen.k0_part18_skel
  simp only [Prog.lift, Prog.bind_op, Prog.bind_ret, Prog.pure_eq_ret, Prog.bind_assoc]
  iintro #HE HG Hk
  iapply (go_q I K 1 (by decide) 1 rfl c (b := 0) (h := 1) rfl (by decide) rfl rfl rfl) $$ HE HG
  iintro HG
  iapply (go_q I K 2 (by decide) 2 rfl c (b := 0) (h := 2) rfl (by decide) rfl rfl rfl) $$ HE HG
  iintro HG
  iapply (go_q I K 3 (by decide) 3 rfl c (b := 0) (h := 3) rfl (by decide) rfl rfl rfl) $$ HE HG
  iintro HG
  iapply (go_q I K 4 (by decide) 4 rfl c (b := 0) (h := 4) rfl (by decide) rfl rfl rfl) $$ HE HG
  iintro HG
  iapply (wp_done c)
  iapply Hk
  iexact HG

theorem part19 (c : Dev nD) {Q} :
    Env I K c ⊢ iprop(qGo I c 5 -∗ ((qGo I c 9) -∗ Q ⟨⟩)
      -∗ WP c ((on k0_part19)) Q) := by
  unfold on; rw [Gen.k0_part19_eq_skeleton]
  unfold Gen.k0_part19_skel
  simp only [Prog.lift, Prog.bind_op, Prog.bind_ret, Prog.pure_eq_ret, Prog.bind_assoc]
  iintro #HE HG Hk
  iapply (go_q I K 5 (by decide) 5 rfl c (b := 0) (h := 5) rfl (by decide) rfl rfl rfl) $$ HE HG
  iintro HG
  iapply (go_q I K 6 (by decide) 6 rfl c (b := 0) (h := 6) rfl (by decide) rfl rfl rfl) $$ HE HG
  iintro HG
  iapply (go_q I K 7 (by decide) 7 rfl c (b := 0) (h := 7) rfl (by decide) rfl rfl rfl) $$ HE HG
  iintro HG
  iapply (go_q I K 8 (by decide) 8 rfl c (b := 1) (h := 0) rfl (by decide) rfl rfl rfl) $$ HE HG
  iintro HG
  iapply (wp_done c)
  iapply Hk
  iexact HG

theorem part20 (c : Dev nD) {Q} :
    Env I K c ⊢ iprop(qGo I c 9 -∗ ((qGo I c 13) -∗ Q ⟨⟩)
      -∗ WP c ((on k0_part20)) Q) := by
  unfold on; rw [Gen.k0_part20_eq_skeleton]
  unfold Gen.k0_part20_skel
  simp only [Prog.lift, Prog.bind_op, Prog.bind_ret, Prog.pure_eq_ret, Prog.bind_assoc]
  iintro #HE HG Hk
  iapply (go_q I K 9 (by decide) 9 rfl c (b := 1) (h := 1) rfl (by decide) rfl rfl rfl) $$ HE HG
  iintro HG
  iapply (go_q I K 10 (by decide) 10 rfl c (b := 1) (h := 2) rfl (by decide) rfl rfl rfl) $$ HE HG
  iintro HG
  iapply (go_q I K 11 (by decide) 11 rfl c (b := 1) (h := 3) rfl (by decide) rfl rfl rfl) $$ HE HG
  iintro HG
  iapply (go_q I K 12 (by decide) 12 rfl c (b := 1) (h := 4) rfl (by decide) rfl rfl rfl) $$ HE HG
  iintro HG
  iapply (wp_done c)
  iapply Hk
  iexact HG

theorem part21 (c : Dev nD) {v5 v9 Q} :
    Env I K c ⊢ iprop(qGo I c 13 -∗ tok 16 c -∗ pK .hk c Finset.univ fullShare.left (I.k c) -∗ (∃ f : KB F, pK .kv c Finset.univ fullShare f) -∗ tok 17 c -∗ pK .hv c Finset.univ fullShare.left (I.v c) -∗ (∃ f : KB F, pK .vv c Finset.univ fullShare f) -∗ (∀ v128, (pend 16 c ∗ pend 17 c ∗ qGo I c 16) -∗ Q ⟨SemArray.scalar (sig.barrier 0 rfl), v128, 1#32⟩)
      -∗ WP c ((on k0_part21) v5 v9) Q) := by
  unfold on; rw [Gen.k0_part21_eq_skeleton]
  unfold Gen.k0_part21_skel
  simp only [Prog.lift, Prog.bind_op, Prog.bind_ret, Prog.pure_eq_ret, Prog.bind_assoc]
  iintro #HE HG T16 V16 U16 T17 V17 U17 Hk
  iapply (go_q I K 13 (by decide) 13 rfl c (b := 1) (h := 5) rfl (by decide) rfl rfl rfl) $$ HE HG
  iintro HG
  iapply (go_q I K 14 (by decide) 14 rfl c (b := 1) (h := 6) rfl (by decide) rfl rfl rfl) $$ HE HG
  iintro HG
  iapply (go_q I K 15 (by decide) 15 rfl c (b := 1) (h := 7) rfl (by decide) rfl rfl rfl) $$ HE HG
  iintro HG
  iapply (step_copy_k I K c rfl) $$ HE T16 V16 U16
  iintro P16
  iapply (step_copy_v I K c rfl) $$ HE T17 V17 U17
  iintro P17
  iapply (wp_done c)
  iapply Hk
  isplitl [P16]; · iexact P16
  isplitl [P17]; · iexact P17
  iexact HG

theorem part23 (c : Dev nD) {v13 v23 v157 Q} :
    Env I K c ⊢ iprop((∀ v187, Q v187)
      -∗ WP c ((on k0_part23) v13 v23 v157) Q) := by
  unfold on; rw [Gen.k0_part23_eq_skeleton]
  unfold Gen.k0_part23_skel
  simp only [Prog.pure_eq_ret]
  iintro #HE Hk
  iapply (wp_done c)
  iapply Hk

theorem part24 (c : Dev nD) {v13 v16 v19 v187 Q} :
    Env I K c ⊢ iprop((∀ v217, Q v217)
      -∗ WP c ((on k0_part24) v13 v16 v19 v187) Q) := by
  unfold on; rw [Gen.k0_part24_eq_skeleton]
  unfold Gen.k0_part24_skel
  simp only [Prog.pure_eq_ret]
  iintro #HE Hk
  iapply (wp_done c)
  iapply Hk

theorem part25 (c : Dev nD) {v16 v19 v23 v217 Q} :
    Env I K c ⊢ iprop((Q ⟨⟩)
      -∗ WP c ((on k0_part25) v16 v19 v23 v217) Q) := by
  unfold on; rw [Gen.k0_part25_eq_skeleton]
  unfold Gen.k0_part25_skel
  simp only [Prog.pure_eq_ret]
  iintro #HE Hk
  iapply (wp_done c)
  iapply Hk

theorem part26 (c : Dev nD) {v5 v8 v9 Q} :
    Env I K c ⊢ iprop(owing c 0 -∗ sent c 0 -∗ srcP I 0 c -∗ srcP I 2 c -∗ ((owing c 2 ∗ sent c 2) -∗ Q ⟨⟩)
      -∗ WP c ((on k0_part26) c v5 v8 v9) Q) := by
  unfold on; rw [Gen.k0_part26_eq_skeleton]
  unfold Gen.k0_part26_skel
  simp only [Prog.lift, Prog.bind_op, Prog.bind_ret, Prog.pure_eq_ret, Prog.bind_assoc]
  iintro #HE HO HS S0 S2 Hk
  iapply (send_hk I K 0 (by decide) 0 rfl c _ (by revert c; decide +kernel) (by decide) (by revert c; decide +kernel) (by revert c; decide +kernel) rfl rfl) $$ HE HO HS S0
  iintro ⟨HO, HS⟩
  iapply (send_hv I K 1 (by decide) 2 rfl c _ (by revert c; decide +kernel) (by decide) (by revert c; decide +kernel) (by revert c; decide +kernel) rfl rfl) $$ HE HO HS S2
  iintro ⟨HO, HS⟩
  iapply (wp_done c)
  iapply Hk
  isplitl [HO]; · iexact HO
  iexact HS

theorem part27 (c : Dev nD) {v5 v8 v9 Q} :
    Env I K c ⊢ iprop(owing c 2 -∗ sent c 2 -∗ srcP I 1 c -∗ srcP I 3 c -∗ srcP I 16 c -∗ (∀ v308, (owing c 5 ∗ sent c 5) -∗ Q ⟨v308, 2#32⟩)
      -∗ WP c ((on k0_part27) c v5 v8 v9) Q) := by
  unfold on; rw [Gen.k0_part27_eq_skeleton]
  unfold Gen.k0_part27_skel
  simp only [Prog.lift, Prog.bind_op, Prog.bind_ret, Prog.pure_eq_ret, Prog.bind_assoc]
  iintro #HE HO HS S1 S3 S16 Hk
  iapply (send_hk I K 2 (by decide) 1 rfl c _ (by revert c; decide +kernel) (by decide) (by revert c; decide +kernel) (by revert c; decide +kernel) rfl rfl) $$ HE HO HS S1
  iintro ⟨HO, HS⟩
  iapply (send_hv I K 3 (by decide) 3 rfl c _ (by revert c; decide +kernel) (by decide) (by revert c; decide +kernel) (by revert c; decide +kernel) rfl rfl) $$ HE HO HS S3
  iintro ⟨HO, HS⟩
  iapply (send_hk I K 4 (by decide) 16 rfl c _ (by revert c; decide +kernel) (by decide) (by revert c; decide +kernel) (by revert c; decide +kernel) rfl rfl) $$ HE HO HS S16
  iintro ⟨HO, HS⟩
  iapply (wp_done c)
  iapply Hk
  isplitl [HO]; · iexact HO
  iexact HS

theorem part28 (c : Dev nD) {v5 v8 v308 c2_i32_303 Q} :
    Env I K c ⊢ iprop(owing c 5 -∗ sent c 5 -∗ srcP I 17 c -∗ qIn I c 0 -∗ ((owing c 6 ∗ qIn I c 2 ∗ sent c 6) -∗ Q ⟨⟩)
      -∗ WP c ((on k0_part28) c v5 v8 v308 c2_i32_303) Q) := by
  unfold on; rw [Gen.k0_part28_eq_skeleton]
  unfold Gen.k0_part28_skel
  simp only [Prog.lift, Prog.bind_op, Prog.bind_ret, Prog.pure_eq_ret, Prog.bind_assoc]
  iintro #HE HO HS S17 HN Hk
  iapply (send_hv I K 5 (by decide) 17 rfl c _ (by revert c; decide +kernel) (by decide) (by revert c; decide +kernel) (by revert c; decide +kernel) rfl rfl) $$ HE HO HS S17
  iintro ⟨HO, HS⟩
  iapply (in_q I K 0 (by decide) 0 rfl c rfl 6 (by decide +kernel) rfl) $$ HE HO HN
  iintro ⟨HO, HN⟩
  iapply (in_q I K 1 (by decide) 1 rfl c rfl 6 (by decide +kernel) rfl) $$ HE HO HN
  iintro ⟨HO, HN⟩
  iapply (wp_done c)
  iapply Hk
  isplitl [HO]; · iexact HO
  isplitl [HN]; · iexact HN
  iexact HS

theorem part29 (c : Dev nD) {Q} :
    Env I K c ⊢ iprop(owing c 6 -∗ qIn I c 2 -∗ ((owing c 6 ∗ qIn I c 6) -∗ Q ⟨⟩)
      -∗ WP c ((on k0_part29)) Q) := by
  unfold on; rw [Gen.k0_part29_eq_skeleton]
  unfold Gen.k0_part29_skel
  simp only [Prog.lift, Prog.bind_op, Prog.bind_ret, Prog.pure_eq_ret, Prog.bind_assoc]
  iintro #HE HO HN Hk
  iapply (in_q I K 2 (by decide) 2 rfl c rfl 6 (by decide +kernel) rfl) $$ HE HO HN
  iintro ⟨HO, HN⟩
  iapply (in_q I K 3 (by decide) 3 rfl c rfl 6 (by decide +kernel) rfl) $$ HE HO HN
  iintro ⟨HO, HN⟩
  iapply (in_q I K 4 (by decide) 4 rfl c rfl 6 (by decide +kernel) rfl) $$ HE HO HN
  iintro ⟨HO, HN⟩
  iapply (in_q I K 5 (by decide) 5 rfl c rfl 6 (by decide +kernel) rfl) $$ HE HO HN
  iintro ⟨HO, HN⟩
  iapply (wp_done c)
  iapply Hk
  isplitl [HO]; · iexact HO
  iexact HN

theorem part30 (c : Dev nD) {Q} :
    Env I K c ⊢ iprop(owing c 6 -∗ qIn I c 6 -∗ ((owing c 6 ∗ qIn I c 10) -∗ Q ⟨⟩)
      -∗ WP c ((on k0_part30)) Q) := by
  unfold on; rw [Gen.k0_part30_eq_skeleton]
  unfold Gen.k0_part30_skel
  simp only [Prog.lift, Prog.bind_op, Prog.bind_ret, Prog.pure_eq_ret, Prog.bind_assoc]
  iintro #HE HO HN Hk
  iapply (in_q I K 6 (by decide) 6 rfl c rfl 6 (by decide +kernel) rfl) $$ HE HO HN
  iintro ⟨HO, HN⟩
  iapply (in_q I K 7 (by decide) 7 rfl c rfl 6 (by decide +kernel) rfl) $$ HE HO HN
  iintro ⟨HO, HN⟩
  iapply (in_q I K 8 (by decide) 8 rfl c rfl 6 (by decide +kernel) rfl) $$ HE HO HN
  iintro ⟨HO, HN⟩
  iapply (in_q I K 9 (by decide) 9 rfl c rfl 6 (by decide +kernel) rfl) $$ HE HO HN
  iintro ⟨HO, HN⟩
  iapply (wp_done c)
  iapply Hk
  isplitl [HO]; · iexact HO
  iexact HN

theorem part31 (c : Dev nD) {Q} :
    Env I K c ⊢ iprop(owing c 6 -∗ qIn I c 10 -∗ ((owing c 6 ∗ qIn I c 14) -∗ Q ⟨⟩)
      -∗ WP c ((on k0_part31)) Q) := by
  unfold on; rw [Gen.k0_part31_eq_skeleton]
  unfold Gen.k0_part31_skel
  simp only [Prog.lift, Prog.bind_op, Prog.bind_ret, Prog.pure_eq_ret, Prog.bind_assoc]
  iintro #HE HO HN Hk
  iapply (in_q I K 10 (by decide) 10 rfl c rfl 6 (by decide +kernel) rfl) $$ HE HO HN
  iintro ⟨HO, HN⟩
  iapply (in_q I K 11 (by decide) 11 rfl c rfl 6 (by decide +kernel) rfl) $$ HE HO HN
  iintro ⟨HO, HN⟩
  iapply (in_q I K 12 (by decide) 12 rfl c rfl 6 (by decide +kernel) rfl) $$ HE HO HN
  iintro ⟨HO, HN⟩
  iapply (in_q I K 13 (by decide) 13 rfl c rfl 6 (by decide +kernel) rfl) $$ HE HO HN
  iintro ⟨HO, HN⟩
  iapply (wp_done c)
  iapply Hk
  isplitl [HO]; · iexact HO
  iexact HN

end Cert.KernelIdeal.Attn

end
-- ==== Proof.BodyB.lean ====
module

public import proofs.«01_k».proof.Proof.Talk

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : GSem nD τ sig → ℕ)

/-! Running the parts of the body: the local halves, the first receipts and relays. -/

theorem part32 (c : Dev nD) {v13 Q} :
    Env I K c ⊢ iprop(owing c 6 -∗ qIn I c 14 -∗ pend 16 c -∗ pend 17 c -∗ ((owing c 6 ∗ ins I c ∗ inRest I c) -∗ Q ⟨(Gen.k0_pay2 (qA I c 0) (kA I c 0)), (Gen.k0_pay4 (qA I c 0) (kA I c 0)), (Gen.k0_pay5 (qA I c 0) (kA I c 0) (vA I c 0)), 4#32⟩)
      -∗ WP c ((on k0_part32) c v13) Q) := by
  unfold on; rw [Gen.k0_part32_eq_skeleton]
  unfold Gen.k0_part32_skel
  simp only [Prog.lift, Prog.bind_op, Prog.bind_ret, Prog.pure_eq_ret, Prog.bind_assoc]
  iintro #HE HO HN P16 P17 Hk
  iapply (in_q I K 14 (by decide) 14 rfl c rfl 6 (by decide +kernel) rfl) $$ HE HO HN
  iintro ⟨HO, HN⟩
  iapply (in_q I K 15 (by decide) 15 rfl c rfl 6 (by decide +kernel) rfl) $$ HE HO HN
  iintro ⟨HO, HN⟩
  iapply (in_s I K 16 c 6 (by decide +kernel) rfl rfl) $$ HE HO P16
  iintro ⟨HO, P16⟩
  iapply (in_s I K 17 c 6 (by decide +kernel) rfl rfl) $$ HE HO P17
  iintro ⟨HO, P17⟩
  ihave H := (ins_intro I c) $$ HN P16 P17
  icases H with ⟨HI, HX⟩
  iapply (ld_q I 0 c (by revert c; decide +kernel)) $$ HI
  iintro HI
  iapply (ld_k I 0 c (by revert c; decide +kernel)) $$ HI
  iintro HI
  iapply (ld_v I 0 c (by revert c; decide +kernel)) $$ HI
  iintro HI
  iapply (wp_done c)
  iapply Hk
  isplitl [HO]; · iexact HO
  isplitl [HI]; · iexact HI
  iexact HX

theorem part33 (c : Dev nD) {v13 c4_i32_450 Q} :
    Env I K c ⊢ iprop(ins I c -∗ (∀ v464, (ins I c) -∗ Q ⟨(Gen.k0_pay7 (qA I c 1) (kA I c 1)), (Gen.k0_pay9 (qA I c 1) (kA I c 1)), (Gen.k0_pay10 (qA I c 1) (kA I c 1) (vA I c 1)), v464, (Gen.k0_pay12 (qA I c 2) (kA I c 2)), (Gen.k0_pay13 (qA I c 2) (kA I c 2))⟩)
      -∗ WP c ((on k0_part33) c v13 c4_i32_450) Q) := by
  unfold on; rw [Gen.k0_part33_eq_skeleton]
  unfold Gen.k0_part33_skel
  simp only [Prog.lift, Prog.bind_op, Prog.bind_ret, Prog.pure_eq_ret, Prog.bind_assoc]
  iintro #HE HI Hk
  iapply (ld_q I 1 c (by revert c; decide +kernel)) $$ HI
  iintro HI
  iapply (ld_k I 1 c (by revert c; decide +kernel)) $$ HI
  iintro HI
  iapply (ld_v I 1 c (by revert c; decide +kernel)) $$ HI
  iintro HI
  iapply (ld_q I 2 c (by revert c; decide +kernel)) $$ HI
  iintro HI
  iapply (ld_k I 2 c (by revert c; decide +kernel)) $$ HI
  iintro HI
  iapply (wp_done c)
  iapply Hk
  iexact HI

theorem part34 (c : Dev nD) {v13 v16 v464 v478 Q} :
    Env I K c ⊢ iprop(ins I c -∗ (∀ v508, (ins I c) -∗ Q ⟨(Gen.k0_pay14 v478), (Gen.k0_pay15 v478 (vA I c 2)), (Gen.k0_pay17 (qA I c 3) (kA I c 3)), (Gen.k0_pay19 (qA I c 3) (kA I c 3)), (Gen.k0_pay20 (qA I c 3) (kA I c 3) (vA I c 3)), v508, (Gen.k0_pay21 (qA I c 4) (kA I c 4))⟩)
      -∗ WP c ((on k0_part34) c v13 v16 v464 v478) Q) := by
  unfold on; rw [Gen.k0_part34_eq_skeleton]
  unfold Gen.k0_part34_skel
  simp only [Prog.lift, Prog.bind_op, Prog.bind_ret, Prog.pure_eq_ret, Prog.bind_assoc]
  iintro #HE HI Hk
  iapply (ld_v I 2 c (by revert c; decide +kernel)) $$ HI
  iintro HI
  iapply (ld_q I 3 c (by revert c; decide +kernel)) $$ HI
  iintro HI
  iapply (ld_k I 3 c (by revert c; decide +kernel)) $$ HI
  iintro HI
  iapply (ld_v I 3 c (by revert c; decide +kernel)) $$ HI
  iintro HI
  iapply (ld_q I 4 c (by revert c; decide +kernel)) $$ HI
  iintro HI
  iapply (ld_k I 4 c (by revert c; decide +kernel)) $$ HI
  iintro HI
  iapply (wp_done c)
  iapply Hk
  iexact HI

theorem part35 (c : Dev nD) {v16 v508 v515 Q} :
    Env I K c ⊢ iprop(ins I c -∗ (∀ v552, (ins I c) -∗ Q ⟨(Gen.k0_pay23 v515), (Gen.k0_pay25 v515), (Gen.k0_pay26 v515 (vA I c 4)), (Gen.k0_pay28 (qA I c 5) (kA I c 5)), (Gen.k0_pay30 (qA I c 5) (kA I c 5)), (Gen.k0_pay31 (qA I c 5) (kA I c 5) (vA I c 5)), v552⟩)
      -∗ WP c ((on k0_part35) c v16 v508 v515) Q) := by
  unfold on; rw [Gen.k0_part35_eq_skeleton]
  unfold Gen.k0_part35_skel
  simp only [Prog.lift, Prog.bind_op, Prog.bind_ret, Prog.pure_eq_ret, Prog.bind_assoc]
  iintro #HE HI Hk
  iapply (ld_v I 4 c (by revert c; decide +kernel)) $$ HI
  iintro HI
  iapply (ld_q I 5 c (by revert c; decide +kernel)) $$ HI
  iintro HI
  iapply (ld_k I 5 c (by revert c; decide +kernel)) $$ HI
  iintro HI
  iapply (ld_v I 5 c (by revert c; decide +kernel)) $$ HI
  iintro HI
  iapply (wp_done c)
  iapply Hk
  iexact HI

theorem part36 (c : Dev nD) {v16 v552 Q} :
    Env I K c ⊢ iprop(ins I c -∗ ((ins I c) -∗ Q ⟨(Gen.k0_pay33 (qA I c 6) (kA I c 6)), (Gen.k0_pay35 (qA I c 6) (kA I c 6)), (Gen.k0_pay36 (qA I c 6) (kA I c 6) (vA I c 6)), (Gen.k0_pay38 (qA I c 7) (kA I c 7)), (Gen.k0_pay39 (qA I c 7) (kA I c 7)), (Gen.k0_pay40 (qA I c 7) (kA I c 7))⟩)
      -∗ WP c ((on k0_part36) c v16 v552) Q) := by
  unfold on; rw [Gen.k0_part36_eq_skeleton]
  unfold Gen.k0_part36_skel
  simp only [Prog.lift, Prog.bind_op, Prog.bind_ret, Prog.pure_eq_ret, Prog.bind_assoc]
  iintro #HE HI Hk
  iapply (ld_q I 6 c (by revert c; decide +kernel)) $$ HI
  iintro HI
  iapply (ld_k I 6 c (by revert c; decide +kernel)) $$ HI
  iintro HI
  iapply (ld_v I 6 c (by revert c; decide +kernel)) $$ HI
  iintro HI
  iapply (ld_q I 7 c (by revert c; decide +kernel)) $$ HI
  iintro HI
  iapply (ld_k I 7 c (by revert c; decide +kernel)) $$ HI
  iintro HI
  iapply (wp_done c)
  iapply Hk
  iexact HI

theorem part37 (c : Dev nD) {v2 v5 v8 v9 v10 v11 v588 Q} :
    Env I K c ⊢ iprop(ins I c -∗ owing c 6 -∗ rcvd I c 0 -∗ sent c 6 -∗ ((owing c 7 ∗ sent c 7 ∗ rcvd I c 1 ∗ srcP I 8 c ∗ ins I c) -∗ Q ((Gen.k0_pay41 v588 (vA I c 7))))
      -∗ WP c ((on k0_part37) c v2 v5 v8 v9 v10 v11 v588) Q) := by
  unfold on; rw [Gen.k0_part37_eq_skeleton]
  unfold Gen.k0_part37_skel
  simp only [Prog.lift, Prog.bind_op, Prog.bind_ret, Prog.pure_eq_ret, Prog.bind_assoc]
  iintro #HE HI HO HR HS Hk
  iapply (ld_v I 7 c (by revert c; decide +kernel)) $$ HI
  iintro HI
  iapply (recv I K 0 (by decide) 0 rfl c (keep_two I (a := 4) (b := 8) c (by decide) (by revert c; decide +kernel)).1 6 (by decide +kernel) rfl rfl) $$ HE HO HR
  iintro ⟨HO, HR, S4, S8⟩
  iapply (send_rk I K 6 (by decide) 4 rfl c _ (by revert c; decide +kernel) (by decide) (by revert c; decide +kernel) (by revert c; decide +kernel) rfl rfl) $$ HE HO HS S4
  iintro ⟨HO, HS⟩
  iapply (wp_done c)
  iapply Hk
  isplitl [HO]; · iexact HO
  isplitl [HS]; · iexact HS
  isplitl [HR]; · iexact HR
  isplitl [S8]; · iexact S8
  iexact HI

theorem part38 (c : Dev nD) {v19 Q} :
    Env I K c ⊢ iprop(owing c 7 -∗ sent c 7 -∗ srcP I 8 c -∗ ins I c -∗ (∀ v652, (owing c 8 ∗ sent c 8 ∗ ins I c) -∗ Q ⟨(Gen.k0_pay43 (qA I c 8) (kA I c 8)), (Gen.k0_pay45 (qA I c 8) (kA I c 8)), (Gen.k0_pay46 (qA I c 8) (kA I c 8) (vA I c 8)), v652, (Gen.k0_pay47 (qA I c 9)), (Gen.k0_pay48 (kA I c 9))⟩)
      -∗ WP c ((on k0_part38) c v19) Q) := by
  unfold on; rw [Gen.k0_part38_eq_skeleton]
  unfold Gen.k0_part38_skel
  simp only [Prog.lift, Prog.bind_op, Prog.bind_ret, Prog.pure_eq_ret, Prog.bind_assoc]
  iintro #HE HO HS S8 HI Hk
  iapply (send_rk I K 7 (by decide) 8 rfl c _ (by revert c; decide +kernel) (by decide) (by revert c; decide +kernel) (by revert c; decide +kernel) rfl rfl) $$ HE HO HS S8
  iintro ⟨HO, HS⟩
  iapply (ld_q I 8 c (by revert c; decide +kernel)) $$ HI
  iintro HI
  iapply (ld_k I 8 c (by revert c; decide +kernel)) $$ HI
  iintro HI
  iapply (ld_v I 8 c (by revert c; decide +kernel)) $$ HI
  iintro HI
  iapply (ld_q I 9 c (by revert c; decide +kernel)) $$ HI
  iintro HI
  iapply (ld_k I 9 c (by revert c; decide +kernel)) $$ HI
  iintro HI
  iapply (wp_done c)
  iapply Hk
  isplitl [HO]; · iexact HO
  isplitl [HS]; · iexact HS
  iexact HI

theorem part39 (c : Dev nD) {v19 v652 v655 v658 Q} :
    Env I K c ⊢ iprop(ins I c -∗ (∀ v696, (ins I c) -∗ Q ⟨(Gen.k0_pay50 v655 v658), (Gen.k0_pay52 v655 v658), (Gen.k0_pay53 v655 v658 (vA I c 9)), (Gen.k0_pay55 (qA I c 10) (kA I c 10)), (Gen.k0_pay57 (qA I c 10) (kA I c 10)), (Gen.k0_pay58 (qA I c 10) (kA I c 10) (vA I c 10)), v696⟩)
      -∗ WP c ((on k0_part39) c v19 v652 v655 v658) Q) := by
  unfold on; rw [Gen.k0_part39_eq_skeleton]
  unfold Gen.k0_part39_skel
  simp only [Prog.lift, Prog.bind_op, Prog.bind_ret, Prog.pure_eq_ret, Prog.bind_assoc]
  iintro #HE HI Hk
  iapply (ld_v I 9 c (by revert c; decide +kernel)) $$ HI
  iintro HI
  iapply (ld_q I 10 c (by revert c; decide +kernel)) $$ HI
  iintro HI
  iapply (ld_k I 10 c (by revert c; decide +kernel)) $$ HI
  iintro HI
  iapply (ld_v I 10 c (by revert c; decide +kernel)) $$ HI
  iintro HI
  iapply (wp_done c)
  iapply Hk
  iexact HI

theorem part40 (c : Dev nD) {v2 v5 v8 v9 v10 v696 Q} :
    Env I K c ⊢ iprop(ins I c -∗ owing c 8 -∗ rcvd I c 1 -∗ (∀ v728 v729, (owing c 8 ∗ rcvd I c 2 ∗ srcP I 6 c ∗ srcP I 10 c ∗ ins I c) -∗ Q ⟨(Gen.k0_pay60 (qA I c 11) (kA I c 11)), (Gen.k0_pay62 (qA I c 11) (kA I c 11)), (Gen.k0_pay63 (qA I c 11) (kA I c 11) (vA I c 11)), v728, v729⟩)
      -∗ WP c ((on k0_part40) c v2 v5 v8 v9 v10 v696) Q) := by
  unfold on; rw [Gen.k0_part40_eq_skeleton]
  unfold Gen.k0_part40_skel
  simp only [Prog.lift, Prog.bind_op, Prog.bind_ret, Prog.pure_eq_ret, Prog.bind_assoc]
  iintro #HE HI HO HR Hk
  iapply (ld_q I 11 c (by revert c; decide +kernel)) $$ HI
  iintro HI
  iapply (ld_k I 11 c (by revert c; decide +kernel)) $$ HI
  iintro HI
  iapply (ld_v I 11 c (by revert c; decide +kernel)) $$ HI
  iintro HI
  iapply (recv I K 1 (by decide) 2 rfl c (keep_two I (a := 6) (b := 10) c (by decide) (by revert c; decide +kernel)).1 8 (by decide +kernel) rfl rfl) $$ HE HO HR
  iintro ⟨HO, HR, S6, S10⟩
  iapply (wp_done c)
  iapply Hk
  isplitl [HO]; · iexact HO
  isplitl [HR]; · iexact HR
  isplitl [S6]; · iexact S6
  isplitl [S10]; · iexact S10
  iexact HI

theorem part41 (c : Dev nD) {v2 v5 v8 v11 v23 v728 v729 Q} :
    Env I K c ⊢ iprop(owing c 8 -∗ sent c 8 -∗ srcP I 6 c -∗ srcP I 10 c -∗ ins I c -∗ (∀ v752, (owing c 10 ∗ sent c 10 ∗ ins I c) -∗ Q ⟨v752, (Gen.k0_pay64 (qA I c 12) (kA I c 12)), (Gen.k0_pay65 (qA I c 12) (kA I c 12))⟩)
      -∗ WP c ((on k0_part41) c v2 v5 v8 v11 v23 v728 v729) Q) := by
  unfold on; rw [Gen.k0_part41_eq_skeleton]
  unfold Gen.k0_part41_skel
  simp only [Prog.lift, Prog.bind_op, Prog.bind_ret, Prog.pure_eq_ret, Prog.bind_assoc]
  iintro #HE HO HS S6 S10 HI Hk
  iapply (send_rv I K 8 (by decide) 6 rfl c _ (by revert c; decide +kernel) (by decide) (by revert c; decide +kernel) (by revert c; decide +kernel) rfl rfl) $$ HE HO HS S6
  iintro ⟨HO, HS⟩
  iapply (send_rv I K 9 (by decide) 10 rfl c _ (by revert c; decide +kernel) (by decide) (by revert c; decide +kernel) (by revert c; decide +kernel) rfl rfl) $$ HE HO HS S10
  iintro ⟨HO, HS⟩
  iapply (ld_q I 12 c (by revert c; decide +kernel)) $$ HI
  iintro HI
  iapply (ld_k I 12 c (by revert c; decide +kernel)) $$ HI
  iintro HI
  iapply (wp_done c)
  iapply Hk
  isplitl [HO]; · iexact HO
  isplitl [HS]; · iexact HS
  iexact HI

theorem part42 (c : Dev nD) {v23 v752 v761 v763 Q} :
    Env I K c ⊢ iprop(ins I c -∗ (∀ v796, (ins I c) -∗ Q ⟨(Gen.k0_pay67 v761 v763), (Gen.k0_pay68 v761 v763 (vA I c 12)), (Gen.k0_pay70 (qA I c 13) (kA I c 13)), (Gen.k0_pay72 (qA I c 13) (kA I c 13)), (Gen.k0_pay73 (qA I c 13) (kA I c 13) (vA I c 13)), v796, (Gen.k0_pay74 (qA I c 14))⟩)
      -∗ WP c ((on k0_part42) c v23 v752 v761 v763) Q) := by
  unfold on; rw [Gen.k0_part42_eq_skeleton]
  unfold Gen.k0_part42_skel
  simp only [Prog.lift, Prog.bind_op, Prog.bind_ret, Prog.pure_eq_ret, Prog.bind_assoc]
  iintro #HE HI Hk
  iapply (ld_v I 12 c (by revert c; decide +kernel)) $$ HI
  iintro HI
  iapply (ld_q I 13 c (by revert c; decide +kernel)) $$ HI
  iintro HI
  iapply (ld_k I 13 c (by revert c; decide +kernel)) $$ HI
  iintro HI
  iapply (ld_v I 13 c (by revert c; decide +kernel)) $$ HI
  iintro HI
  iapply (ld_q I 14 c (by revert c; decide +kernel)) $$ HI
  iintro HI
  iapply (wp_done c)
  iapply Hk
  iexact HI

theorem part43 (c : Dev nD) {v23 v796 v799 Q} :
    Env I K c ⊢ iprop(ins I c -∗ ((ins I c) -∗ Q ⟨(Gen.k0_pay76 v799 (kA I c 14)), (Gen.k0_pay78 v799 (kA I c 14)), (Gen.k0_pay79 v799 (kA I c 14) (vA I c 14)), (Gen.k0_pay81 (qA I c 15) (kA I c 15)), (Gen.k0_pay83 (qA I c 15) (kA I c 15)), (Gen.k0_pay84 (qA I c 15) (kA I c 15) (vA I c 15))⟩)
      -∗ WP c ((on k0_part43) c v23 v796 v799) Q) := by
  unfold on; rw [Gen.k0_part43_eq_skeleton]
  unfold Gen.k0_part43_skel
  simp only [Prog.lift, Prog.bind_op, Prog.bind_ret, Prog.pure_eq_ret, Prog.bind_assoc]
  iintro #HE HI Hk
  iapply (ld_k I 14 c (by revert c; decide +kernel)) $$ HI
  iintro HI
  iapply (ld_v I 14 c (by revert c; decide +kernel)) $$ HI
  iintro HI
  iapply (ld_q I 15 c (by revert c; decide +kernel)) $$ HI
  iintro HI
  iapply (ld_k I 15 c (by revert c; decide +kernel)) $$ HI
  iintro HI
  iapply (ld_v I 15 c (by revert c; decide +kernel)) $$ HI
  iintro HI
  iapply (wp_done c)
  iapply Hk
  iexact HI

theorem part44 (c : Dev nD) {v2 v5 v8 v9 v10 v11 Q} :
    Env I K c ⊢ iprop(owing c 10 -∗ rcvd I c 2 -∗ sent c 10 -∗ ((owing c 11 ∗ sent c 11 ∗ rcvd I c 3 ∗ srcP I 9 c) -∗ Q ⟨⟩)
      -∗ WP c ((on k0_part44) c v2 v5 v8 v9 v10 v11) Q) := by
  unfold on; rw [Gen.k0_part44_eq_skeleton]
  unfold Gen.k0_part44_skel
  simp only [Prog.lift, Prog.bind_op, Prog.bind_ret, Prog.pure_eq_ret, Prog.bind_assoc]
  iintro #HE HO HR HS Hk
  iapply (recv I K 2 (by decide) 1 rfl c (keep_two I (a := 5) (b := 9) c (by decide) (by revert c; decide +kernel)).1 10 (by decide +kernel) rfl rfl) $$ HE HO HR
  iintro ⟨HO, HR, S5, S9⟩
  iapply (send_rk I K 10 (by decide) 5 rfl c _ (by revert c; decide +kernel) (by decide) (by revert c; decide +kernel) (by revert c; decide +kernel) rfl rfl) $$ HE HO HS S5
  iintro ⟨HO, HS⟩
  iapply (wp_done c)
  iapply Hk
  isplitl [HO]; · iexact HO
  isplitl [HS]; · iexact HS
  isplitl [HR]; · iexact HR
  iexact S9

theorem part45 (c : Dev nD) {v2 v5 v8 v9 v10 v11 Q} :
    Env I K c ⊢ iprop(owing c 11 -∗ sent c 11 -∗ srcP I 9 c -∗ rcvd I c 3 -∗ (∀ v898 v899, (owing c 13 ∗ sent c 13 ∗ rcvd I c 4 ∗ srcP I 11 c) -∗ Q ⟨v898, v899⟩)
      -∗ WP c ((on k0_part45) c v2 v5 v8 v9 v10 v11) Q) := by
  unfold on; rw [Gen.k0_part45_eq_skeleton]
  unfold Gen.k0_part45_skel
  simp only [Prog.lift, Prog.bind_op, Prog.bind_ret, Prog.pure_eq_ret, Prog.bind_assoc]
  iintro #HE HO HS S9 HR Hk
  iapply (send_rk I K 11 (by decide) 9 rfl c _ (by revert c; decide +kernel) (by decide) (by revert c; decide +kernel) (by revert c; decide +kernel) rfl rfl) $$ HE HO HS S9
  iintro ⟨HO, HS⟩
  iapply (recv I K 3 (by decide) 3 rfl c (keep_two I (a := 7) (b := 11) c (by decide) (by revert c; decide +kernel)).1 12 (by decide +kernel) rfl rfl) $$ HE HO HR
  iintro ⟨HO, HR, S7, S11⟩
  iapply (send_rv I K 12 (by decide) 7 rfl c _ (by revert c; decide +kernel) (by decide) (by revert c; decide +kernel) (by revert c; decide +kernel) rfl rfl) $$ HE HO HS S7
  iintro ⟨HO, HS⟩
  iapply (wp_done c)
  iapply Hk
  isplitl [HO]; · iexact HO
  isplitl [HS]; · iexact HS
  isplitl [HR]; · iexact HR
  iexact S11

end Cert.KernelIdeal.Attn

end
-- ==== Proof.BodyC.lean ====
module

public import proofs.«01_k».proof.Proof.Talk

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : GSem nD τ sig → ℕ)

/-! Running the parts of the body: the merges of the first three quarters, the later relays. -/

theorem part46 (c : Dev nD) {v13 v431 v436 v440 v898 v899 Q} :
    Env I K c ⊢ iprop(owing c 13 -∗ sent c 13 -∗ srcP I 11 c -∗ ins I c -∗ rcvd I c 4 -∗ ((owing c 14 ∗ sent c 14 ∗ rcvd I c 4 ∗ ins I c) -∗ Q ((Gen.k0_pay85 v431 v436 v440 (qA I c 0) (rkA I c 0) (rvA I c 0))))
      -∗ WP c ((on k0_part46) c v13 v431 v436 v440 v898 v899) Q) := by
  unfold on; rw [Gen.k0_part46_eq_skeleton]
  unfold Gen.k0_part46_skel
  simp only [Prog.lift, Prog.bind_op, Prog.bind_ret, Prog.pure_eq_ret, Prog.bind_assoc]
  iintro #HE HO HS S11 HI HR Hk
  iapply (send_rv I K 13 (by decide) 11 rfl c _ (by revert c; decide +kernel) (by decide) (by revert c; decide +kernel) (by revert c; decide +kernel) rfl rfl) $$ HE HO HS S11
  iintro ⟨HO, HS⟩
  iapply (ld_q I 0 c (by revert c; decide +kernel)) $$ HI
  iintro HI
  iapply (ld_rk I 0 4 0 (by decide) (by decide) 0 rfl rfl c (by revert c; decide +kernel) (by revert c; decide +kernel)) $$ HR
  iintro HR
  iapply (ld_rv I 0 4 1 (by decide) (by decide) 2 rfl rfl c (by revert c; decide +kernel) (by revert c; decide +kernel)) $$ HR
  iintro HR
  iapply (wp_done c)
  iapply Hk
  isplitl [HO]; · iexact HO
  isplitl [HS]; · iexact HS
  isplitl [HR]; · iexact HR
  iexact HI

theorem part47 (c : Dev nD) {v13 v453 v458 v462 v938 Q}
    (hw0 : Gen.k0_pay86 v938 = headAt I c (sl 0 c) (sl_lt 0 c))
    (hw1 : Gen.k0_pay87 v453 v458 v462 (qA I c 1) (rkA I c 1) (rvA I c 1) = headAt I c (sl 1 c) (sl_lt 1 c)) :
    Env I K c ⊢ iprop(quarter I c 0 0 -∗ ins I c -∗ rcvd I c 4 -∗ (∀ v980, (rcvd I c 4 ∗ ins I c ∗ quarter I c 0 2) -∗ Q v980)
      -∗ WP c ((on k0_part47) c v13 v453 v458 v462 v938) Q) := by
  unfold on; rw [Gen.k0_part47_eq_skeleton]
  unfold Gen.k0_part47_skel
  simp only [Prog.lift, Prog.bind_op, Prog.bind_ret, Prog.pure_eq_ret, Prog.bind_assoc]
  iintro #HE Z0 HI HR Hk
  iapply (ld_o I 0 0 (by decide) c (by clear hw0 hw1; revert c; decide +kernel)) $$ Z0
  iintro Z0 %v940
  iapply (st_o I 0 0 (by decide) c (by clear hw0 hw1; revert c; decide +kernel) hw0) $$ Z0
  iintro Z0
  iapply (ld_q I 1 c (by clear hw0 hw1; revert c; decide +kernel)) $$ HI
  iintro HI
  iapply (ld_rk I 1 4 0 (by decide) (by decide) 0 rfl rfl c (by clear hw0 hw1; revert c; decide +kernel) (by clear hw0 hw1; revert c; decide +kernel)) $$ HR
  iintro HR
  iapply (ld_rv I 1 4 1 (by decide) (by decide) 2 rfl rfl c (by clear hw0 hw1; revert c; decide +kernel) (by clear hw0 hw1; revert c; decide +kernel)) $$ HR
  iintro HR
  iapply (ld_o I 0 1 (by decide) c (by clear hw0 hw1; revert c; decide +kernel)) $$ Z0
  iintro Z0 %v976
  iapply (st_o I 0 1 (by decide) c (by clear hw0 hw1; revert c; decide +kernel) hw1) $$ Z0
  iintro Z0
  iapply (wp_done c)
  iapply Hk
  isplitl [HR]; · iexact HR
  isplitl [HI]; · iexact HI
  iexact Z0

theorem part48 (c : Dev nD) {v13 v475 v480 v484 v980 Q}
    (hw2 : Gen.k0_pay88 v475 v480 v484 (qA I c 2) (rkA I c 2) (rvA I c 2) = headAt I c (sl 2 c) (sl_lt 2 c)) :
    Env I K c ⊢ iprop(ins I c -∗ rcvd I c 4 -∗ quarter I c 0 2 -∗ (∀ v1016, (rcvd I c 4 ∗ ins I c ∗ quarter I c 0 3) -∗ Q ⟨v1016, (Gen.k0_pay89 (qA I c 3))⟩)
      -∗ WP c ((on k0_part48) c v13 v475 v480 v484 v980) Q) := by
  unfold on; rw [Gen.k0_part48_eq_skeleton]
  unfold Gen.k0_part48_skel
  simp only [Prog.lift, Prog.bind_op, Prog.bind_ret, Prog.pure_eq_ret, Prog.bind_assoc]
  iintro #HE HI HR Z0 Hk
  iapply (ld_q I 2 c (by clear hw2; revert c; decide +kernel)) $$ HI
  iintro HI
  iapply (ld_rk I 2 4 2 (by decide) (by decide) 1 rfl rfl c (by clear hw2; revert c; decide +kernel) (by clear hw2; revert c; decide +kernel)) $$ HR
  iintro HR
  iapply (ld_rv I 2 4 3 (by decide) (by decide) 3 rfl rfl c (by clear hw2; revert c; decide +kernel) (by clear hw2; revert c; decide +kernel)) $$ HR
  iintro HR
  iapply (ld_o I 0 2 (by decide) c (by clear hw2; revert c; decide +kernel)) $$ Z0
  iintro Z0 %v1012
  iapply (st_o I 0 2 (by decide) c (by clear hw2; revert c; decide +kernel) hw2) $$ Z0
  iintro Z0
  iapply (ld_q I 3 c (by clear hw2; revert c; decide +kernel)) $$ HI
  iintro HI
  iapply (wp_done c)
  iapply Hk
  isplitl [HR]; · iexact HR
  isplitl [HI]; · iexact HI
  iexact Z0

theorem part49 (c : Dev nD) {v497 v502 v506 v1016 v1019 Q}
    (hw3 : Gen.k0_pay90 v497 v502 v506 v1019 (rkA I c 3) (rvA I c 3) = headAt I c (sl 3 c) (sl_lt 3 c)) :
    Env I K c ⊢ iprop(rcvd I c 4 -∗ quarter I c 0 3 -∗ ((rcvd I c 4 ∗ wbS I c 0 3) -∗ Q (Scalar.cmpi .eq (wj c 0) 3#32))
      -∗ WP c ((on k0_part49) c (wj c 0) v497 v502 v506 v1016 v1019) Q) := by
  unfold on; rw [Gen.k0_part49_eq_skeleton]
  unfold Gen.k0_part49_skel
  simp only [Prog.lift, Prog.bind_op, Prog.bind_ret, Prog.pure_eq_ret, Prog.bind_assoc]
  iintro #HE HR Z0 Hk
  iapply (ld_rk I 3 4 2 (by decide) (by decide) 1 rfl rfl c (by clear hw3; revert c; decide +kernel) (by clear hw3; revert c; decide +kernel)) $$ HR
  iintro HR
  iapply (ld_rv I 3 4 3 (by decide) (by decide) 3 rfl rfl c (by clear hw3; revert c; decide +kernel) (by clear hw3; revert c; decide +kernel)) $$ HR
  iintro HR
  iapply (ld_o I 0 3 (by decide) c (by clear hw3; revert c; decide +kernel)) $$ Z0
  iintro Z0 %v1048
  iapply (st_o I 0 3 (by decide) c (by clear hw3; revert c; decide +kernel) hw3) $$ Z0
  iintro Z0
  ihave Z0 := (wb_start I c 0) $$ Z0
  iapply (wb_if I K 0 0 0 1 rfl rfl c (by clear hw3; revert c; decide +kernel) rfl rfl (fun Q' => wb0 I K c Q')) $$ HE Z0
  iintro Z0
  iapply (wb_if I K 0 1 1 2 rfl rfl c (by clear hw3; revert c; decide +kernel) rfl rfl (fun Q' => wb1 I K c Q')) $$ HE Z0
  iintro Z0
  iapply (wb_if I K 0 2 2 3 rfl rfl c (by clear hw3; revert c; decide +kernel) rfl rfl (fun Q' => wb2 I K c Q')) $$ HE Z0
  iintro Z0
  iapply (wp_done c)
  iapply Hk
  isplitl [HR]; · iexact HR
  iexact Z0

theorem part50 (c : Dev nD) {v2 v5 v8 v10 v11 Q} :
    Env I K c ⊢ iprop(wbS I c 0 3 -∗ owing c 14 -∗ rcvd I c 4 -∗ sent c 14 -∗ (∀ v1088 v1089, (owing c 15 ∗ sent c 15 ∗ rcvd I c 5 ∗ going c (J c 0)) -∗ Q ⟨v1088, v1089⟩)
      -∗ WP c ((on k0_part50) c v2 v5 v8 v10 v11 (Scalar.cmpi .eq (wj c 0) 3#32)) Q) := by
  unfold on; rw [Gen.k0_part50_eq_skeleton]
  unfold Gen.k0_part50_skel
  simp only [Prog.lift, Prog.bind_op, Prog.bind_ret, Prog.pure_eq_ret, Prog.bind_assoc]
  iintro #HE Z0 HO HR HS Hk
  iapply (wb_if I K 0 3 3 4 rfl rfl c (by revert c; decide +kernel) rfl rfl (fun Q' => wb3 I K c Q')) $$ HE Z0
  iintro Z0
  ihave Z0 := (wb_end I c 0) $$ Z0
  iapply (recv I K 4 (by decide) 8 rfl c (keep_half I (a := 12) c (by decide) (by revert c; decide +kernel)).1 14 (by decide +kernel) rfl rfl) $$ HE HO HR
  iintro ⟨HO, HR, S12⟩
  iapply (send_rk I K 14 (by decide) 12 rfl c _ (by revert c; decide +kernel) (by decide) (by revert c; decide +kernel) (by revert c; decide +kernel) rfl rfl) $$ HE HO HS S12
  iintro ⟨HO, HS⟩
  iapply (wp_done c)
  iapply Hk
  isplitl [HO]; · iexact HO
  isplitl [HS]; · iexact HS
  isplitl [HR]; · iexact HR
  iexact Z0

theorem part51 (c : Dev nD) {v2 v5 v11 v1088 v1089 Q} :
    Env I K c ⊢ iprop(owing c 15 -∗ rcvd I c 5 -∗ sent c 15 -∗ (∀ v1117, (owing c 16 ∗ sent c 16 ∗ rcvd I c 7 ∗ srcP I 13 c) -∗ Q v1117)
      -∗ WP c ((on k0_part51) c v2 v5 v11 v1088 v1089) Q) := by
  unfold on; rw [Gen.k0_part51_eq_skeleton]
  unfold Gen.k0_part51_skel
  simp only [Prog.lift, Prog.bind_op, Prog.bind_ret, Prog.pure_eq_ret, Prog.bind_assoc]
  iintro #HE HO HR HS Hk
  iapply (recv I K 5 (by decide) 6 rfl c (keep_half I (a := 14) c (by decide) (by revert c; decide +kernel)).1 15 (by decide +kernel) rfl rfl) $$ HE HO HR
  iintro ⟨HO, HR, S14⟩
  iapply (send_rv I K 15 (by decide) 14 rfl c _ (by revert c; decide +kernel) (by decide) (by revert c; decide +kernel) (by revert c; decide +kernel) rfl rfl) $$ HE HO HS S14
  iintro ⟨HO, HS⟩
  iapply (recv I K 6 (by decide) 9 rfl c (keep_one I (a := 13) c (by decide) (by revert c; decide +kernel)).1 16 (by decide +kernel) rfl rfl) $$ HE HO HR
  iintro ⟨HO, HR, S13⟩
  iapply (wp_done c)
  iapply Hk
  isplitl [HO]; · iexact HO
  isplitl [HS]; · iexact HS
  isplitl [HR]; · iexact HR
  iexact S13

theorem part52 (c : Dev nD) {v2 v5 v8 v10 v11 v1117 Q} :
    Env I K c ⊢ iprop(owing c 16 -∗ sent c 16 -∗ srcP I 13 c -∗ rcvd I c 7 -∗ ((owing c 17 ∗ sent c 17 ∗ rcvd I c 8 ∗ srcP I 15 c) -∗ Q ⟨⟩)
      -∗ WP c ((on k0_part52) c v2 v5 v8 v10 v11 v1117) Q) := by
  unfold on; rw [Gen.k0_part52_eq_skeleton]
  unfold Gen.k0_part52_skel
  simp only [Prog.lift, Prog.bind_op, Prog.bind_ret, Prog.pure_eq_ret, Prog.bind_assoc]
  iintro #HE HO HS S13 HR Hk
  iapply (send_rk I K 16 (by decide) 13 rfl c _ (by revert c; decide +kernel) (by decide) (by revert c; decide +kernel) (by revert c; decide +kernel) rfl rfl) $$ HE HO HS S13
  iintro ⟨HO, HS⟩
  iapply (recv I K 7 (by decide) 7 rfl c (keep_one I (a := 15) c (by decide) (by revert c; decide +kernel)).1 17 (by decide +kernel) rfl rfl) $$ HE HO HR
  iintro ⟨HO, HR, S15⟩
  iapply (wp_done c)
  iapply Hk
  isplitl [HO]; · iexact HO
  isplitl [HS]; · iexact HS
  isplitl [HR]; · iexact HR
  iexact S15

theorem part53 (c : Dev nD) {v2 v8 v10 v16 Q} :
    Env I K c ⊢ iprop(owing c 17 -∗ sent c 17 -∗ srcP I 15 c -∗ rcvd I c 8 -∗ ins I c -∗ (∀ v1172, (owing c 18 ∗ sent c 18 ∗ rcvd I c 10 ∗ ins I c) -∗ Q ⟨v1172, (Gen.k0_pay91 (qA I c 4))⟩)
      -∗ WP c ((on k0_part53) c v2 v8 v10 v16) Q) := by
  unfold on; rw [Gen.k0_part53_eq_skeleton]
  unfold Gen.k0_part53_skel
  simp only [Prog.lift, Prog.bind_op, Prog.bind_ret, Prog.pure_eq_ret, Prog.bind_assoc]
  iintro #HE HO HS S15 HR HI Hk
  iapply (send_rv I K 17 (by decide) 15 rfl c _ (by revert c; decide +kernel) (by decide) (by revert c; decide +kernel) (by revert c; decide +kernel) rfl rfl) $$ HE HO HS S15
  iintro ⟨HO, HS⟩
  iapply (recv I K 8 (by decide) 4 rfl c (keep_full I c (by decide)).1 18 (by decide +kernel) rfl rfl) $$ HE HO HR
  iintro ⟨HO, HR, -⟩
  iapply (recv I K 9 (by decide) 5 rfl c (keep_full I c (by decide)).1 18 (by decide +kernel) rfl rfl) $$ HE HO HR
  iintro ⟨HO, HR, -⟩
  iapply (ld_q I 4 c (by revert c; decide +kernel)) $$ HI
  iintro HI
  iapply (wp_done c)
  iapply Hk
  isplitl [HO]; · iexact HO
  isplitl [HS]; · iexact HS
  isplitl [HR]; · iexact HR
  iexact HI

theorem part54 (c : Dev nD) {v16 v519 v524 v528 v1172 v1175 Q}
    (hw4 : Gen.k0_pay92 v519 v524 v528 v1175 (rkA I c 4) (rvA I c 4) = headAt I c (sl 4 c) (sl_lt 4 c)) :
    Env I K c ⊢ iprop(rcvd I c 10 -∗ quarter I c 1 0 -∗ ins I c -∗ (∀ v1208, (rcvd I c 10 ∗ ins I c ∗ quarter I c 1 1) -∗ Q ⟨v1208, (Gen.k0_pay93 (qA I c 5) (rkA I c 5))⟩)
      -∗ WP c ((on k0_part54) c v16 v519 v524 v528 v1172 v1175) Q) := by
  unfold on; rw [Gen.k0_part54_eq_skeleton]
  unfold Gen.k0_part54_skel
  simp only [Prog.lift, Prog.bind_op, Prog.bind_ret, Prog.pure_eq_ret, Prog.bind_assoc]
  iintro #HE HR Z1 HI Hk
  iapply (ld_rk I 4 10 8 (by decide) (by decide) 4 rfl rfl c (by clear hw4; revert c; decide +kernel) (by clear hw4; revert c; decide +kernel)) $$ HR
  iintro HR
  iapply (ld_rv I 4 10 5 (by decide) (by decide) 6 rfl rfl c (by clear hw4; revert c; decide +kernel) (by clear hw4; revert c; decide +kernel)) $$ HR
  iintro HR
  iapply (ld_o I 1 0 (by decide) c (by clear hw4; revert c; decide +kernel)) $$ Z1
  iintro Z1 %v1204
  iapply (st_o I 1 0 (by decide) c (by clear hw4; revert c; decide +kernel) hw4) $$ Z1
  iintro Z1
  iapply (ld_q I 5 c (by clear hw4; revert c; decide +kernel)) $$ HI
  iintro HI
  iapply (ld_rk I 5 10 8 (by decide) (by decide) 4 rfl rfl c (by clear hw4; revert c; decide +kernel) (by clear hw4; revert c; decide +kernel)) $$ HR
  iintro HR
  iapply (wp_done c)
  iapply Hk
  isplitl [HR]; · iexact HR
  isplitl [HI]; · iexact HI
  iexact Z1

theorem part55 (c : Dev nD) {v16 v541 v546 v550 v563 v1208 v1217 Q}
    (hw5 : Gen.k0_pay94 v541 v546 v550 v1217 (rvA I c 5) = headAt I c (sl 5 c) (sl_lt 5 c)) :
    Env I K c ⊢ iprop(rcvd I c 10 -∗ quarter I c 1 1 -∗ ins I c -∗ (∀ v1244, (rcvd I c 10 ∗ ins I c ∗ quarter I c 1 2) -∗ Q ⟨v1244, (Gen.k0_pay97 v563 (qA I c 6) (rkA I c 6)), (Gen.k0_pay98 v563 (qA I c 6) (rkA I c 6))⟩)
      -∗ WP c ((on k0_part55) c v16 v541 v546 v550 v563 v1208 v1217) Q) := by
  unfold on; rw [Gen.k0_part55_eq_skeleton]
  unfold Gen.k0_part55_skel
  simp only [Prog.lift, Prog.bind_op, Prog.bind_ret, Prog.pure_eq_ret, Prog.bind_assoc]
  iintro #HE HR Z1 HI Hk
  iapply (ld_rv I 5 10 5 (by decide) (by decide) 6 rfl rfl c (by clear hw5; revert c; decide +kernel) (by clear hw5; revert c; decide +kernel)) $$ HR
  iintro HR
  iapply (ld_o I 1 1 (by decide) c (by clear hw5; revert c; decide +kernel)) $$ Z1
  iintro Z1 %v1240
  iapply (st_o I 1 1 (by decide) c (by clear hw5; revert c; decide +kernel) hw5) $$ Z1
  iintro Z1
  iapply (ld_q I 6 c (by clear hw5; revert c; decide +kernel)) $$ HI
  iintro HI
  iapply (ld_rk I 6 10 9 (by decide) (by decide) 5 rfl rfl c (by clear hw5; revert c; decide +kernel) (by clear hw5; revert c; decide +kernel)) $$ HR
  iintro HR
  iapply (wp_done c)
  iapply Hk
  isplitl [HR]; · iexact HR
  isplitl [HI]; · iexact HI
  iexact Z1

theorem part56 (c : Dev nD) {v16 v568 v572 v585 v590 v594 v1244 v1259 v1261 Q}
    (hw6 : Gen.k0_pay99 v568 v572 v1259 v1261 (rvA I c 6) = headAt I c (sl 6 c) (sl_lt 6 c)) :
    Env I K c ⊢ iprop(rcvd I c 10 -∗ quarter I c 1 2 -∗ ins I c -∗ (∀ v1280, (rcvd I c 10 ∗ ins I c ∗ quarter I c 1 3) -∗ Q ⟨v1280, (Gen.k0_pay102 v585 (qA I c 7) (rkA I c 7)), (Gen.k0_pay104 v585 v590 (qA I c 7) (rkA I c 7)), (Gen.k0_pay105 v585 v594 (qA I c 7) (rkA I c 7))⟩)
      -∗ WP c ((on k0_part56) c v16 v568 v572 v585 v590 v594 v1244 v1259 v1261) Q) := by
  unfold on; rw [Gen.k0_part56_eq_skeleton]
  unfold Gen.k0_part56_skel
  simp only [Prog.lift, Prog.bind_op, Prog.bind_ret, Prog.pure_eq_ret, Prog.bind_assoc]
  iintro #HE HR Z1 HI Hk
  iapply (ld_rv I 6 10 7 (by decide) (by decide) 7 rfl rfl c (by clear hw6; revert c; decide +kernel) (by clear hw6; revert c; decide +kernel)) $$ HR
  iintro HR
  iapply (ld_o I 1 2 (by decide) c (by clear hw6; revert c; decide +kernel)) $$ Z1
  iintro Z1 %v1276
  iapply (st_o I 1 2 (by decide) c (by clear hw6; revert c; decide +kernel) hw6) $$ Z1
  iintro Z1
  iapply (ld_q I 7 c (by clear hw6; revert c; decide +kernel)) $$ HI
  iintro HI
  iapply (ld_rk I 7 10 9 (by decide) (by decide) 5 rfl rfl c (by clear hw6; revert c; decide +kernel) (by clear hw6; revert c; decide +kernel)) $$ HR
  iintro HR
  iapply (wp_done c)
  iapply Hk
  isplitl [HR]; · iexact HR
  isplitl [HI]; · iexact HI
  iexact Z1

theorem part57 (c : Dev nD) {v2 v5 v11 v1280 v1295 v1301 v1303 Q}
    (hw7 : Gen.k0_pay106 v1295 v1301 v1303 (rvA I c 7) = headAt I c (sl 7 c) (sl_lt 7 c)) :
    Env I K c ⊢ iprop(rcvd I c 10 -∗ quarter I c 1 3 -∗ ((rcvd I c 10 ∗ going c (J c 1)) -∗ Q ⟨⟩)
      -∗ WP c ((on k0_part57) c v2 v5 v11 (wj c 1) v1280 v1295 v1301 v1303) Q) := by
  unfold on; rw [Gen.k0_part57_eq_skeleton]
  unfold Gen.k0_part57_skel
  simp only [Prog.lift, Prog.bind_op, Prog.bind_ret, Prog.pure_eq_ret, Prog.bind_assoc]
  iintro #HE HR Z1 Hk
  iapply (ld_rv I 7 10 7 (by decide) (by decide) 7 rfl rfl c (by clear hw7; revert c; decide +kernel) (by clear hw7; revert c; decide +kernel)) $$ HR
  iintro HR
  iapply (ld_o I 1 3 (by decide) c (by clear hw7; revert c; decide +kernel)) $$ Z1
  iintro Z1 %v1312
  iapply (st_o I 1 3 (by decide) c (by clear hw7; revert c; decide +kernel) hw7) $$ Z1
  iintro Z1
  ihave Z1 := (wb_start I c 1) $$ Z1
  iapply (wb_if I K 1 0 0 1 rfl rfl c (by clear hw7; revert c; decide +kernel) rfl rfl (fun Q' => wb0 I K c Q')) $$ HE Z1
  iintro Z1
  iapply (wb_if I K 1 1 1 2 rfl rfl c (by clear hw7; revert c; decide +kernel) rfl rfl (fun Q' => wb1 I K c Q')) $$ HE Z1
  iintro Z1
  iapply (wb_if I K 1 2 2 3 rfl rfl c (by clear hw7; revert c; decide +kernel) rfl rfl (fun Q' => wb2 I K c Q')) $$ HE Z1
  iintro Z1
  iapply (wb_if I K 1 3 3 4 rfl rfl c (by clear hw7; revert c; decide +kernel) rfl rfl (fun Q' => wb3 I K c Q')) $$ HE Z1
  iintro Z1
  ihave Z1 := (wb_end I c 1) $$ Z1
  iapply (wp_done c)
  iapply Hk
  isplitl [HR]; · iexact HR
  iexact Z1

theorem part58 (c : Dev nD) {v2 v5 v11 v19 v641 v646 v650 Q} :
    Env I K c ⊢ iprop(owing c 18 -∗ rcvd I c 10 -∗ ins I c -∗ (∀ v1348, (owing c 18 ∗ rcvd I c 12 ∗ ins I c) -∗ Q ⟨v1348, (Gen.k0_pay109 v641 (qA I c 8) (rkA I c 8)), (Gen.k0_pay111 v641 v646 (qA I c 8) (rkA I c 8)), (Gen.k0_pay112 v641 v650 (qA I c 8) (rkA I c 8))⟩)
      -∗ WP c ((on k0_part58) c v2 v5 v11 v19 v641 v646 v650) Q) := by
  unfold on; rw [Gen.k0_part58_eq_skeleton]
  unfold Gen.k0_part58_skel
  simp only [Prog.lift, Prog.bind_op, Prog.bind_ret, Prog.pure_eq_ret, Prog.bind_assoc]
  iintro #HE HO HR HI Hk
  iapply (recv I K 10 (by decide) 10 rfl c (keep_full I c (by decide)).1 18 (by decide +kernel) rfl rfl) $$ HE HO HR
  iintro ⟨HO, HR, -⟩
  iapply (recv I K 11 (by decide) 11 rfl c (keep_full I c (by decide)).1 18 (by decide +kernel) rfl rfl) $$ HE HO HR
  iintro ⟨HO, HR, -⟩
  iapply (ld_q I 8 c (by revert c; decide +kernel)) $$ HI
  iintro HI
  iapply (ld_rk I 8 12 4 (by decide) (by decide) 8 rfl rfl c (by revert c; decide +kernel) (by revert c; decide +kernel)) $$ HR
  iintro HR
  iapply (wp_done c)
  iapply Hk
  isplitl [HO]; · iexact HO
  isplitl [HR]; · iexact HR
  iexact HI

theorem part59 (c : Dev nD) {v19 v663 v668 v672 v1348 v1363 v1369 v1371 Q}
    (hw8 : Gen.k0_pay113 v1363 v1369 v1371 (rvA I c 8) = headAt I c (sl 8 c) (sl_lt 8 c)) :
    Env I K c ⊢ iprop(rcvd I c 12 -∗ quarter I c 2 0 -∗ ins I c -∗ (∀ v1384, (rcvd I c 12 ∗ ins I c ∗ quarter I c 2 1) -∗ Q ⟨v1384, (Gen.k0_pay118 v663 v672 (qA I c 9) (rkA I c 9) (rvA I c 9)), (Gen.k0_pay119 v663 v668 (qA I c 9) (rkA I c 9))⟩)
      -∗ WP c ((on k0_part59) c v19 v663 v668 v672 v1348 v1363 v1369 v1371) Q) := by
  unfold on; rw [Gen.k0_part59_eq_skeleton]
  unfold Gen.k0_part59_skel
  simp only [Prog.lift, Prog.bind_op, Prog.bind_ret, Prog.pure_eq_ret, Prog.bind_assoc]
  iintro #HE HR Z2 HI Hk
  iapply (ld_rv I 8 12 10 (by decide) (by decide) 10 rfl rfl c (by clear hw8; revert c; decide +kernel) (by clear hw8; revert c; decide +kernel)) $$ HR
  iintro HR
  iapply (ld_o I 2 0 (by decide) c (by clear hw8; revert c; decide +kernel)) $$ Z2
  iintro Z2 %v1380
  iapply (st_o I 2 0 (by decide) c (by clear hw8; revert c; decide +kernel) hw8) $$ Z2
  iintro Z2
  iapply (ld_q I 9 c (by clear hw8; revert c; decide +kernel)) $$ HI
  iintro HI
  iapply (ld_rk I 9 12 4 (by decide) (by decide) 8 rfl rfl c (by clear hw8; revert c; decide +kernel) (by clear hw8; revert c; decide +kernel)) $$ HR
  iintro HR
  iapply (ld_rv I 9 12 10 (by decide) (by decide) 10 rfl rfl c (by clear hw8; revert c; decide +kernel) (by clear hw8; revert c; decide +kernel)) $$ HR
  iintro HR
  iapply (wp_done c)
  iapply Hk
  isplitl [HR]; · iexact HR
  isplitl [HI]; · iexact HI
  iexact Z2

theorem part60 (c : Dev nD) {v19 v685 v690 v694 v1384 v1412 v1413 Q}
    (hw9 : Gen.k0_pay120 v1412 v1413 = headAt I c (sl 9 c) (sl_lt 9 c))
    (hw10 : Gen.k0_pay121 v685 v690 v694 (qA I c 10) (rkA I c 10) (rvA I c 10) = headAt I c (sl 10 c) (sl_lt 10 c)) :
    Env I K c ⊢ iprop(quarter I c 2 1 -∗ ins I c -∗ rcvd I c 12 -∗ ((rcvd I c 12 ∗ ins I c ∗ quarter I c 2 3) -∗ Q ⟨⟩)
      -∗ WP c ((on k0_part60) c v19 v685 v690 v694 v1384 v1412 v1413) Q) := by
  unfold on; rw [Gen.k0_part60_eq_skeleton]
  unfold Gen.k0_part60_skel
  simp only [Prog.lift, Prog.bind_op, Prog.bind_ret, Prog.pure_eq_ret, Prog.bind_assoc]
  iintro #HE Z2 HI HR Hk
  iapply (ld_o I 2 1 (by decide) c (by clear hw9 hw10; revert c; decide +kernel)) $$ Z2
  iintro Z2 %v1416
  iapply (st_o I 2 1 (by decide) c (by clear hw9 hw10; revert c; decide +kernel) hw9) $$ Z2
  iintro Z2
  iapply (ld_q I 10 c (by clear hw9 hw10; revert c; decide +kernel)) $$ HI
  iintro HI
  iapply (ld_rk I 10 12 6 (by decide) (by decide) 9 rfl rfl c (by clear hw9 hw10; revert c; decide +kernel) (by clear hw9 hw10; revert c; decide +kernel)) $$ HR
  iintro HR
  iapply (ld_rv I 10 12 11 (by decide) (by decide) 11 rfl rfl c (by clear hw9 hw10; revert c; decide +kernel) (by clear hw9 hw10; revert c; decide +kernel)) $$ HR
  iintro HR
  iapply (ld_o I 2 2 (by decide) c (by clear hw9 hw10; revert c; decide +kernel)) $$ Z2
  iintro Z2 %v1452
  iapply (st_o I 2 2 (by decide) c (by clear hw9 hw10; revert c; decide +kernel) hw10) $$ Z2
  iintro Z2
  iapply (wp_done c)
  iapply Hk
  isplitl [HR]; · iexact HR
  isplitl [HI]; · iexact HI
  iexact Z2

theorem part61 (c : Dev nD) {v707 v712 v716 Q}
    (hw11 : Gen.k0_pay122 v707 v712 v716 (qA I c 11) (rkA I c 11) (rvA I c 11) = headAt I c (sl 11 c) (sl_lt 11 c)) :
    Env I K c ⊢ iprop(ins I c -∗ rcvd I c 12 -∗ quarter I c 2 3 -∗ ((rcvd I c 12 ∗ ins I c ∗ wbS I c 2 1) -∗ Q (Scalar.cmpi .eq (wj c 2) 1#32))
      -∗ WP c ((on k0_part61) c (wj c 2) v707 v712 v716) Q) := by
  unfold on; rw [Gen.k0_part61_eq_skeleton]
  unfold Gen.k0_part61_skel
  simp only [Prog.lift, Prog.bind_op, Prog.bind_ret, Prog.pure_eq_ret, Prog.bind_assoc]
  iintro #HE HI HR Z2 Hk
  iapply (ld_q I 11 c (by clear hw11; revert c; decide +kernel)) $$ HI
  iintro HI
  iapply (ld_rk I 11 12 6 (by decide) (by decide) 9 rfl rfl c (by clear hw11; revert c; decide +kernel) (by clear hw11; revert c; decide +kernel)) $$ HR
  iintro HR
  iapply (ld_rv I 11 12 11 (by decide) (by decide) 11 rfl rfl c (by clear hw11; revert c; decide +kernel) (by clear hw11; revert c; decide +kernel)) $$ HR
  iintro HR
  iapply (ld_o I 2 3 (by decide) c (by clear hw11; revert c; decide +kernel)) $$ Z2
  iintro Z2 %v1488
  iapply (st_o I 2 3 (by decide) c (by clear hw11; revert c; decide +kernel) hw11) $$ Z2
  iintro Z2
  ihave Z2 := (wb_start I c 2) $$ Z2
  iapply (wb_if I K 2 0 0 1 rfl rfl c (by clear hw11; revert c; decide +kernel) rfl rfl (fun Q' => wb0 I K c Q')) $$ HE Z2
  iintro Z2
  iapply (wp_done c)
  iapply Hk
  isplitl [HR]; · iexact HR
  isplitl [HI]; · iexact HI
  iexact Z2

theorem part62 (c : Dev nD) {v5 v8 v9 Q} :
    Env I K c ⊢ iprop(wbS I c 2 1 -∗ owing c 18 -∗ rcvd I c 12 -∗ ((owing c 18 ∗ rcvd I c 14 ∗ going c (J c 2)) -∗ Q ⟨⟩)
      -∗ WP c ((on k0_part62) c v5 v8 v9 (wj c 2) (Scalar.cmpi .eq (wj c 2) 1#32)) Q) := by
  unfold on; rw [Gen.k0_part62_eq_skeleton]
  unfold Gen.k0_part62_skel
  simp only [Prog.lift, Prog.bind_op, Prog.bind_ret, Prog.pure_eq_ret, Prog.bind_assoc]
  iintro #HE Z2 HO HR Hk
  iapply (wb_if I K 2 1 1 2 rfl rfl c (by revert c; decide +kernel) rfl rfl (fun Q' => wb1 I K c Q')) $$ HE Z2
  iintro Z2
  iapply (wb_if I K 2 2 2 3 rfl rfl c (by revert c; decide +kernel) rfl rfl (fun Q' => wb2 I K c Q')) $$ HE Z2
  iintro Z2
  iapply (wb_if I K 2 3 3 4 rfl rfl c (by revert c; decide +kernel) rfl rfl (fun Q' => wb3 I K c Q')) $$ HE Z2
  iintro Z2
  ihave Z2 := (wb_end I c 2) $$ Z2
  iapply (recv I K 12 (by decide) 16 rfl c (keep_full I c (by decide)).1 18 (by decide +kernel) rfl rfl) $$ HE HO HR
  iintro ⟨HO, HR, -⟩
  iapply (recv I K 13 (by decide) 17 rfl c (keep_full I c (by decide)).1 18 (by decide +kernel) rfl rfl) $$ HE HO HR
  iintro ⟨HO, HR, -⟩
  iapply (wp_done c)
  iapply Hk
  isplitl [HO]; · iexact HO
  isplitl [HR]; · iexact HR
  iexact Z2

end Cert.KernelIdeal.Attn

end
-- ==== Proof.BodyD.lean ====
module

public import proofs.«01_k».proof.Proof.Talk

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : GSem nD τ sig → ℕ)

/-! Running the parts of the body: the last quarter, the last waits. -/

theorem part63 (c : Dev nD) {v2 v5 v8 v10 v11 Q} :
    Env I K c ⊢ iprop(owing c 18 -∗ rcvd I c 14 -∗ ((owing c 18 ∗ rcvd I c 16) -∗ Q ⟨⟩)
      -∗ WP c ((on k0_part63) c v2 v5 v8 v10 v11) Q) := by
  unfold on; rw [Gen.k0_part63_eq_skeleton]
  unfold Gen.k0_part63_skel
  simp only [Prog.lift, Prog.bind_op, Prog.bind_ret, Prog.pure_eq_ret, Prog.bind_assoc]
  iintro #HE HO HR Hk
  iapply (recv I K 14 (by decide) 12 rfl c (keep_full I c (by decide)).1 18 (by decide +kernel) rfl rfl) $$ HE HO HR
  iintro ⟨HO, HR, -⟩
  iapply (recv I K 15 (by decide) 14 rfl c (keep_full I c (by decide)).1 18 (by decide +kernel) rfl rfl) $$ HE HO HR
  iintro ⟨HO, HR, -⟩
  iapply (wp_done c)
  iapply Hk
  isplitl [HO]; · iexact HO
  iexact HR

theorem part64 (c : Dev nD) {v2 v5 v11 v23 v763 v768 Q} :
    Env I K c ⊢ iprop(owing c 18 -∗ rcvd I c 16 -∗ ins I c -∗ (∀ v1564, (owing c 18 ∗ rcvd I c 18 ∗ ins I c) -∗ Q ⟨v1564, (Gen.k0_pay125 v763 (qA I c 12) (rkA I c 12)), (Gen.k0_pay126 v763 (qA I c 12) (rkA I c 12)), (Gen.k0_pay127 v763 v768 (qA I c 12) (rkA I c 12)), (Gen.k0_pay128 v763 (qA I c 12) (rkA I c 12))⟩)
      -∗ WP c ((on k0_part64) c v2 v5 v11 v23 v763 v768) Q) := by
  unfold on; rw [Gen.k0_part64_eq_skeleton]
  unfold Gen.k0_part64_skel
  simp only [Prog.lift, Prog.bind_op, Prog.bind_ret, Prog.pure_eq_ret, Prog.bind_assoc]
  iintro #HE HO HR HI Hk
  iapply (recv I K 16 (by decide) 13 rfl c (keep_full I c (by decide)).1 18 (by decide +kernel) rfl rfl) $$ HE HO HR
  iintro ⟨HO, HR, -⟩
  iapply (recv I K 17 (by decide) 15 rfl c (keep_full I c (by decide)).1 18 (by decide +kernel) rfl rfl) $$ HE HO HR
  iintro ⟨HO, HR, -⟩
  iapply (ld_q I 12 c (by revert c; decide +kernel)) $$ HI
  iintro HI
  iapply (ld_rk I 12 18 12 (by decide) (by decide) 16 rfl rfl c (by revert c; decide +kernel) (by revert c; decide +kernel)) $$ HR
  iintro HR
  iapply (wp_done c)
  iapply Hk
  isplitl [HO]; · iexact HO
  isplitl [HR]; · iexact HR
  iexact HI

theorem part65 (c : Dev nD) {v23 v772 v785 v790 v794 v1564 v1579 v1581 v1582 v1584 Q}
    (hw12 : Gen.k0_pay129 v772 v1579 v1581 v1582 v1584 (rvA I c 12) = headAt I c (sl 12 c) (sl_lt 12 c)) :
    Env I K c ⊢ iprop(rcvd I c 18 -∗ quarter I c 3 0 -∗ ins I c -∗ (∀ v1600, (rcvd I c 18 ∗ ins I c ∗ quarter I c 3 1) -∗ Q ⟨v1600, (Gen.k0_pay132 v785 (qA I c 13) (rkA I c 13)), (Gen.k0_pay134 v785 v790 (qA I c 13) (rkA I c 13)), (Gen.k0_pay135 v785 v794 (qA I c 13) (rkA I c 13)), (Gen.k0_pay136 (rvA I c 13))⟩)
      -∗ WP c ((on k0_part65) c v23 v772 v785 v790 v794 v1564 v1579 v1581 v1582 v1584) Q) := by
  unfold on; rw [Gen.k0_part65_eq_skeleton]
  unfold Gen.k0_part65_skel
  simp only [Prog.lift, Prog.bind_op, Prog.bind_ret, Prog.pure_eq_ret, Prog.bind_assoc]
  iintro #HE HR Z3 HI Hk
  iapply (ld_rv I 12 18 13 (by decide) (by decide) 17 rfl rfl c (by clear hw12; revert c; decide +kernel) (by clear hw12; revert c; decide +kernel)) $$ HR
  iintro HR
  iapply (ld_o I 3 0 (by decide) c (by clear hw12; revert c; decide +kernel)) $$ Z3
  iintro Z3 %v1596
  iapply (st_o I 3 0 (by decide) c (by clear hw12; revert c; decide +kernel) hw12) $$ Z3
  iintro Z3
  iapply (ld_q I 13 c (by clear hw12; revert c; decide +kernel)) $$ HI
  iintro HI
  iapply (ld_rk I 13 18 14 (by decide) (by decide) 12 rfl rfl c (by clear hw12; revert c; decide +kernel) (by clear hw12; revert c; decide +kernel)) $$ HR
  iintro HR
  iapply (ld_rv I 13 18 15 (by decide) (by decide) 14 rfl rfl c (by clear hw12; revert c; decide +kernel) (by clear hw12; revert c; decide +kernel)) $$ HR
  iintro HR
  iapply (wp_done c)
  iapply Hk
  isplitl [HR]; · iexact HR
  isplitl [HI]; · iexact HI
  iexact Z3

theorem part66 (c : Dev nD) {v23 v807 v812 v816 v1600 v1615 v1621 v1623 v1626 Q}
    (hw13 : Gen.k0_pay137 v1615 v1621 v1623 v1626 = headAt I c (sl 13 c) (sl_lt 13 c)) :
    Env I K c ⊢ iprop(quarter I c 3 1 -∗ ins I c -∗ rcvd I c 18 -∗ ((rcvd I c 18 ∗ ins I c ∗ quarter I c 3 2) -∗ Q ((Gen.k0_pay138 v807 v812 v816 (qA I c 14) (rkA I c 14) (rvA I c 14))))
      -∗ WP c ((on k0_part66) c v23 v807 v812 v816 v1600 v1615 v1621 v1623 v1626) Q) := by
  unfold on; rw [Gen.k0_part66_eq_skeleton]
  unfold Gen.k0_part66_skel
  simp only [Prog.lift, Prog.bind_op, Prog.bind_ret, Prog.pure_eq_ret, Prog.bind_assoc]
  iintro #HE Z3 HI HR Hk
  iapply (ld_o I 3 1 (by decide) c (by clear hw13; revert c; decide +kernel)) $$ Z3
  iintro Z3 %v1632
  iapply (st_o I 3 1 (by decide) c (by clear hw13; revert c; decide +kernel) hw13) $$ Z3
  iintro Z3
  iapply (ld_q I 14 c (by clear hw13; revert c; decide +kernel)) $$ HI
  iintro HI
  iapply (ld_rk I 14 18 16 (by decide) (by decide) 13 rfl rfl c (by clear hw13; revert c; decide +kernel) (by clear hw13; revert c; decide +kernel)) $$ HR
  iintro HR
  iapply (ld_rv I 14 18 17 (by decide) (by decide) 15 rfl rfl c (by clear hw13; revert c; decide +kernel) (by clear hw13; revert c; decide +kernel)) $$ HR
  iintro HR
  iapply (wp_done c)
  iapply Hk
  isplitl [HR]; · iexact HR
  isplitl [HI]; · iexact HI
  iexact Z3

theorem part67 (c : Dev nD) {v829 v834 v838 v1666 Q}
    (hw14 : Gen.k0_pay139 v1666 = headAt I c (sl 14 c) (sl_lt 14 c))
    (hw15 : Gen.k0_pay140 v829 v834 v838 (qA I c 15) (rkA I c 15) (rvA I c 15) = headAt I c (sl 15 c) (sl_lt 15 c)) :
    Env I K c ⊢ iprop(quarter I c 3 2 -∗ ins I c -∗ rcvd I c 18 -∗ ((rcvd I c 18 ∗ ins I c ∗ quarter I c 3 4) -∗ Q ⟨(Scalar.extui (Scalar.cmpi .eq (wj c 3) 0#32)), 0#32⟩)
      -∗ WP c ((on k0_part67) c (wj c 3) v829 v834 v838 v1666) Q) := by
  unfold on; rw [Gen.k0_part67_eq_skeleton]
  unfold Gen.k0_part67_skel
  simp only [Prog.lift, Prog.bind_op, Prog.bind_ret, Prog.pure_eq_ret, Prog.bind_assoc]
  iintro #HE Z3 HI HR Hk
  iapply (ld_o I 3 2 (by decide) c (by clear hw14 hw15; revert c; decide +kernel)) $$ Z3
  iintro Z3 %v1668
  iapply (st_o I 3 2 (by decide) c (by clear hw14 hw15; revert c; decide +kernel) hw14) $$ Z3
  iintro Z3
  iapply (ld_q I 15 c (by clear hw14 hw15; revert c; decide +kernel)) $$ HI
  iintro HI
  iapply (ld_rk I 15 18 16 (by decide) (by decide) 13 rfl rfl c (by clear hw14 hw15; revert c; decide +kernel) (by clear hw14 hw15; revert c; decide +kernel)) $$ HR
  iintro HR
  iapply (ld_rv I 15 18 17 (by decide) (by decide) 15 rfl rfl c (by clear hw14 hw15; revert c; decide +kernel) (by clear hw14 hw15; revert c; decide +kernel)) $$ HR
  iintro HR
  iapply (ld_o I 3 3 (by decide) c (by clear hw14 hw15; revert c; decide +kernel)) $$ Z3
  iintro Z3 %v1704
  iapply (st_o I 3 3 (by decide) c (by clear hw14 hw15; revert c; decide +kernel) hw15) $$ Z3
  iintro Z3
  iapply (wp_done c)
  iapply Hk
  isplitl [HR]; · iexact HR
  isplitl [HI]; · iexact HI
  iexact Z3

theorem part68 (c : Dev nD) {Q} :
    Env I K c ⊢ iprop(quarter I c 3 4 -∗ owing c 18 -∗ back I c 0 -∗ ((owing c 18 ∗ going c (J c 3) ∗ back I c 3) -∗ Q ⟨⟩)
      -∗ WP c ((on k0_part68) c (wj c 3) (Scalar.extui (Scalar.cmpi .eq (wj c 3) 0#32)) 0#32) Q) := by
  unfold on; rw [Gen.k0_part68_eq_skeleton]
  unfold Gen.k0_part68_skel
  simp only [Prog.lift, Prog.bind_op, Prog.bind_ret, Prog.pure_eq_ret, Prog.bind_assoc]
  iintro #HE Z3 HO HB Hk
  ihave Z3 := (wb_start I c 3) $$ Z3
  iapply (wb_if I K 3 0 0 1 rfl rfl c (by revert c; decide +kernel) rfl rfl (fun Q' => wb0 I K c Q')) $$ HE Z3
  iintro Z3
  iapply (wb_if I K 3 1 1 2 rfl rfl c (by revert c; decide +kernel) rfl rfl (fun Q' => wb1 I K c Q')) $$ HE Z3
  iintro Z3
  iapply (wb_if I K 3 2 2 3 rfl rfl c (by revert c; decide +kernel) rfl rfl (fun Q' => wb2 I K c Q')) $$ HE Z3
  iintro Z3
  iapply (wb_if I K 3 3 3 4 rfl rfl c (by revert c; decide +kernel) rfl rfl (fun Q' => wb3 I K c Q')) $$ HE Z3
  iintro Z3
  ihave Z3 := (wb_end I c 3) $$ Z3
  iapply (sent_back I K 0 (by decide) 0 rfl c rfl rfl) $$ HE HO HB
  iintro ⟨HO, HB⟩
  iapply (sent_back I K 1 (by decide) 1 rfl c rfl rfl) $$ HE HO HB
  iintro ⟨HO, HB⟩
  iapply (sent_back I K 2 (by decide) 2 rfl c rfl rfl) $$ HE HO HB
  iintro ⟨HO, HB⟩
  iapply (wp_done c)
  iapply Hk
  isplitl [HO]; · iexact HO
  isplitl [Z3]; · iexact Z3
  iexact HB

theorem part69 (c : Dev nD) {Q} :
    Env I K c ⊢ iprop(owing c 18 -∗ back I c 3 -∗ ((owing c 18 ∗ back I c 8) -∗ Q ⟨⟩)
      -∗ WP c ((on k0_part69) c) Q) := by
  unfold on; rw [Gen.k0_part69_eq_skeleton]
  unfold Gen.k0_part69_skel
  simp only [Prog.lift, Prog.bind_op, Prog.bind_ret, Prog.pure_eq_ret, Prog.bind_assoc]
  iintro #HE HO HB Hk
  iapply (sent_back I K 3 (by decide) 3 rfl c rfl rfl) $$ HE HO HB
  iintro ⟨HO, HB⟩
  iapply (sent_back I K 4 (by decide) 4 rfl c rfl rfl) $$ HE HO HB
  iintro ⟨HO, HB⟩
  iapply (sent_back I K 5 (by decide) 5 rfl c rfl rfl) $$ HE HO HB
  iintro ⟨HO, HB⟩
  iapply (sent_back I K 6 (by decide) 6 rfl c rfl rfl) $$ HE HO HB
  iintro ⟨HO, HB⟩
  iapply (sent_back I K 7 (by decide) 7 rfl c rfl rfl) $$ HE HO HB
  iintro ⟨HO, HB⟩
  iapply (wp_done c)
  iapply Hk
  isplitl [HO]; · iexact HO
  iexact HB

theorem part70 (c : Dev nD) {Q} :
    Env I K c ⊢ iprop(owing c 18 -∗ back I c 8 -∗ ((owing c 18 ∗ back I c 13) -∗ Q ⟨⟩)
      -∗ WP c ((on k0_part70) c) Q) := by
  unfold on; rw [Gen.k0_part70_eq_skeleton]
  unfold Gen.k0_part70_skel
  simp only [Prog.lift, Prog.bind_op, Prog.bind_ret, Prog.pure_eq_ret, Prog.bind_assoc]
  iintro #HE HO HB Hk
  iapply (sent_back I K 8 (by decide) 8 rfl c rfl rfl) $$ HE HO HB
  iintro ⟨HO, HB⟩
  iapply (sent_back I K 9 (by decide) 9 rfl c rfl rfl) $$ HE HO HB
  iintro ⟨HO, HB⟩
  iapply (sent_back I K 10 (by decide) 10 rfl c rfl rfl) $$ HE HO HB
  iintro ⟨HO, HB⟩
  iapply (sent_back I K 11 (by decide) 11 rfl c rfl rfl) $$ HE HO HB
  iintro ⟨HO, HB⟩
  iapply (sent_back I K 12 (by decide) 12 rfl c rfl rfl) $$ HE HO HB
  iintro ⟨HO, HB⟩
  iapply (wp_done c)
  iapply Hk
  isplitl [HO]; · iexact HO
  iexact HB

theorem part71 (c : Dev nD) {Q} :
    Env I K c ⊢ iprop(owing c 18 -∗ back I c 13 -∗ ((owing c 18 ∗ back I c 18) -∗ Q ⟨⟩)
      -∗ WP c ((on k0_part71) c) Q) := by
  unfold on; rw [Gen.k0_part71_eq_skeleton]
  unfold Gen.k0_part71_skel
  simp only [Prog.lift, Prog.bind_op, Prog.bind_ret, Prog.pure_eq_ret, Prog.bind_assoc]
  iintro #HE HO HB Hk
  iapply (sent_back I K 13 (by decide) 13 rfl c rfl rfl) $$ HE HO HB
  iintro ⟨HO, HB⟩
  iapply (sent_back I K 14 (by decide) 14 rfl c rfl rfl) $$ HE HO HB
  iintro ⟨HO, HB⟩
  iapply (sent_back I K 15 (by decide) 15 rfl c rfl rfl) $$ HE HO HB
  iintro ⟨HO, HB⟩
  iapply (sent_back I K 16 (by decide) 16 rfl c rfl rfl) $$ HE HO HB
  iintro ⟨HO, HB⟩
  iapply (sent_back I K 17 (by decide) 17 rfl c rfl rfl) $$ HE HO HB
  iintro ⟨HO, HB⟩
  iapply (wp_done c)
  iapply Hk
  isplitl [HO]; · iexact HO
  iexact HB

theorem part72 (c : Dev nD) {Q} :
    Env I K c ⊢ iprop(owing c 18 -∗ outs I c 0 -∗ ((owing c 18 ∗ outs I c 4) -∗ Q ⟨⟩)
      -∗ WP c ((on k0_part72)) Q) := by
  unfold on; rw [Gen.k0_part72_eq_skeleton]
  unfold Gen.k0_part72_skel
  simp only [Prog.lift, Prog.bind_op, Prog.bind_ret, Prog.pure_eq_ret, Prog.bind_assoc]
  iintro #HE HO HT Hk
  iapply (out_o I K 0 (by decide) 0 rfl c rfl rfl) $$ HE HO HT
  iintro ⟨HO, HT⟩
  iapply (out_o I K 1 (by decide) 1 rfl c rfl rfl) $$ HE HO HT
  iintro ⟨HO, HT⟩
  iapply (out_o I K 2 (by decide) 2 rfl c rfl rfl) $$ HE HO HT
  iintro ⟨HO, HT⟩
  iapply (out_o I K 3 (by decide) 3 rfl c rfl rfl) $$ HE HO HT
  iintro ⟨HO, HT⟩
  iapply (wp_done c)
  iapply Hk
  isplitl [HO]; · iexact HO
  iexact HT

theorem part73 (c : Dev nD) {Q} :
    Env I K c ⊢ iprop(owing c 18 -∗ outs I c 4 -∗ ((owing c 18 ∗ outs I c 8) -∗ Q ⟨⟩)
      -∗ WP c ((on k0_part73)) Q) := by
  unfold on; rw [Gen.k0_part73_eq_skeleton]
  unfold Gen.k0_part73_skel
  simp only [Prog.lift, Prog.bind_op, Prog.bind_ret, Prog.pure_eq_ret, Prog.bind_assoc]
  iintro #HE HO HT Hk
  iapply (out_o I K 4 (by decide) 4 rfl c rfl rfl) $$ HE HO HT
  iintro ⟨HO, HT⟩
  iapply (out_o I K 5 (by decide) 5 rfl c rfl rfl) $$ HE HO HT
  iintro ⟨HO, HT⟩
  iapply (out_o I K 6 (by decide) 6 rfl c rfl rfl) $$ HE HO HT
  iintro ⟨HO, HT⟩
  iapply (out_o I K 7 (by decide) 7 rfl c rfl rfl) $$ HE HO HT
  iintro ⟨HO, HT⟩
  iapply (wp_done c)
  iapply Hk
  isplitl [HO]; · iexact HO
  iexact HT

theorem part74 (c : Dev nD) {Q} :
    Env I K c ⊢ iprop(owing c 18 -∗ outs I c 8 -∗ ((owing c 18 ∗ outs I c 12) -∗ Q ⟨⟩)
      -∗ WP c ((on k0_part74)) Q) := by
  unfold on; rw [Gen.k0_part74_eq_skeleton]
  unfold Gen.k0_part74_skel
  simp only [Prog.lift, Prog.bind_op, Prog.bind_ret, Prog.pure_eq_ret, Prog.bind_assoc]
  iintro #HE HO HT Hk
  iapply (out_o I K 8 (by decide) 8 rfl c rfl rfl) $$ HE HO HT
  iintro ⟨HO, HT⟩
  iapply (out_o I K 9 (by decide) 9 rfl c rfl rfl) $$ HE HO HT
  iintro ⟨HO, HT⟩
  iapply (out_o I K 10 (by decide) 10 rfl c rfl rfl) $$ HE HO HT
  iintro ⟨HO, HT⟩
  iapply (out_o I K 11 (by decide) 11 rfl c rfl rfl) $$ HE HO HT
  iintro ⟨HO, HT⟩
  iapply (wp_done c)
  iapply Hk
  isplitl [HO]; · iexact HO
  iexact HT

end Cert.KernelIdeal.Attn

end
-- ==== Proof.Body.lean ====
module

public import proofs.«01_k».proof.Proof.BodyA
public import proofs.«01_k».proof.Proof.BodyB
public import proofs.«01_k».proof.Proof.BodyC
public import proofs.«01_k».proof.Proof.BodyD

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : GSem nD τ sig → ℕ)

/-- What a device owes before the barrier: its remote copies, and a unit to each peer's barrier. -/
def owed₀ (c : Dev nD) : CellTallies nD τ sig Unit :=
  ((owe c (sList.drop 0) + tallyAt (barCell (pd 2 c)) () 1) + tallyAt (barCell (pd 1 c)) () 1) + tallyAt (barCell (pd 0 c)) () 1

/-- What the barrier needs: for each peer the right to raise its barrier and the landing places to hand it. -/
def barTok (c : Dev nD) : sProp 𝕄 :=
  iprop((dutyTok ER (barCell (pd 0 c)) 0 0 ∗ landD (F := F) 0 c) ∗ (dutyTok ER (barCell (pd 1 c)) 0 1 ∗ landD (F := F) 1 c)
    ∗ (dutyTok ER (barCell (pd 2 c)) 0 2 ∗ landD (F := F) 2 c) ∗ cred (tallyAt (barCell c) () 3) ∗ atPos ER (barCell c) 0 ∅ 0)

/-- Asking for the device's own number. -/
theorem wp_dev (c : Dev nD) {α : Type} {k : Dev nD → Prog (TpuEff nD τ sig (Elt F) Λ₀ .tc) α} {Q : α → sProp 𝕄} :
    WP c (k c) Q ⊢ WP c (.op .deviceId k) Q :=
  Entails.of_eq (wp_deviceId (defs := defs₀ (F := F)) (Γ := []) 𝒱₀ (c : Thread nD τ) none Set.univ).symm

theorem part17 (c : Dev nD) {Q} :
    Env I K c ⊢ iprop(qGo I c 0 -∗ (∀ w2 w5 w8 w9 w10 w11, qGo I c 1 -∗ Q ⟨c, w2, w5, w8, w9, w10, w11, wj c 0, wj c 1, wj c 2, wj c 3⟩)
      -∗ WP c (on k0_part17) Q) := by
  have h0 : Scalar.addi (Scalar.muli 2#32 (Scalar.remsi (Scalar.divsi (Dev.word c) 2#32) 2#32)) (Scalar.remsi (Scalar.divsi (Dev.word c) 1#32) 2#32) = wj c 0 := by
    revert c; decide +kernel
  have h1 : Scalar.addi (Scalar.muli 2#32 (Scalar.subi 1#32 (Scalar.remsi (Scalar.divsi (Dev.word c) 2#32) 2#32))) (Scalar.remsi (Scalar.divsi (Dev.word c) 1#32) 2#32) = wj c 1 := by
    clear h0; revert c; decide +kernel
  have h2 : Scalar.addi (Scalar.muli 2#32 (Scalar.remsi (Scalar.divsi (Dev.word c) 2#32) 2#32)) (Scalar.subi 1#32 (Scalar.remsi (Scalar.divsi (Dev.word c) 1#32) 2#32)) = wj c 2 := by
    clear h0 h1; revert c; decide +kernel
  have h3 : Scalar.addi (Scalar.muli 2#32 (Scalar.subi 1#32 (Scalar.remsi (Scalar.divsi (Dev.word c) 2#32) 2#32))) (Scalar.subi 1#32 (Scalar.remsi (Scalar.divsi (Dev.word c) 1#32) 2#32)) = wj c 3 := by
    clear h0 h1 h2; revert c; decide +kernel
  unfold on; rw [Gen.k0_part17_eq_skeleton]
  unfold Gen.k0_part17_skel
  simp only [Prog.lift, Prog.bind_op, Prog.bind_ret, Prog.pure_eq_ret, Prog.bind_assoc]
  iintro #HE HG Hk
  iapply (wp_dev c)
  iapply (go_q I K 0 (by decide) 0 rfl c (b := 0) (h := 0) rfl (by decide) rfl rfl rfl) $$ HE HG
  iintro HG
  iapply (wp_done c)
  rw [← h0, ← h1, ← h2, ← h3]
  iapply Hk
  iexact HG

theorem part22 (c : Dev nD) {w2 w5 w8 w10 w11 w13 w128 w1 Q} :
    Env I K c ⊢ iprop(owesE c (owed₀ c) -∗ barTok c
      -∗ (∀ w, (owing c 0 ∗ semVal (barCell c) 0 ∗ bigSep Finset.univ fun k => landP k (peer k c)) -∗ Q w)
      -∗ WP c ((on k0_part22) c w2 w5 w8 w10 w11 w13 (SemArray.scalar (sig.barrier 0 rfl)) w128 w1) Q) := by
  unfold on; rw [Gen.k0_part22_eq_skeleton]
  unfold Gen.k0_part22_skel
  simp only [semSignalWord, semWaitWord, Prog.lift, Prog.bind_op, Prog.bind_ret, Prog.pure_eq_ret, Prog.bind_assoc]
  unfold barTok owed₀
  iintro #HE HO ⟨⟨T0, L0⟩, ⟨T1, L1⟩, ⟨T2, L2⟩, Hc, Hat⟩ Hk
  iapply (bar_signal I K 0 c _ (by revert c; decide +kernel) rfl rfl _) $$ HE HO T0 L0
  iintro HO
  iapply (bar_signal I K 1 c _ (by revert c; decide +kernel) rfl rfl _) $$ HE HO T1 L1
  iintro HO
  iapply (bar_signal I K 2 c _ (by revert c; decide +kernel) rfl rfl _) $$ HE HO T2 L2
  iintro HO
  iapply (bar_wait I K c rfl rfl) $$ HE [HO] Hc Hat
  · unfold owing; iexact HO
  iintro ⟨HO, Hs, HL⟩
  iapply (wp_done c)
  iapply Hk
  isplitl [HO]; · iexact HO
  isplitl [Hs]; · iexact Hs
  iexact HL

/-- What a run of the body starts from. -/
def bodyPre (c : Dev nD) : sProp 𝕄 :=
  iprop(owesE c (owed₀ c) ∗ barTok c ∗ qGo I c 0 ∗ (tok 16 c ∗ tok 17 c)
    ∗ (pK .hk c Finset.univ fullShare.left (I.k c) ∗ pK .hv c Finset.univ fullShare.left (I.v c))
    ∗ ((∃ f : KB F, pK .kv c Finset.univ fullShare f) ∗ (∃ f : KB F, pK .vv c Finset.univ fullShare f))
    ∗ (bigSep Finset.univ fun k : Fin 18 => sTok k c)
    ∗ (srcP I 0 c ∗ srcP I 1 c ∗ srcP I 2 c ∗ srcP I 3 c ∗ srcP I 16 c ∗ srcP I 17 c)
    ∗ (bigSep Finset.univ fun k : Fin 18 => pend (sR k) c)
    ∗ quarter I c 0 0 ∗ quarter I c 1 0 ∗ quarter I c 2 0 ∗ quarter I c 3 0)

/-- What it ends with. -/
def bodyPost (c : Dev nD) : sProp 𝕄 :=
  iprop(owing c 18 ∗ semVal (barCell c) 0 ∗ ins I c ∗ inRest I c ∗ rcvd I c 18 ∗ back I c 18 ∗ outs I c 16)

theorem q_turn (c : Dev nD) : qGo I c 16 ⊢ qIn I c 0 := by
  unfold qGo qIn
  rw [prog_all, prog_zero]
theorem rcvd_intro (c : Dev nD) : (bigSep Finset.univ fun k : Fin 18 => pend (sR k) c : sProp 𝕄) ⊢ rcvd I c 0 := by
  unfold rcvd
  rw [prog_zero]
  exact Entails.of_eq (bigSep_univ_equiv (Equiv.ofBijective rOrd (by decide +kernel)) (fun k : Fin 18 => (pend (sR k) c : sProp 𝕄)))
theorem back_intro (c : Dev nD) : sent c 18 ⊢ back I c 0 := by
  unfold sent back
  rw [prog_all, prog_zero]
  exact Entails.of_eq (bigSep_univ_equiv (Equiv.ofBijective sOrd (by decide +kernel)) (fun k : Fin 18 => (pend (sS k) c : sProp 𝕄))).symm
theorem outs_intro (c : Dev nD) : (going c (J c 0) : sProp 𝕄) ⊢ iprop(going c (J c 1) -∗ going c (J c 2) -∗ going c (J c 3) -∗ outs I c 0) := by
  unfold outs
  rw [prog_zero]
  have hJ : Function.Bijective (J c) := by revert c; decide +kernel
  have e1 : (bigSep Finset.univ fun q : Fin 4 => going (F := F) c (J c q) : sProp 𝕄) = bigSep Finset.univ fun j : Fin 4 => going c j :=
    (bigSep_univ_equiv (Equiv.ofBijective (J c) hJ) (fun j : Fin 4 => (going c j : sProp 𝕄))).symm
  have e2 : (bigSep Finset.univ fun i : Fin 16 => pend (F := F) (sO i) c : sProp 𝕄) = bigSep Finset.univ fun j : Fin 4 => going c j := by
    unfold going
    rw [← bigSep_univ_prod (fun p : Fin 4 × Fin 4 => (pend (F := F) (sO ⟨4 * p.1.val + p.2.val, by omega⟩) c : sProp 𝕄))]
    exact bigSep_univ_equiv (Equiv.ofBijective (fun p : Fin 4 × Fin 4 => (⟨4 * p.1.val + p.2.val, by omega⟩ : Fin 16)) (by decide +kernel))
      (fun i : Fin 16 => (pend (F := F) (sO i) c : sProp 𝕄))
  rw [e2, ← e1]
  iintro A B C D
  iapply (show iprop(going c (J c 0) ∗ going c (J c 1) ∗ going c (J c 2) ∗ going c (J c 3)) ⊢ (bigSep Finset.univ fun q : Fin 4 => going (F := F) c (J c q) : sProp 𝕄) from
    Entails.of_eq (bigSep_eq_bigSepL_of_eq (S := (Finset.univ : Finset (Fin 4))) [0, 1, 2, 3] (by decide) (by decide) (fun q => going (F := F) c (J c q))).symm)
  isplitl [A]; · iexact A
  isplitl [B]; · iexact B
  isplitl [C]; · iexact C
  iexact D

/-- Running one program, then another on its result. -/
theorem wp_seq (c : Dev nD) {α β : Type} {p : Prog (TpuEff nD τ sig (Elt F) Λ₀ .tc) β} {k : β → Prog (TpuEff nD τ sig (Elt F) Λ₀ .tc) α} {Q : α → sProp 𝕄} :
    WP c p (fun a => WP c (k a) Q) ⊢ WP c (p >>= k) Q :=
  Entails.of_eq (wp_bind ..).symm

theorem part75 (c : Dev nD) {Q : PUnit → sProp 𝕄} :
    Env I K c ⊢ iprop(bodyPre I c
      -∗ ((owing c 18 ∗ semVal (barCell c) 0 ∗ ins I c ∗ inRest I c ∗ rcvd I c 18 ∗ back I c 18 ∗ outs I c 12) -∗ Q ⟨⟩)
      -∗ WP c (on k0_part75) Q) := by
  unfold on; rw [Gen.k0_part75_eq_skeleton]
  unfold Gen.k0_part75_skel bodyPre
  iintro #HE ⟨HO, HB, HG, ⟨T16, T17⟩, ⟨V16, V17⟩, ⟨U16, U17⟩, Ht, ⟨S0, S1, S2, S3, S16, S17⟩, HR, Z0, Z1, Z2, Z3⟩ HK
  ihave HR := (rcvd_intro I c) $$ HR
  iapply (wp_seq c)
  iapply (part17 I K c) $$ HE HG
  iintro %w2 %w5 %w8 %w9 %w10 %w11 HG
  iapply (wp_seq c)
  iapply (part18 I K c) $$ HE HG
  iintro HG
  iapply (wp_seq c)
  iapply (part19 I K c) $$ HE HG
  iintro HG
  iapply (wp_seq c)
  iapply (part20 I K c) $$ HE HG
  iintro HG
  iapply (wp_seq c)
  iapply (part21 I K c) $$ HE HG T16 V16 U16 T17 V17 U17
  iintro %v128 ⟨P16, P17, HG⟩
  iapply (wp_seq c)
  iapply (part22 I K c) $$ HE HO HB
  iintro %w157 ⟨HO, Hbar, HL⟩
  ihave HS := (sent_intro c) $$ Ht HL
  ihave HN := (q_turn I c) $$ HG
  iapply (wp_seq c)
  iapply (part23 I K c) $$ HE
  iintro %v187
  iapply (wp_seq c)
  iapply (part24 I K c) $$ HE
  iintro %v217
  iapply (wp_seq c)
  iapply (part25 I K c) $$ HE
  iapply (wp_seq c)
  iapply (part26 I K c) $$ HE HO HS S0 S2
  iintro ⟨HO, HS⟩
  iapply (wp_seq c)
  iapply (part27 I K c) $$ HE HO HS S1 S3 S16
  iintro %v308 ⟨HO, HS⟩
  iapply (wp_seq c)
  iapply (part28 I K c) $$ HE HO HS S17 HN
  iintro ⟨HO, HN, HS⟩
  iapply (wp_seq c)
  iapply (part29 I K c) $$ HE HO HN
  iintro ⟨HO, HN⟩
  iapply (wp_seq c)
  iapply (part30 I K c) $$ HE HO HN
  iintro ⟨HO, HN⟩
  iapply (wp_seq c)
  iapply (part31 I K c) $$ HE HO HN
  iintro ⟨HO, HN⟩
  iapply (wp_seq c)
  iapply (part32 I K c) $$ HE HO HN P16 P17
  iintro ⟨HO, HI, HX⟩
  iapply (wp_seq c)
  iapply (part33 I K c) $$ HE HI
  iintro %v464 HI
  iapply (wp_seq c)
  iapply (part34 I K c) $$ HE HI
  iintro %v508 HI
  iapply (wp_seq c)
  iapply (part35 I K c) $$ HE HI
  iintro %v552 HI
  iapply (wp_seq c)
  iapply (part36 I K c) $$ HE HI
  iintro HI
  iapply (wp_seq c)
  iapply (part37 I K c) $$ HE HI HO HR HS
  iintro ⟨HO, HS, HR, S8, HI⟩
  iapply (wp_seq c)
  iapply (part38 I K c) $$ HE HO HS S8 HI
  iintro %v652 ⟨HO, HS, HI⟩
  iapply (wp_seq c)
  iapply (part39 I K c) $$ HE HI
  iintro %v696 HI
  iapply (wp_seq c)
  iapply (part40 I K c) $$ HE HI HO HR
  iintro %v728 %v729 ⟨HO, HR, S6, S10, HI⟩
  iapply (wp_seq c)
  iapply (part41 I K c) $$ HE HO HS S6 S10 HI
  iintro %v752 ⟨HO, HS, HI⟩
  iapply (wp_seq c)
  iapply (part42 I K c) $$ HE HI
  iintro %v796 HI
  iapply (wp_seq c)
  iapply (part43 I K c) $$ HE HI
  iintro HI
  iapply (wp_seq c)
  iapply (part44 I K c) $$ HE HO HR HS
  iintro ⟨HO, HS, HR, S9⟩
  iapply (wp_seq c)
  iapply (part45 I K c) $$ HE HO HS S9 HR
  iintro %v898 %v899 ⟨HO, HS, HR, S11⟩
  iapply (wp_seq c)
  iapply (part46 I K c) $$ HE HO HS S11 HI HR
  iintro ⟨HO, HS, HR, HI⟩
  iapply (wp_seq c)
  iapply (part47 I K c rfl rfl) $$ HE Z0 HI HR
  iintro %v980 ⟨HR, HI, Z0⟩
  iapply (wp_seq c)
  iapply (part48 I K c rfl) $$ HE HI HR Z0
  iintro %v1016 ⟨HR, HI, Z0⟩
  iapply (wp_seq c)
  iapply (part49 I K c rfl) $$ HE HR Z0
  iintro ⟨HR, Z0⟩
  iapply (wp_seq c)
  iapply (part50 I K c) $$ HE Z0 HO HR HS
  iintro %v1088 %v1089 ⟨HO, HS, HR, Z0⟩
  iapply (wp_seq c)
  iapply (part51 I K c) $$ HE HO HR HS
  iintro %v1117 ⟨HO, HS, HR, S13⟩
  iapply (wp_seq c)
  iapply (part52 I K c) $$ HE HO HS S13 HR
  iintro ⟨HO, HS, HR, S15⟩
  iapply (wp_seq c)
  iapply (part53 I K c) $$ HE HO HS S15 HR HI
  iintro %v1172 ⟨HO, HS, HR, HI⟩
  iapply (wp_seq c)
  iapply (part54 I K c rfl) $$ HE HR Z1 HI
  iintro %v1208 ⟨HR, HI, Z1⟩
  iapply (wp_seq c)
  iapply (part55 I K c rfl) $$ HE HR Z1 HI
  iintro %v1244 ⟨HR, HI, Z1⟩
  iapply (wp_seq c)
  iapply (part56 I K c rfl) $$ HE HR Z1 HI
  iintro %v1280 ⟨HR, HI, Z1⟩
  iapply (wp_seq c)
  iapply (part57 I K c rfl) $$ HE HR Z1
  iintro ⟨HR, Z1⟩
  iapply (wp_seq c)
  iapply (part58 I K c) $$ HE HO HR HI
  iintro %v1348 ⟨HO, HR, HI⟩
  iapply (wp_seq c)
  iapply (part59 I K c rfl) $$ HE HR Z2 HI
  iintro %v1384 ⟨HR, HI, Z2⟩
  iapply (wp_seq c)
  iapply (part60 I K c rfl rfl) $$ HE Z2 HI HR
  iintro ⟨HR, HI, Z2⟩
  iapply (wp_seq c)
  iapply (part61 I K c rfl) $$ HE HI HR Z2
  iintro ⟨HR, HI, Z2⟩
  iapply (wp_seq c)
  iapply (part62 I K c) $$ HE Z2 HO HR
  iintro ⟨HO, HR, Z2⟩
  iapply (wp_seq c)
  iapply (part63 I K c) $$ HE HO HR
  iintro ⟨HO, HR⟩
  iapply (wp_seq c)
  iapply (part64 I K c) $$ HE HO HR HI
  iintro %v1564 ⟨HO, HR, HI⟩
  iapply (wp_seq c)
  iapply (part65 I K c rfl) $$ HE HR Z3 HI
  iintro %v1600 ⟨HR, HI, Z3⟩
  iapply (wp_seq c)
  iapply (part66 I K c rfl) $$ HE Z3 HI HR
  iintro ⟨HR, HI, Z3⟩
  iapply (wp_seq c)
  iapply (part67 I K c rfl rfl) $$ HE Z3 HI HR
  iintro ⟨HR, HI, Z3⟩
  ihave HB := (back_intro I c) $$ HS
  iapply (wp_seq c)
  iapply (part68 I K c) $$ HE Z3 HO HB
  iintro ⟨HO, Z3, HB⟩
  iapply (wp_seq c)
  iapply (part69 I K c) $$ HE HO HB
  iintro ⟨HO, HB⟩
  iapply (wp_seq c)
  iapply (part70 I K c) $$ HE HO HB
  iintro ⟨HO, HB⟩
  iapply (wp_seq c)
  iapply (part71 I K c) $$ HE HO HB
  iintro ⟨HO, HB⟩
  ihave HT := (outs_intro I c) $$ Z0 Z1 Z2 Z3
  iapply (wp_seq c)
  iapply (part72 I K c) $$ HE HO HT
  iintro ⟨HO, HT⟩
  iapply (wp_seq c)
  iapply (part73 I K c) $$ HE HO HT
  iintro ⟨HO, HT⟩
  iapply (wp_seq c)
  iapply (part74 I K c) $$ HE HO HT
  iintro ⟨HO, HT⟩
  iapply (wp_done c)
  iapply HK
  isplitl [HO]; · iexact HO
  isplitl [Hbar]; · iexact Hbar
  isplitl [HI]; · iexact HI
  isplitl [HX]; · iexact HX
  isplitl [HR]; · iexact HR
  isplitl [HB]; · iexact HB
  iexact HT

/-- The body at a device. -/
theorem body (c : Dev nD) {Q : PUnit → sProp 𝕄} :
    Env I K c ⊢ iprop(bodyPre I c -∗ (bodyPost I c -∗ Q ⟨⟩) -∗ WP c (on cc0_body) Q) := by
  unfold on; rw [Gen.cc0_body_eq_skeleton]
  unfold Gen.cc0_body_skel bodyPost
  simp only [Prog.lift, Prog.bind_op, Prog.bind_ret, Prog.pure_eq_ret, Prog.bind_assoc]
  iintro #HE H HK
  iapply (wp_seq c)
  iapply (part75 I K c) $$ HE H
  iintro ⟨HO, Hbar, HI, HX, HR, HB, HT⟩
  iapply (out_o I K 12 (by decide) 12 rfl c rfl rfl) $$ HE HO HT
  iintro ⟨HO, HT⟩
  iapply (out_o I K 13 (by decide) 13 rfl c rfl rfl) $$ HE HO HT
  iintro ⟨HO, HT⟩
  iapply (out_o I K 14 (by decide) 14 rfl c rfl rfl) $$ HE HO HT
  iintro ⟨HO, HT⟩
  iapply (out_o I K 15 (by decide) 15 rfl c rfl rfl) $$ HE HO HT
  iintro ⟨HO, HT⟩
  iapply (wp_done c)
  iapply HK
  isplitl [HO]; · iexact HO
  isplitl [Hbar]; · iexact Hbar
  isplitl [HI]; · iexact HI
  isplitl [HX]; · iexact HX
  isplitl [HR]; · iexact HR
  isplitl [HB]; · iexact HB
  iexact HT

end Cert.KernelIdeal.Attn

end
-- ==== Proof.Pieces.lean ====
/-
  From whole buffers to the pieces the kernel works with, and back.
-/
module

public import proofs.«01_k».proof.Proof.Body

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : GSem nD τ sig → ℕ)

/-! ## The semaphores by their use -/

/-- The seventy DMA semaphores: copies in, the keys' and the values', copies out, senders', receivers'. -/
theorem split70 (Φ : Fin 70 → sProp 𝕄) :
    bigSep Finset.univ Φ = iprop((bigSep Finset.univ fun i : Fin 16 => Φ (sQ i)) ∗ (Φ 16 ∗ Φ 17) ∗ (bigSep Finset.univ fun i : Fin 16 => Φ (sO i))
      ∗ (bigSep Finset.univ fun k : Fin 18 => Φ (sS k)) ∗ (bigSep Finset.univ fun k : Fin 18 => Φ (sR k))) := by
  let eQ : Fin 16 ↪ Fin 70 := ⟨fun i => sQ i, by decide +kernel⟩
  let eO : Fin 16 ↪ Fin 70 := ⟨fun i => sO i, by decide +kernel⟩
  let eS : Fin 18 ↪ Fin 70 := ⟨fun i => sS i, by decide +kernel⟩
  let eR : Fin 18 ↪ Fin 70 := ⟨fun i => sR i, by decide +kernel⟩
  have hu : (Finset.univ : Finset (Fin 70)) = Finset.univ.map eQ ∪ ({16, 17} ∪ (Finset.univ.map eO ∪ (Finset.univ.map eS ∪ Finset.univ.map eR))) := by
    decide +kernel
  rw [hu, bigSep_union (by decide +kernel), bigSep_union (by decide +kernel), bigSep_union (by decide +kernel), bigSep_union (by decide +kernel),
    bigSep_map, bigSep_map, bigSep_map, bigSep_map, bigSep_insert (by decide), bigSep_singleton]
  rfl

/-! ## The remote halves by the copies that land in them -/

/-- The copies landing in buffer `b`, and the copies leaving from it. -/
def landsIn (b : KBuf) : Finset (Fin 18) := Finset.univ.filter fun k => dstBuf k = b
def leaves (b : KBuf) : Finset (Fin 18) := Finset.univ.filter fun k => srcBuf k = b

theorem rows_disj {a n a' n' : ℕ} (h : a + n ≤ a' ∨ a' + n' ≤ a) : Disjoint (rows a n) (rows a' n') := by
  rw [Finset.disjoint_left]
  intro x hx hy
  rw [mem_rows] at hx hy
  omega

theorem land_disj (b : KBuf) (c : Dev nD) (hb : b = .rk ∨ b = .rv) :
    ∀ k ∈ landsIn b, ∀ k' ∈ landsIn b, k ≠ k' → Disjoint (rows (lo k c) (rl k)) (rows (lo k' c) (rl k')) := by
  intro k hk k' hk' h
  refine rows_disj ?_
  rcases hb with rfl | rfl
  · revert hk hk' h; revert k k' c; decide +kernel
  · revert hk hk' h; revert k k' c; decide +kernel
theorem land_cover (b : KBuf) (c : Dev nD) (hb : b = .rk ∨ b = .rv) : (landsIn b).biUnion (fun k => rows (lo k c) (rl k)) = Finset.univ := by
  have h : ∀ r : Fin 16, ∃ k ∈ landsIn b, lo k c ≤ r.val ∧ r.val < lo k c + rl k := by
    rcases hb with rfl | rfl
    · revert c; decide +kernel
    · revert c; decide +kernel
  ext x
  refine ⟨fun _ => Finset.mem_univ _, fun _ => ?_⟩
  obtain ⟨k, hk, hr⟩ := h ⟨(x 0).val, (x 0).isLt⟩
  exact Finset.mem_biUnion.mpr ⟨k, hk, mem_rows.mpr hr⟩

theorem pK_biUnion (b : KBuf) (c : Dev nD) (q : PosShare TreeShare) (f : KB F) (S : Finset (Fin 18)) (g : Fin 18 → Finset S16x64x256.Idx)
    (h : ∀ k ∈ S, ∀ k' ∈ S, k ≠ k' → Disjoint (g k) (g k')) : (pK b c (S.biUnion g) q f : sProp 𝕄) = bigSep S fun k => pK b c (g k) q f := by
  match b with
  | .hk => exact pointsTo_biUnion (ℓ := (c : Thread nD τ).loc main_v2) (q := q) (f := f) S g h
  | .hv => exact pointsTo_biUnion (ℓ := (c : Thread nD τ).loc main_v4) (q := q) (f := f) S g h
  | .kv => exact pointsTo_biUnion (ℓ := (c : Thread nD τ).loc cc0_scratch1) (q := q) (f := f) S g h
  | .vv => exact pointsTo_biUnion (ℓ := (c : Thread nD τ).loc cc0_scratch2) (q := q) (f := f) S g h
  | .rk => exact pointsTo_biUnion (ℓ := (c : Thread nD τ).loc cc0_scratch3) (q := q) (f := f) S g h
  | .rv => exact pointsTo_biUnion (ℓ := (c : Thread nD τ).loc cc0_scratch4) (q := q) (f := f) S g h

theorem land_split (b : KBuf) (c : Dev nD) (hb : b = .rk ∨ b = .rv) (f : KB F) :
    (pK b c Finset.univ fullShare f : sProp 𝕄) = bigSep (landsIn b) fun k => pK (dstBuf k) c (rows (lo k c) (rl k)) fullShare f := by
  rw [← land_cover b c hb, pK_biUnion b c _ f _ _ (land_disj b c hb)]
  exact bigSep_congr fun k hk => by rw [(Finset.mem_filter.mp hk).2]

theorem lands_both (Φ : Fin 18 → sProp 𝕄) : bigSep Finset.univ Φ = iprop(bigSep (landsIn .rk) Φ ∗ bigSep (landsIn .rv) Φ) := by
  rw [show (Finset.univ : Finset (Fin 18)) = landsIn .rk ∪ landsIn .rv by decide +kernel]
  exact bigSep_union (by decide +kernel)

/-- Both remote halves, whole at any contents, are the landing places by direction. -/
theorem land_intro (c : Dev nD) :
    iprop((∃ f : KB F, pK .rk c Finset.univ fullShare f) ∗ (∃ f : KB F, pK .rv c Finset.univ fullShare f)
      ∗ bigSep Finset.univ fun k : Fin 18 => reached ER (dCell (sR k) c) 0) ⊢ (iprop(landD (F := F) 0 c ∗ landD (F := F) 1 c ∗ landD (F := F) 2 c) : sProp 𝕄) := by
  have e : (bigSep Finset.univ fun k : Fin 18 => landP (F := F) k c : sProp 𝕄) = iprop(landD (F := F) 0 c ∗ landD (F := F) 1 c ∗ landD (F := F) 2 c) := by
    rw [bigSep_fiberwise Finset.univ dOf, show (Finset.univ : Finset (Fin 18)).image dOf = Finset.univ by decide +kernel,
      bigSep_eq_bigSepL_of_eq (S := (Finset.univ : Finset (Fin 3))) [0, 1, 2] (by decide) (by decide)
        (fun d => bigSep (Finset.univ.filter fun k => dOf k = d) fun k => landP (F := F) k c)]
    rfl
  rw [← e, show (bigSep Finset.univ fun k : Fin 18 => landP (F := F) k c : sProp 𝕄) = _ from bigSep_sep' _ (fun k => anyP (F := F) k c) (fun k => reached ER (dCell (sR k) c) 0),
    lands_both (fun k => anyP (F := F) k c)]
  have h (b : KBuf) (hb : b = .rk ∨ b = .rv) (f : KB F) : (pK b c Finset.univ fullShare f : sProp 𝕄) ⊢ bigSep (landsIn b) fun k => anyP (F := F) k c := by
    rw [land_split b c hb f]
    refine bigSep_mono fun k _ => ?_
    show (pK (dstBuf k) c (rows (lo k c) (rl k)) fullShare f : sProp 𝕄) ⊢ iprop(∃ f : KB F, pK (dstBuf k) c (rows (lo k c) (rl k)) fullShare f)
    iintro H; iexists f; iexact H
  iintro ⟨⟨%f, H1⟩, ⟨%g, H2⟩, H3⟩
  isplitr [H3]
  · isplitl [H1]
    · iapply (h .rk (.inl rfl) f); iexact H1
    · iapply (h .rv (.inr rfl) g); iexact H2
  iexact H3

/-- The landed halves, whole. -/
theorem land_elim (c : Dev nD) : (bigSep Finset.univ fun k : Fin 18 => dstP I k c : sProp 𝕄)
    ⊢ iprop(pK .rk c Finset.univ fullShare (RK I c) ∗ pK .rv c Finset.univ fullShare (RV I c)) := by
  rw [lands_both, land_split .rk c (.inl rfl), land_split .rv c (.inr rfl)]
  refine BIClass.sep_mono ?_ ?_
  · refine Entails.of_eq (bigSep_congr fun k hk => ?_)
    unfold dstP; rw [(Finset.mem_filter.mp hk).2]; rfl
  · refine Entails.of_eq (bigSep_congr fun k hk => ?_)
    unfold dstP; rw [(Finset.mem_filter.mp hk).2]; rfl

/-! ## The arrays in main memory, of which the remote copies read some slots -/

/-- The slots of array `b` no remote copy reads. -/
def idle (b : KBuf) (c : Dev nD) : Finset S16x64x256.Idx := Finset.univ \ (leaves b).biUnion fun k => rows (lo k (peer k c)) (rl k)

theorem leave_disj (b : KBuf) (c : Dev nD) (hb : b = .hk ∨ b = .hv) :
    ∀ k ∈ leaves b, ∀ k' ∈ leaves b, k ≠ k' → Disjoint (rows (lo k (peer k c)) (rl k)) (rows (lo k' (peer k' c)) (rl k')) := by
  intro k hk k' hk' h
  refine rows_disj ?_
  rcases hb with rfl | rfl
  · revert hk hk' h; revert k k' c; decide +kernel
  · revert hk hk' h; revert k k' c; decide +kernel

theorem leave_split (b : KBuf) (c : Dev nD) (hb : b = .hk ∨ b = .hv) :
    (pK b c Finset.univ fullShare (cont I c b) : sProp 𝕄)
      ⊣⊢ iprop(pK b c Finset.univ fullShare.left (cont I c b) ∗ (bigSep (leaves b) fun k => srcP I k c) ∗ pK b c (idle b c) fullShare.right (cont I c b)) := by
  have e := pK_share b c Finset.univ (cont I c b) (PosShare.mem_left_op_right fullShare)
  have e' := pK_split b c fullShare.right (cont I c b) (Finset.subset_univ ((leaves b).biUnion fun k => rows (lo k (peer k c)) (rl k)))
  have e'' : (bigSep (leaves b) fun k => srcP I k c : sProp 𝕄) = pK b c ((leaves b).biUnion fun k => rows (lo k (peer k c)) (rl k)) fullShare.right (cont I c b) := by
    rw [pK_biUnion b c _ _ _ _ (leave_disj b c hb)]
    refine bigSep_congr fun k hk => ?_
    have hs : srcShare k = fullShare.right := by
      rcases hb with rfl | rfl
      · clear e e'; revert hk; revert k; decide +kernel
      · clear e e'; revert hk; revert k; decide +kernel
    unfold srcP; rw [(Finset.mem_filter.mp hk).2, hs]
  rw [e'']
  constructor
  · exact e.1.trans (BIClass.sep_mono (Entails.refl _) e'.1)
  · exact (BIClass.sep_mono (Entails.refl _) e'.2).trans e.2

theorem leaves_hk (Φ : Fin 18 → sProp 𝕄) : bigSep (leaves .hk) Φ = iprop(Φ 0 ∗ Φ 1 ∗ Φ 16) := by
  rw [show leaves .hk = {0, 1, 16} by decide +kernel, bigSep_insert (by decide), bigSep_insert (by decide), bigSep_singleton]
  rfl
theorem leaves_hv (Φ : Fin 18 → sProp 𝕄) : bigSep (leaves .hv) Φ = iprop(Φ 2 ∗ Φ 3 ∗ Φ 17) := by
  rw [show leaves .hv = {2, 3, 17} by decide +kernel, bigSep_insert (by decide), bigSep_insert (by decide), bigSep_singleton]
  rfl

/-- What stays of the landed halves with what their relays return is the landed halves; the other sources are the arrays'. -/
theorem keep_join (c : Dev nD) :
    iprop((bigSep Finset.univ fun k : Fin 18 => keepP I k c) ∗ (bigSep Finset.univ fun k : Fin 18 => srcP I k c))
      ⊢ (iprop((bigSep Finset.univ fun k : Fin 18 => dstP I k c) ∗ (bigSep (leaves .hk) fun k => srcP I k c) ∗ (bigSep (leaves .hv) fun k => srcP I k c)) : sProp 𝕄) := by
  have e (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
    bigSep_eq_bigSepL_of_eq (S := (Finset.univ : Finset (Fin 18))) [0, 1, 2, 3, 4, 5, 6, 7, 8, 9, 10, 11, 12, 13, 14, 15, 16, 17] (by decide) (by decide) Φ
  have two {k a b : Fin 18} (h : kShare k = fullShare.right ∧ ¬ (k = 6 ∨ k = 8) ∧ srcBuf a = dstBuf k ∧ srcBuf b = dstBuf k
      ∧ srcShare a = fullShare.left.left ∧ srcShare b = fullShare.left.right ∧ rl a = rl k ∧ rl b = rl k)
      (h' : lo a (peer a c) = lo k c ∧ lo b (peer b c) = lo k c) : iprop(keepP I k c ∗ srcP I a c ∗ srcP I b c) ⊢ (dstP I k c : sProp 𝕄) := (keep_two I c h h').2
  have one {k a : Fin 18} (h : kShare k = fullShare.right ∧ ¬ (k = 6 ∨ k = 8) ∧ srcBuf a = dstBuf k ∧ srcShare a = fullShare.left ∧ rl a = rl k)
      (h' : lo a (peer a c) = lo k c) : iprop(keepP I k c ∗ srcP I a c) ⊢ (dstP I k c : sProp 𝕄) := (keep_one I c h h').2
  have half {k a : Fin 18} (h : kShare k = fullShare.right ∧ (k = 6 ∨ k = 8) ∧ srcBuf a = dstBuf k ∧ srcShare a = fullShare.left ∧ rl a = 1 ∧ rl k = 2)
      (h' : lo a (peer a c) = lo k c + 1) : iprop(keepP I k c ∗ srcP I a c) ⊢ (dstP I k c : sProp 𝕄) := (keep_half I c h h').2
  have all {k : Fin 18} (h : kShare k = fullShare ∧ ¬ (k = 6 ∨ k = 8)) : keepP I k c ⊢ (dstP I k c : sProp 𝕄) := by
    refine BIBase.Entails.trans ?_ (keep_full I c h).2
    iintro H; isplitl [H]; · iexact H
    iempintro
  rw [e, e, e, leaves_hk, leaves_hv]
  iintro ⟨⟨K0, K1, K2, K3, K4, K5, K6, K7, K8, K9, K10, K11, K12, K13, K14, K15, K16, K17⟩, S0, S1, S2, S3, S4, S5, S6, S7, S8, S9, S10, S11, S12, S13, S14, S15, S16, S17⟩
  isplitr [S0 S1 S2 S3 S16 S17]
  · isplitl [K0 S4 S8]; · iapply (two (a := 4) (b := 8) (by decide +kernel) (by clear e two one half all; revert c; decide +kernel)); isplitl [K0]; (· iexact K0); isplitl [S4] <;> iassumption
    isplitl [K1 S5 S9]; · iapply (two (a := 5) (b := 9) (by decide +kernel) (by clear e two one half all; revert c; decide +kernel)); isplitl [K1]; (· iexact K1); isplitl [S5] <;> iassumption
    isplitl [K2 S6 S10]; · iapply (two (a := 6) (b := 10) (by decide +kernel) (by clear e two one half all; revert c; decide +kernel)); isplitl [K2]; (· iexact K2); isplitl [S6] <;> iassumption
    isplitl [K3 S7 S11]; · iapply (two (a := 7) (b := 11) (by decide +kernel) (by clear e two one half all; revert c; decide +kernel)); isplitl [K3]; (· iexact K3); isplitl [S7] <;> iassumption
    isplitl [K4]; · iapply (all (by decide +kernel)); iexact K4
    isplitl [K5]; · iapply (all (by decide +kernel)); iexact K5
    isplitl [K6 S14]; · iapply (half (a := 14) (by decide +kernel) (by clear e two one half all; revert c; decide +kernel)); isplitl [K6] <;> iassumption
    isplitl [K7 S15]; · iapply (one (a := 15) (by decide +kernel) (by clear e two one half all; revert c; decide +kernel)); isplitl [K7] <;> iassumption
    isplitl [K8 S12]; · iapply (half (a := 12) (by decide +kernel) (by clear e two one half all; revert c; decide +kernel)); isplitl [K8] <;> iassumption
    isplitl [K9 S13]; · iapply (one (a := 13) (by decide +kernel) (by clear e two one half all; revert c; decide +kernel)); isplitl [K9] <;> iassumption
    isplitl [K10]; · iapply (all (by decide +kernel)); iexact K10
    isplitl [K11]; · iapply (all (by decide +kernel)); iexact K11
    isplitl [K12]; · iapply (all (by decide +kernel)); iexact K12
    isplitl [K13]; · iapply (all (by decide +kernel)); iexact K13
    isplitl [K14]; · iapply (all (by decide +kernel)); iexact K14
    isplitl [K15]; · iapply (all (by decide +kernel)); iexact K15
    isplitl [K16]; · iapply (all (by decide +kernel)); iexact K16
    iapply (all (by decide +kernel)); iexact K17
  isplitl [S0 S1 S16]
  · isplitl [S0]; · iexact S0
    isplitl [S1] <;> iassumption
  isplitl [S2]; · iexact S2
  isplitl [S3] <;> iassumption

/-! ## Queries and results -/

theorem col_disj : ∀ i ∈ (Finset.univ : Finset (Fin 16)), ∀ j ∈ (Finset.univ : Finset (Fin 16)), i ≠ j → Disjoint (col i.val) (col j.val) := by
  intro i _ j _ h
  rw [Finset.disjoint_left]
  intro x hx hy
  rw [mem_col] at hx hy
  exact h (Fin.ext (hx.symm.trans hy))
theorem col_lt (x : S2x256x8x64.Idx) : 8 * (x 0).val + (x 2).val < 16 := by
  have h0 : (x 0).val < 2 := (x 0).isLt
  have h2 : (x 2).val < 8 := (x 2).isLt
  omega
theorem col_cover : (Finset.univ : Finset (Fin 16)).biUnion (fun i => col i.val) = Finset.univ := by
  ext x
  exact ⟨fun _ => Finset.mem_univ _, fun _ => Finset.mem_biUnion.mpr ⟨⟨8 * (x 0).val + (x 2).val, col_lt x⟩, Finset.mem_univ _, mem_col.mpr rfl⟩⟩

theorem pQ_cols (c : Dev nD) (f : AB F) : (pQ c Finset.univ f : sProp 𝕄) = bigSep Finset.univ fun i : Fin 16 => pQ c (col i.val) f := by
  rw [← col_cover]; exact pointsTo_biUnion (ℓ := (c : Thread nD τ).loc main_arg0) Finset.univ (fun i : Fin 16 => col i.val) col_disj
theorem pO_cols (c : Dev nD) (f : AB F) : (pO c Finset.univ f : sProp 𝕄) = bigSep Finset.univ fun i : Fin 16 => pO c (col i.val) f := by
  rw [← col_cover]; exact pointsTo_biUnion (ℓ := (c : Thread nD τ).loc main_v5) Finset.univ (fun i : Fin 16 => col i.val) col_disj
theorem pQV_rows (c : Dev nD) (f : QB F) : (pQV c Finset.univ f : sProp 𝕄) = bigSep Finset.univ fun i : Fin 16 => pQV c (qrow i.val) f := by
  rw [← qrow_cover]; exact pointsTo_biUnion (ℓ := (c : Thread nD τ).loc cc0_scratch0) Finset.univ (fun i : Fin 16 => qrow i.val) qrow_disj
theorem pOV_rows (c : Dev nD) (f : QB F) : (pOV c Finset.univ f : sProp 𝕄) = bigSep Finset.univ fun i : Fin 16 => pOV c (qrow i.val) f := by
  rw [← qrow_cover]; exact pointsTo_biUnion (ℓ := (c : Thread nD τ).loc cc0_scratch5) Finset.univ (fun i : Fin 16 => qrow i.val) qrow_disj

theorem q_intro (c : Dev nD) : iprop((bigSep Finset.univ fun i : Fin 16 => tok (sQ i) c) ∗ pQ c Finset.univ (I.q c) ∗ ∃ f, pQV (F := F) c Finset.univ f) ⊢ qGo I c 0 := by
  unfold qGo
  rw [prog_zero, pQ_cols, show (bigSep Finset.univ fun i : Fin 16 => iprop(tok (sQ i) c ∗ pQ c (col i.val) (I.q c) ∗ ∃ f, pQV (F := F) c (qrow i.val) f) : sProp 𝕄)
      = _ from bigSep_sep' _ (fun i : Fin 16 => (tok (sQ i) c : sProp 𝕄)) (fun i => iprop(pQ c (col i.val) (I.q c) ∗ ∃ f, pQV (F := F) c (qrow i.val) f)),
    bigSep_sep' _ (fun i : Fin 16 => (pQ c (col i.val) (I.q c) : sProp 𝕄))]
  refine BIClass.sep_mono (Entails.refl _) (BIClass.sep_mono (Entails.refl _) ?_)
  iintro ⟨%f, H⟩
  ihave H := (Entails.of_eq (pQV_rows c f)) $$ H
  iapply (show (bigSep Finset.univ fun i : Fin 16 => (pQV c (qrow i.val) f : sProp 𝕄)) ⊢ bigSep Finset.univ fun i : Fin 16 => iprop(∃ f, pQV (F := F) c (qrow i.val) f) from
    bigSep_mono fun i _ => by show (pQV c (qrow i.val) f : sProp 𝕄) ⊢ iprop(∃ f, pQV (F := F) c (qrow i.val) f); iintro H; iexists f; iexact H)
  iexact H

/-- The sixteen result slots by the quarters a device computes. -/
theorem by_quarter (c : Dev nD) (Φ : Fin 16 → sProp 𝕄) :
    bigSep Finset.univ Φ = iprop((bigSep Finset.univ fun t : Fin 4 => Φ ⟨4 * (J c 0).val + t.val, by omega⟩) ∗ (bigSep Finset.univ fun t : Fin 4 => Φ ⟨4 * (J c 1).val + t.val, by omega⟩)
      ∗ (bigSep Finset.univ fun t : Fin 4 => Φ ⟨4 * (J c 2).val + t.val, by omega⟩) ∗ (bigSep Finset.univ fun t : Fin 4 => Φ ⟨4 * (J c 3).val + t.val, by omega⟩)) := by
  have hJ : Function.Bijective (J c) := by revert c; decide +kernel
  rw [bigSep_univ_equiv (Equiv.ofBijective (fun p : Fin 4 × Fin 4 => (⟨4 * p.1.val + p.2.val, by omega⟩ : Fin 16)) (by decide +kernel)) Φ]
  simp only [Equiv.ofBijective_apply]
  rw [bigSep_univ_prod (fun p : Fin 4 × Fin 4 => Φ (⟨4 * p.1.val + p.2.val, by omega⟩ : Fin 16)),
    bigSep_univ_equiv (Equiv.ofBijective (J c) hJ) (fun j : Fin 4 => bigSep Finset.univ fun t : Fin 4 => Φ (⟨4 * j.val + t.val, by omega⟩ : Fin 16))]
  simp only [Equiv.ofBijective_apply]
  rw [bigSep_eq_bigSepL_of_eq (S := (Finset.univ : Finset (Fin 4))) [0, 1, 2, 3] (by decide) (by decide) (fun q : Fin 4 => bigSep Finset.univ fun t : Fin 4 => Φ (⟨4 * (J c q).val + t.val, by omega⟩ : Fin 16))]
  rfl

theorem o_intro (c : Dev nD) : iprop((bigSep Finset.univ fun i : Fin 16 => tok (sO i) c) ∗ (∃ f, pOV (F := F) c Finset.univ f) ∗ ∃ f, pO (F := F) c Finset.univ f)
    ⊢ iprop(quarter I c 0 0 ∗ quarter I c 1 0 ∗ quarter I c 2 0 ∗ quarter I c 3 0) := by
  unfold quarter
  rw [prog_zero, prog_zero, prog_zero, prog_zero]
  refine BIBase.Entails.trans ?_ (Entails.of_eq (by_quarter c (fun i : Fin 16 => raw (F := F) i.val i.isLt c)))
  unfold raw
  rw [show (bigSep Finset.univ fun i : Fin 16 => iprop(tok (sO ⟨i.val, i.isLt⟩) c ∗ (∃ f, pOV (F := F) c (qrow i.val) f) ∗ ∃ f, pO (F := F) c (col i.val) f) : sProp 𝕄)
      = _ from bigSep_sep' _ (fun i : Fin 16 => (tok (sO i) c : sProp 𝕄)) (fun i => iprop((∃ f, pOV (F := F) c (qrow i.val) f) ∗ ∃ f, pO (F := F) c (col i.val) f)),
    bigSep_sep' _ (fun i : Fin 16 => (iprop(∃ f, pOV (F := F) c (qrow i.val) f) : sProp 𝕄))]
  refine BIClass.sep_mono (Entails.refl _) (BIClass.sep_mono ?_ ?_)
  · iintro ⟨%f, H⟩
    ihave H := (Entails.of_eq (pOV_rows c f)) $$ H
    iapply (show (bigSep Finset.univ fun i : Fin 16 => (pOV c (qrow i.val) f : sProp 𝕄)) ⊢ bigSep Finset.univ fun i : Fin 16 => iprop(∃ f, pOV (F := F) c (qrow i.val) f) from
      bigSep_mono fun i _ => by show (pOV c (qrow i.val) f : sProp 𝕄) ⊢ iprop(∃ f, pOV (F := F) c (qrow i.val) f); iintro H; iexists f; iexact H)
    iexact H
  · iintro ⟨%f, H⟩
    ihave H := (Entails.of_eq (pO_cols c f)) $$ H
    iapply (show (bigSep Finset.univ fun i : Fin 16 => (pO c (col i.val) f : sProp 𝕄)) ⊢ bigSep Finset.univ fun i : Fin 16 => iprop(∃ f, pO (F := F) c (col i.val) f) from
      bigSep_mono fun i _ => by show (pO c (col i.val) f : sProp 𝕄) ⊢ iprop(∃ f, pO (F := F) c (col i.val) f); iintro H; iexists f; iexact H)
    iexact H

theorem outs_elim (c : Dev nD) : outs I c 16 ⊢ iprop((bigSep Finset.univ fun i : Fin 16 => semVal (dCell (sO i) c) 0) ∗ pO c Finset.univ (OUT I c) ∗ pOV c Finset.univ (OV I c)) := by
  unfold outs
  rw [prog_all, pO_cols, pOV_rows, show (bigSep Finset.univ fun i : Fin 16 => iprop(semVal (dCell (sO i) c) 0 ∗ dpay I (sO i) c) : sProp 𝕄)
    = _ from bigSep_sep' _ (fun i : Fin 16 => (semVal (dCell (sO i) c) 0 : sProp 𝕄)) (fun i => dpay I (sO i) c)]
  refine BIClass.sep_mono (Entails.refl _) ?_
  refine (Entails.of_eq (bigSep_congr fun i _ => dpay_o I i c)).trans ?_
  exact Entails.of_eq (bigSep_sep' _ (fun i : Fin 16 => (pO c (col i.val) (OUT I c) : sProp 𝕄)) (fun i => pOV c (qrow i.val) (OV I c)))

theorem inRest_elim (c : Dev nD) : inRest I c ⊢ iprop(((bigSep Finset.univ fun i : Fin 16 => semVal (dCell (sQ i) c) 0) ∗ pQ c Finset.univ (I.q c))
    ∗ (semVal (dCell 16 c) 0 ∗ pK .hk c Finset.univ fullShare.left (I.k c)) ∗ (semVal (dCell 17 c) 0 ∗ pK .hv c Finset.univ fullShare.left (I.v c))) := by
  unfold inRest
  rw [pQ_cols]
  refine BIClass.sep_mono ?_ (Entails.refl _)
  exact Entails.of_eq (bigSep_sep' _ (fun i : Fin 16 => (semVal (dCell (sQ i) c) 0 : sProp 𝕄)) (fun i => pQ c (col i.val) (I.q c)))

theorem rcvd_elim (c : Dev nD) : rcvd I c 18 ⊢ iprop((bigSep Finset.univ fun k : Fin 18 => semVal (dCell (sR k) c) 0) ∗ bigSep Finset.univ fun k : Fin 18 => keepP I k c) := by
  unfold rcvd
  rw [prog_all]
  refine (Entails.of_eq (bigSep_univ_equiv (Equiv.ofBijective rOrd (by decide +kernel)) (fun k : Fin 18 => (iprop(semVal (dCell (sR k) c) 0 ∗ keepP I k c) : sProp 𝕄))).symm).trans ?_
  exact Entails.of_eq (bigSep_sep' _ (fun k : Fin 18 => (semVal (dCell (sR k) c) 0 : sProp 𝕄)) (fun k => keepP I k c))

theorem back_elim (c : Dev nD) : back I c 18 ⊢ iprop((bigSep Finset.univ fun k : Fin 18 => semVal (dCell (sS k) c) 0) ∗ bigSep Finset.univ fun k : Fin 18 => srcP I k c) := by
  unfold back
  rw [prog_all]
  exact Entails.of_eq (bigSep_sep' _ (fun k : Fin 18 => (semVal (dCell (sS k) c) 0 : sProp 𝕄)) (fun k => srcP I k c))

/-! ## The whole buffers -/

/-- The kernel's six scratch buffers, at any contents. -/
def scratch (c : Dev nD) : sProp 𝕄 :=
  iprop((∃ f, pQV (F := F) c Finset.univ f) ∗ (∃ f : KB F, pK .kv c Finset.univ fullShare f) ∗ (∃ f : KB F, pK .vv c Finset.univ fullShare f)
    ∗ (∃ f : KB F, pK .rk c Finset.univ fullShare f) ∗ (∃ f : KB F, pK .rv c Finset.univ fullShare f) ∗ (∃ f, pOV (F := F) c Finset.univ f))

/-- The rights a run of the body spends, but for the barrier's landing places. -/
def rights (c : Dev nD) : sProp 𝕄 :=
  iprop((dutyTok ER (barCell (pd 0 c)) 0 0 ∗ dutyTok ER (barCell (pd 1 c)) 0 1 ∗ dutyTok ER (barCell (pd 2 c)) 0 2 ∗ cred (tallyAt (barCell c) () 3) ∗ atPos ER (barCell c) 0 ∅ 0)
    ∗ (bigSep Finset.univ fun i : Fin 16 => tok (sQ i) c) ∗ (tok 16 c ∗ tok 17 c) ∗ (bigSep Finset.univ fun i : Fin 16 => tok (sO i) c)
    ∗ (bigSep Finset.univ fun k : Fin 18 => sTok k c) ∗ (bigSep Finset.univ fun k : Fin 18 => pend (sR k) c))

/-- The slots of the arrays no copy reads, kept aside. -/
def aside (c : Dev nD) : sProp 𝕄 := iprop(pK .hk c (idle .hk c) fullShare.right (I.k c) ∗ pK .hv c (idle .hv c) fullShare.right (I.v c))

theorem body_entry (c : Dev nD) :
    Env I K c ⊢ iprop(scratch c -∗ pQ c Finset.univ (I.q c) -∗ pK .hk c Finset.univ fullShare (I.k c) -∗ pK .hv c Finset.univ fullShare (I.v c)
      -∗ (∃ f, pO (F := F) c Finset.univ f) -∗ rights c -∗ owesE c (owed₀ c) -∗ (bodyPre I c ∗ aside I c)) := by
  have hk := (leave_split I .hk c (.inl rfl)).1
  have hv := (leave_split I .hv c (.inr rfl)).1
  rw [leaves_hk] at hk
  change (pK .hk c Finset.univ fullShare (I.k c) : sProp 𝕄) ⊢ iprop(pK .hk c Finset.univ fullShare.left (I.k c) ∗ (srcP I 0 c ∗ srcP I 1 c ∗ srcP I 16 c) ∗ pK .hk c (idle .hk c) fullShare.right (I.k c)) at hk
  rw [leaves_hv] at hv
  change (pK .hv c Finset.univ fullShare (I.v c) : sProp 𝕄) ⊢ iprop(pK .hv c Finset.univ fullShare.left (I.v c) ∗ (srcP I 2 c ∗ srcP I 3 c ∗ srcP I 17 c) ∗ pK .hv c (idle .hv c) fullShare.right (I.v c)) at hv
  unfold scratch rights bodyPre aside barTok
  iintro #HE ⟨Hqv, Hkv, Hvv, Hrk, Hrv, Hov⟩ Hq Hk Hv Ho ⟨⟨T0, T1, T2, Hc, Hat⟩, TQ, TS, TO, TT, TR⟩ HO
  ihave Hk := hk $$ Hk
  ihave Hv := hv $$ Hv
  icases Hk with ⟨Hkl, ⟨S0, S1, S16⟩, Hki⟩
  icases Hv with ⟨Hvl, ⟨S2, S3, S17⟩, Hvi⟩
  ihave HL := (land_intro (F := F) c) $$ [Hrk Hrv]
  · isplitl [Hrk]; · iexact Hrk
    isplitl [Hrv]; · iexact Hrv
    unfold Env
    icases HE with ⟨-, -, -, #Hr, -⟩
    ihave Hr' := (Entails.of_eq (split70 (fun s : Fin 70 => (reached ER (dCell s c) 0 : sProp 𝕄)))) $$ Hr
    icases Hr' with ⟨-, -, -, -, H⟩
    iexact H
  icases HL with ⟨L0, L1, L2⟩
  isplitr [Hki Hvi]
  · isplitl [HO]; · iexact HO
    isplitl [T0 T1 T2 Hc Hat L0 L1 L2]
    · isplitl [T0 L0]; · isplitl [T0] <;> iassumption
      isplitl [T1 L1]; · isplitl [T1] <;> iassumption
      isplitl [T2 L2]; · isplitl [T2] <;> iassumption
      isplitl [Hc] <;> iassumption
    isplitl [TQ Hq Hqv]
    · iapply (q_intro I c)
      isplitl [TQ]; · iexact TQ
      isplitl [Hq] <;> iassumption
    isplitl [TS]; · iexact TS
    isplitl [Hkl Hvl]; · isplitl [Hkl] <;> iassumption
    isplitl [Hkv Hvv]; · isplitl [Hkv] <;> iassumption
    isplitl [TT]; · iexact TT
    isplitl [S0 S1 S2 S3 S16 S17]
    · isplitl [S0]; · iexact S0
      isplitl [S1]; · iexact S1
      isplitl [S2]; · iexact S2
      isplitl [S3]; · iexact S3
      isplitl [S16] <;> iassumption
    isplitl [TR]; · iexact TR
    iapply (o_intro I c)
    isplitl [TO]; · iexact TO
    isplitl [Hov] <;> iassumption
  isplitl [Hki] <;> iassumption

theorem body_exit (c : Dev nD) :
    bodyPost I c ⊢ iprop(aside I c -∗ (owesE c 0 ∗ semVal (barCell c) 0 ∗ (bigSep Finset.univ fun s : Fin 70 => semVal (dCell s c) 0) ∗ scratch c
      ∗ pQ c Finset.univ (I.q c) ∗ pK .hk c Finset.univ fullShare (I.k c) ∗ pK .hv c Finset.univ fullShare (I.v c) ∗ pO c Finset.univ (OUT I c))) := by
  have hk : iprop(pK .hk c Finset.univ fullShare.left (I.k c) ∗ (bigSep (leaves .hk) fun k => srcP I k c) ∗ pK .hk c (idle .hk c) fullShare.right (I.k c)) ⊢ (pK .hk c Finset.univ fullShare (I.k c) : sProp 𝕄) :=
    (leave_split I .hk c (.inl rfl)).2
  have hv : iprop(pK .hv c Finset.univ fullShare.left (I.v c) ∗ (bigSep (leaves .hv) fun k => srcP I k c) ∗ pK .hv c (idle .hv c) fullShare.right (I.v c)) ⊢ (pK .hv c Finset.univ fullShare (I.v c) : sProp 𝕄) :=
    (leave_split I .hv c (.inr rfl)).2
  rw [split70]
  unfold scratch bodyPost aside ins owing
  iintro ⟨HO, Hb, ⟨Hqv, Hkv, Hvv⟩, Hin, Hr, Hs, Ho⟩ ⟨Hki, Hvi⟩
  ihave Hin := (inRest_elim I c) $$ Hin
  icases Hin with ⟨⟨ZQ, Hq⟩, ⟨Z16, Hkl⟩, ⟨Z17, Hvl⟩⟩
  ihave Hr := (rcvd_elim I c) $$ Hr
  icases Hr with ⟨ZR, HK⟩
  ihave Hs := (back_elim I c) $$ Hs
  icases Hs with ⟨ZS, HS⟩
  ihave Ho := (outs_elim I c) $$ Ho
  icases Ho with ⟨ZO, Ho, Hov⟩
  ihave HJ := (keep_join I c) $$ [HK HS]
  · isplitl [HK] <;> iassumption
  icases HJ with ⟨HD, Sk, Sv⟩
  ihave HD := (land_elim I c) $$ HD
  icases HD with ⟨Hrk, Hrv⟩
  isplitl [HO]; · iexact HO
  isplitl [Hb]; · iexact Hb
  isplitl [ZQ Z16 Z17 ZO ZS ZR]
  · isplitl [ZQ]; · iexact ZQ
    isplitl [Z16 Z17]; · isplitl [Z16] <;> iassumption
    isplitl [ZO]; · iexact ZO
    isplitl [ZS] <;> iassumption
  isplitl [Hqv Hkv Hvv Hrk Hrv Hov]
  · isplitl [Hqv]; · iexists _; iexact Hqv
    isplitl [Hkv]; · iexists _; iexact Hkv
    isplitl [Hvv]; · iexists _; iexact Hvv
    isplitl [Hrk]; · iexists _; iexact Hrk
    isplitl [Hrv]; · iexists _; iexact Hrv
    iexists _; iexact Hov
  isplitl [Hq]; · iexact Hq
  isplitl [Hkl Sk Hki]
  · iapply hk
    isplitl [Hkl]; · iexact Hkl
    isplitl [Sk] <;> iassumption
  isplitl [Hvl Sv Hvi]
  · iapply hv
    isplitl [Hvl]; · iexact Hvl
    isplitl [Sv] <;> iassumption
  iexact Ho

end Cert.KernelIdeal.Attn

end
-- ==== Proof.Launch.lean ====
/-
  The launch: what every device starts with, the region of the one kernel call, and the run of the whole program.
-/
module

public import proofs.«01_k».proof.Proof.Pieces
public import Idealize.ShloMosaic.Lib.Pipeline.Regions
public import Idealize.ShloMosaic.Lib.Pipeline.Quiescent
public import Idealize.ShloMosaic.Lib.Pipeline.Kit
public import Idealize.ShloMosaic.Harness.Basic

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg BodyObligation)
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ) (ρ : Dev nD → PrngReg)

/-! ## The arrays before, at and after the kernel call -/

abbrev V₀ (c : Dev nD) : Valuation τ sig (Elt F) := fun b => m ((c : Dev nD), b)
/-- After the transposes and reshapes of the keys and the values. -/
abbrev V₁ (c : Dev nD) : Valuation τ sig (Elt F) := StableHlo.after Gen.hostOps0 (V₀ m c)
/-- What the kernel is entered with. -/
def inp : Inp F := ⟨fun c => V₁ m c main_arg0, fun c => V₁ m c main_v2, fun c => V₁ m c main_v4⟩
/-- After the kernel: the result array written. -/
abbrev V₂ (c : Dev nD) : Valuation τ sig (Elt F) := Function.update (V₁ m c) (Proc.devRef .tc main_v5) (OUT (inp m) c)

theorem V₂_out (c : Dev nD) : V₂ m c main_v5 = OUT (inp m) c := Function.update_self ..
theorem V₂_other (c : Dev nD) (b : DevRef τ sig) (h : b ≠ Proc.devRef .tc main_v5) : V₂ m c b = V₁ m c b := Function.update_of_ne h ..

/-- The unscoped buffers. -/
def bufs : Finset (DevRef τ sig) := (StableHlo.tcRefs τ sig).filter fun b => ¬ b.isScoped

abbrev pt (c : Dev nD) (b : Ref sig .tc) (f : b.ty.Contents (Elt F)) : sProp 𝕄 := (Memref.whole b).view.loc (c : Thread nD τ) ↦{fullShare} f

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem bufs_eq (c : Dev nD) (W : Valuation τ sig (Elt F)) : (StableHlo.held (c : Thread nD τ) bufs W : sProp 𝕄)
    = iprop(pt c main_arg0 (W main_arg0) ∗ pt c main_arg1 (W main_arg1) ∗ pt c main_arg2 (W main_arg2) ∗ pt c main_v1 (W main_v1)
      ∗ pt c main_v2 (W main_v2) ∗ pt c main_v3 (W main_v3) ∗ pt c main_v4 (W main_v4) ∗ pt c main_v5 (W main_v5)) := by
  unfold StableHlo.held
  rw [bigSep_eq_bigSepL_of_eq [Proc.devRef .tc main_arg0, Proc.devRef .tc main_arg1, Proc.devRef .tc main_arg2, Proc.devRef .tc main_v1,
    Proc.devRef .tc main_v2, Proc.devRef .tc main_v3, Proc.devRef .tc main_v4, Proc.devRef .tc main_v5] (by decide) (by decide)]
  rfl

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide +kernel, BI.bigSep_singleton]

/-! ## What a device holds up to the kernel call, and in it -/

/-- The kernel's own semaphores. -/
abbrev osem : Fin 70 → SemLoc sig := fun s => .dma s

/-- What every device knows: the cells, and that the barriers are ready. -/
def recs (K : GSem nD τ sig → ℕ) : sProp 𝕄 :=
  iprop((bigSep Finset.univ fun c' : Dev nD => cellInv ER (sched (inp m)) (K (barCell c')) (barCell c'))
    ∗ (bigSep Finset.univ fun p : Fin 70 × Dev nD => cellInv ER (sched (inp m)) (K (dCell p.1 p.2)) (dCell p.1 p.2))
    ∗ (bigSep Finset.univ fun c' : Dev nD => reached ER (barCell c') 0))
instance recs_persistent (K : GSem nD τ sig → ℕ) : BI.Persistent (recs m K) := by unfold recs; infer_instance

/-- The device whose semaphore `s` device `c` raises: its own, but for a receiver's. -/
def tgt (s : Fin 70) (c : Dev nD) : Dev nD := if h : 52 ≤ s.val then peer ⟨s.val - 52, by omega⟩ c else c
theorem tgt_tgt (s : Fin 70) (c : Dev nD) : tgt s (tgt s c) = c := by
  unfold tgt
  split
  · exact peer_peer _ _
  · rfl
def tgtE (s : Fin 70) : Dev nD ≃ Dev nD := ⟨tgt s, tgt s, tgt_tgt s, tgt_tgt s⟩
def pdE (d : Fin 3) : Dev nD ≃ Dev nD := ⟨pd d, pd d, pd_pd d, pd_pd d⟩

/-- What is the device's alone: its place at its barrier, the right to open its DMA semaphores, the rights to raise. -/
def linear (c : Dev nD) : sProp 𝕄 :=
  iprop(atPos ER (barCell c) 0 ∅ 0 ∗ (bigSep Finset.univ fun s : Fin 70 => openTok ER (dCell s c))
    ∗ (bigSep Finset.univ fun d : Fin 3 => dutyTok ER (barCell (pd d c)) 0 d)
    ∗ (bigSep Finset.univ fun s : Fin 70 => dutyTok ER (dCell s (tgt s c)) 0 0))
/-- What its peers owe it. -/
def dueTo (c : Dev nD) : sProp 𝕄 :=
  iprop(cred (tallyAt (barCell c) () 3) ∗ bigSep Finset.univ fun k : Fin 18 => cred (tallyAt (dCell (sR k) c) () (amt (sR k))))

def Tk (c : Dev nD) : sProp 𝕄 := iprop((∃ K, recs m K) ∗ linear c ∗ dueTo c)
def Xk (c : Dev nD) : sProp 𝕄 := iprop(∃ K, Env (inp m) K c ∗ rights c)
def Yk (c : Dev nD) : sProp 𝕄 := semVal (barCell c) 0

theorem open_all (K : GSem nD τ sig → ℕ) (c : Dev nD) :
    iprop(recs m K ∗ (bigSep Finset.univ fun s : Fin 70 => openTok ER (dCell s c)) ∗ Pipeline.ownSems0 osem c)
      ⊢ (|={Set.univ}=> iprop((bigSep Finset.univ fun s : Fin 70 => atPos ER (dCell s c) 0 ∅ 0) ∗ (bigSep Finset.univ fun s : Fin 70 => reached ER (dCell s c) 0)) : sProp 𝕄) := by
  unfold Pipeline.ownSems0
  rw [← bigSep_sep' Finset.univ (fun s : Fin 70 => (openTok ER (dCell s c) : sProp 𝕄)) (fun s => semVal ((c.tc : Thread nD τ), osem s) 0),
    ← bigSep_sep' Finset.univ (fun s : Fin 70 => (atPos ER (dCell s c) 0 ∅ 0 : sProp 𝕄))]
  refine (bigSep_with_persistent (R := recs m K) (Ψ := fun s : Fin 70 => iprop(|={Set.univ}=> (atPos ER (dCell s c) 0 ∅ 0 ∗ reached ER (dCell s c) 0)))
    fun s _ => ?_).trans (bigSep_fupd _ _)
  show iprop(recs m K ∗ (openTok ER (dCell s c) ∗ semVal (dCell s c) 0)) ⊢ iprop(|={Set.univ}=> (atPos ER (dCell s c) 0 ∅ 0 ∗ reached ER (dCell s c) 0))
  refine BIBase.Entails.trans ?_ (Rounds.cell_open ER (sched (inp m)) (g := dCell s c) (Set.mem_univ (K (dCell s c))))
  unfold recs
  iintro ⟨⟨-, #HI, -⟩, Ho, Hv⟩
  isplitr
  · iapply (show (bigSep Finset.univ (fun p : Fin 70 × Dev nD => cellInv ER (sched (inp m)) (K (dCell p.1 p.2)) (dCell p.1 p.2)) : sProp 𝕄) ⊢ _ from
      bigSep_elim (Finset.mem_univ (s, c))); iexact HI
  isplitl [Ho] <;> iassumption

theorem rights_intro (c : Dev nD) :
    iprop(atPos ER (barCell c) 0 ∅ 0 ∗ (bigSep Finset.univ fun s : Fin 70 => atPos ER (dCell s c) 0 ∅ 0)
      ∗ (bigSep Finset.univ fun d : Fin 3 => dutyTok ER (barCell (pd d c)) 0 d)
      ∗ (bigSep Finset.univ fun s : Fin 70 => dutyTok ER (dCell s (tgt s c)) 0 0) ∗ dueTo c) ⊢ (rights c : sProp 𝕄) := by
  have hd : (bigSep Finset.univ fun d : Fin 3 => (dutyTok ER (barCell (pd d c)) 0 d : sProp 𝕄))
      = iprop(dutyTok ER (barCell (pd 0 c)) 0 0 ∗ dutyTok ER (barCell (pd 1 c)) 0 1 ∗ dutyTok ER (barCell (pd 2 c)) 0 2) :=
    bigSep_eq_bigSepL_of_eq (S := (Finset.univ : Finset (Fin 3))) [0, 1, 2] (by decide) (by decide) (fun d : Fin 3 => (dutyTok ER (barCell (pd d c)) 0 d : sProp 𝕄))
  have own (s : Fin 70) (h : s.val < 52) : (dutyTok ER (dCell s (tgt s c)) 0 0 : sProp 𝕄) = dutyTok ER (dCell s c) 0 0 := by
    unfold tgt; rw [dif_neg (by omega)]
  have rem (k : Fin 18) : (dutyTok ER (dCell (sR k) (tgt (sR k) c)) 0 0 : sProp 𝕄) = dutyTok ER (dCell (sR k) (peer k c)) 0 0 := by
    unfold tgt; rw [dif_pos (by show 52 ≤ 52 + k.val; omega)]
    exact congrArg (fun j => (dutyTok ER (dCell (sR k) (peer j c)) 0 0 : sProp 𝕄)) (Fin.ext (Nat.add_sub_cancel_left _ _))
  rw [split70 (fun s : Fin 70 => (atPos ER (dCell s c) 0 ∅ 0 : sProp 𝕄)), split70 (fun s : Fin 70 => (dutyTok ER (dCell s (tgt s c)) 0 0 : sProp 𝕄)), hd,
    bigSep_congr (s := Finset.univ) (fun (i : Fin 16) _ => own (sQ i) (by show i.val < 52; omega)), own 16 (by decide), own 17 (by decide),
    bigSep_congr (s := Finset.univ) (fun (i : Fin 16) _ => own (sO i) (by show 18 + i.val < 52; omega)),
    bigSep_congr (s := Finset.univ) (fun (i : Fin 18) _ => own (sS i) (by show 34 + i.val < 52; omega)),
    bigSep_congr (s := Finset.univ) (fun (i : Fin 18) _ => rem i)]
  unfold dueTo rights tok sTok pend tok
  rw [bigSep_sep' Finset.univ (fun i : Fin 16 => (dutyTok ER (dCell (sQ i) c) 0 0 : sProp 𝕄)), bigSep_sep' Finset.univ (fun i : Fin 16 => (dutyTok ER (dCell (sO i) c) 0 0 : sProp 𝕄)),
    bigSep_sep' Finset.univ (fun k : Fin 18 => (iprop(dutyTok ER (dCell (sS k) c) 0 0 ∗ atPos ER (dCell (sS k) c) 0 ∅ 0) : sProp 𝕄)),
    bigSep_sep' Finset.univ (fun k : Fin 18 => (dutyTok ER (dCell (sS k) c) 0 0 : sProp 𝕄)),
    bigSep_sep' Finset.univ (fun k : Fin 18 => (cred (tallyAt (dCell (sR k) c) () (amt (sR k))) : sProp 𝕄))]
  iintro ⟨Hb, ⟨AQ, ⟨A16, A17⟩, AO, AS, AR⟩, ⟨T0, T1, T2⟩, ⟨DQ, ⟨D16, D17⟩, DO, DS, DR⟩, Hc, CR⟩
  isplitl [Hb T0 T1 T2 Hc]
  · isplitl [T0]; · iexact T0
    isplitl [T1]; · iexact T1
    isplitl [T2]; · iexact T2
    isplitl [Hc] <;> iassumption
  isplitl [AQ DQ]; · isplitl [DQ] <;> iassumption
  isplitl [A16 A17 D16 D17]
  · isplitl [A16 D16]; · isplitl [D16] <;> iassumption
    isplitl [D17] <;> iassumption
  isplitl [AO DO]; · isplitl [DO] <;> iassumption
  isplitl [AS DS DR]
  · isplitl [AS DS]; · isplitl [DS] <;> iassumption
    iexact DR
  isplitl [CR] <;> iassumption

theorem hopen (c : Dev nD) : iprop(Tk m c ∗ Pipeline.ownSems0 osem c ∗ levAts L lv) ⊢ (|={Set.univ}=> Xk m c : sProp 𝕄) := by
  unfold Tk Xk linear
  iintro ⟨⟨⟨%K, #HR⟩, ⟨Hb, Ho, Hd, HD⟩, Hc⟩, Hs, #Hlev⟩
  imod (open_all m K c) $$ [Ho Hs] with ⟨Hat, #Hre⟩
  · isplitr; · iexact HR
    isplitl [Ho] <;> iassumption
  imodintro
  iexists K
  isplitr
  · unfold recs Env
    icases HR with ⟨#H1, #H2, #H3⟩
    isplitr; · iexact H1
    isplitr; · iexact H2
    isplitr; · iexact H3
    isplitr; · iexact Hre
    iexact Hlev
  iapply (rights_intro (F := F) c)
  isplitl [Hb]; · iexact Hb
  isplitl [Hat]; · iexact Hat
  isplitl [Hd]; · iexact Hd
  isplitl [HD] <;> iassumption

/-! ## The region -/

/-- The region's data: no staged window; the device owes its copies and its barrier units at entry, nothing at the end. -/
def dat (c : Dev nD) : Dat τ (Elt F) Unit ℕ UU ℕ cfg0 c where
  A w := w.elim0
  after w := w.elim0
  Φ t := if t.val = 0 then iprop(scratch c ∗ (∃ r, prngReg c r) ∗ StableHlo.held (c : Thread nD τ) bufs (V₁ m c) ∗ Xk m c)
    else iprop(scratch c ∗ (∃ r, prngReg c r) ∗ StableHlo.held (c : Thread nD τ) bufs (V₂ m c) ∗ Pipeline.ownSems0 osem c ∗ Yk c)
  q w := w.elim0
  owed t := if t.val = 0 then owed₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem bigSep_W {M : Type} [URA M] (Φ : Fin 0 → sProp M) : bigSep Finset.univ Φ = (BI.emp : sProp M) :=
  bigSep_univ_eq_bigSepL [] (by decide) (by decide) Φ

theorem scoped_eq (c : Dev nD) :
    (Pipeline.scopedRest (Ix := Unit) (Name := ℕ) (U := UU) (Lvl := ℕ) (Val := Elt F) (Pipeline.pin (pcfgs (F := F)) adm 0).spec c : sProp 𝕄) = scratch c :=
  Gen.scopedRest0_eq c

theorem owed_zero (c : Dev nD) : (pdats (F := F) m 0 c).owed 0 = owed₀ c := by
  show (if ((0 : Fin (cfg0.N + 1)).val = 0) then owed₀ c else 0) = owed₀ c; exact if_pos rfl
theorem owed_first (c : Dev nD) : (dat (F := F) m c).owed Gen.t0_0.castSucc = owed₀ c := by
  show (if (Gen.t0_0.castSucc : Fin (cfg0.N + 1)).val = 0 then owed₀ c else 0) = owed₀ c; exact if_pos rfl
theorem owed_last (c : Dev nD) : (pdats (F := F) m 0 c).owed (Fin.last _) = 0 := by
  show (if (Fin.last cfg0.N).val = 0 then owed₀ c else 0) = 0
  rw [Fin.val_last, if_neg (by rw [show cfg0.N = 1 from Gen.N_0]; decide)]

theorem owesAt_intro {cfg : Cfg sig Λ₀} {c : Dev nD} (d : Dat τ (Elt F) Unit ℕ UU ℕ cfg c) (t : Fin (cfg.N + 1))
    (O : CellTallies nD τ sig Unit) (h0 : d.owed t = O) (hr : d.recorded t = Set.univ := by first | rfl | skip) :
    (owesE c O : sProp 𝕄) ⊢ (d.owesAt () t : sProp 𝕄) := by
  unfold owesE Dat.owesAt Pipeline.owesWithin Dat.bound; rw [h0, hr]
  iintro ⟨%W, HO⟩; iexists W; isplitr; · ipureintro; exact fun _ _ => Or.inl trivial
  iexact HO
theorem owesAt_elim {cfg : Cfg sig Λ₀} {c : Dev nD} (d : Dat τ (Elt F) Unit ℕ UU ℕ cfg c) (t : Fin (cfg.N + 1))
    (O : CellTallies nD τ sig Unit) (h0 : d.owed t = O) : (d.owesAt () t : sProp 𝕄) ⊢ owesE c O := by
  unfold owesE Dat.owesAt Pipeline.owesWithin; rw [h0]
  iintro ⟨%W, -, HO⟩; iexists W; iexact HO

theorem hk_pt (c : Dev nD) : (pK .hk c Finset.univ fullShare ((inp m).k c) : sProp 𝕄) = pt c main_v2 (V₁ m c main_v2) := rfl
theorem hv_pt (c : Dev nD) : (pK .hv c Finset.univ fullShare ((inp m).v c) : sProp 𝕄) = pt c main_v4 (V₁ m c main_v4) := rfl

/-- The kernel's body on a device: from the scratch buffers and the arrays to the result written, every semaphore at zero. -/
theorem body_run (c : Dev nD) {Q : PUnit → sProp 𝕄} :
    iprop((scratch c ∗ StableHlo.held (c : Thread nD τ) bufs (V₁ m c) ∗ Xk m c) ∗ owesE c (owed₀ c)) ⊢
      iprop((((scratch c ∗ StableHlo.held (c : Thread nD τ) bufs (V₂ m c) ∗ Pipeline.ownSems0 osem c ∗ Yk c) ∗ owesE c 0) -∗ Q ⟨⟩)
        -∗ WP c (on cc0_body) Q) := by
  rw [bufs_eq, bufs_eq]
  unfold Xk
  iintro ⟨⟨Hs, ⟨B0, B1, B2, B3, B4, B5, B6, B7⟩, ⟨%K, #HE, HR⟩⟩, HO⟩ Hk
  ihave Hp := (body_entry (inp m) K c) $$ HE Hs [B0] [B4] [B6] [B7] HR HO
  · iexact B0
  · iapply (Entails.of_eq (hk_pt m c).symm); iexact B4
  · iapply (Entails.of_eq (hv_pt m c).symm); iexact B6
  · iexists _; iexact B7
  icases Hp with ⟨Hp, Ha⟩
  iapply (body (inp m) K c) $$ HE Hp
  iintro Hpost
  ihave He := (body_exit (inp m) c) $$ Hpost Ha
  icases He with ⟨HO, Hb, HZ, Hs, H0, H4, H6, H7⟩
  iapply Hk
  rw [V₂_out, V₂_other m c main_arg0 (by decide), V₂_other m c main_arg1 (by decide), V₂_other m c main_arg2 (by decide), V₂_other m c main_v1 (by decide),
    V₂_other m c main_v2 (by decide), V₂_other m c main_v3 (by decide), V₂_other m c main_v4 (by decide)]
  isplitr [HO]
  · isplitl [Hs]; · iexact Hs
    isplitl [B1 B2 B3 B5 H0 H4 H6 H7]
    · isplitl [H0]; · iexact H0
      isplitl [B1]; · iexact B1
      isplitl [B2]; · iexact B2
      isplitl [B3]; · iexact B3
      isplitl [H4]; · iapply (Entails.of_eq (hk_pt m c)); iexact H4
      isplitl [B5]; · iexact B5
      isplitl [H6]; · iapply (Entails.of_eq (hv_pt m c)); iexact H6
      iexact H7
    isplitl [HZ]; · unfold Pipeline.ownSems0; iexact HZ
    unfold Yk; iexact Hb
  iexact HO

theorem body_oblig (c : Dev nD) : BodyObligation (dat (F := F) m c) defs₀ 𝒱₀ () Set.univ := fun t => by
  obtain rfl := Gen.fin_N0 t
  rw [bigSep_W, bigSep_W]
  rw [show (dat m c).Φ Gen.t0_0.castSucc = iprop(scratch c ∗ (∃ r, prngReg c r) ∗ StableHlo.held (c : Thread nD τ) bufs (V₁ m c) ∗ Xk m c) from rfl,
    show (dat m c).Φ Gen.t0_0.succ = iprop(scratch c ∗ (∃ r, prngReg c r) ∗ StableHlo.held (c : Thread nD τ) bufs (V₂ m c) ∗ Pipeline.ownSems0 osem c ∗ Yk c) from rfl]
  iintro ⟨⟨Hs, Hreg, Hh, HX⟩, HO, -⟩
  ihave HO := (owesAt_elim (dat m c) _ (owed₀ c) (owed_first m c)) $$ HO
  iapply (body_run m c) $$ [Hs Hh HX HO]
  · isplitr [HO]
    · isplitl [Hs]; · iexact Hs
      isplitl [Hh] <;> iassumption
    iexact HO
  iintro ⟨⟨Hs, Hh, HZ, HY⟩, HO⟩
  isplitr [HO]
  · isplitl [Hs]; · iexact Hs
    isplitl [Hreg]; · iexact Hreg
    isplitl [Hh]; · iexact Hh
    isplitl [HZ] <;> iassumption
  isplitl [HO]; · iapply (owesAt_intro (dat m c) Gen.t0_0.succ 0 (owed_last m c)); iexact HO
  iempintro

theorem owed_pos {c : Dev nD} {g : GSem nD τ sig} {u : Unit} (h : 0 < owed₀ c g u) : (∃ k, g = dCell (sR k) (peer k c)) ∨ ∃ d, g = barCell (pd d c) := by
  unfold owed₀ at h
  have one {d : Fin 3} (h : 0 < (tallyAt (barCell (pd d c)) () 1 : CellTallies nD τ sig Unit) g u) : g = barCell (pd d c) := by
    rw [tallyAt_apply] at h
    split at h
    · next hg => exact hg.1
    · exact absurd h (Nat.lt_irrefl 0)
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨k, -, e⟩ := owe_pos h; exact .inl ⟨k, e⟩
      · exact .inr ⟨2, one h⟩
    · exact .inr ⟨1, one h⟩
  · exact .inr ⟨0, one h⟩

theorem lvR_pos : ∀ k, 0 < lvR k := by decide +kernel

theorem cut (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then owed₀ c else 0 := rfl
  rw [e] at h
  split at h
  · rcases owed_pos h with ⟨k, rfl⟩ | ⟨d, rfl⟩
    · exact ⟨by rw [L_tc]; exact Finset.mem_singleton_self _, by show 0 < lvD (sR k); rw [lvD_r]; exact lvR_pos k⟩
    · exact ⟨by rw [L_tc]; exact Finset.mem_singleton_self _, Nat.one_pos⟩
  · exact absurd h (Nat.lt_irrefl 0)

theorem hin (c : Dev nD) : iprop(Pipeline.scopedRest (Pipeline.pin (pcfgs (F := F)) adm 0).spec c ∗ (∃ r, prngReg c r) ∗ StableHlo.held (c.tc : Thread nD τ) bufs (V₁ m c) ∗ Xk m c)
    ⊢ (pdats m 0 c).Φ 0 := by
  rw [show (pdats m 0 c).Φ 0 = iprop(scratch c ∗ (∃ r, prngReg c r) ∗ StableHlo.held (c : Thread nD τ) bufs (V₁ m c) ∗ Xk m c) from rfl, scoped_eq]

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) bufs (V₂ m c) ∗ Pipeline.ownSems0 osem c ∗ Yk c) := by
  rw [show (pdats m 0 c).Φ (Fin.last _) = iprop(scratch c ∗ (∃ r, prngReg c r) ∗ StableHlo.held (c : Thread nD τ) bufs (V₂ m c) ∗ Pipeline.ownSems0 osem c ∗ Yk c) from rfl, scoped_eq]

theorem kitP : Pipeline.PLaunchFacts (nD := nD) (τ := τ) (pcfgs (F := F)) 0 where
  cellOf_inj a := by rw [Subsingleton.elim a adm]; exact Gen.cellOf_inj
  win := Gen.winFacts0
  pre := Pipeline.PreFacts.none _
  block_pos w := w.elim0
  arr_whole w := w.elim0
  stage_whole w := w.elim0

theorem own_facts : Pipeline.OwnSemFacts cfg0.spec osem := by decide +kernel

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
def reg0 : ℝ𝕊 0 :=
  Pipeline.RegionSeg.ofTalk (pcfgs (F := F)) adm (pdats m) () defs₀ 𝒱₀ L lv 0 osem own_facts
    bufs bufs (Finset.Subset.refl _) kitP rfl (fun c => (body_oblig m c).loose)
    (fun _ => 0) owed₀ (fun c => (owed_zero m c).trans (zero_add _).symm) (owed_last m) (fun _ => rfl) (fun _ w => w.elim0)
    (V₁ m) (V₂ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun _ w => w.elim0, fun _ w => w.elim0, fun c t g i h => cut m c t g i h⟩
    (fun _ => iprop(emp))
    (fun _ w => w.elim0) (fun _ w => w.elim0)

/-- What rides beside the buffers up to the kernel call. -/
def R (c : Dev nD) : sProp 𝕄 := iprop(Tk m c ∗ (∃ r, prngReg c r) ∗ owesE c (owed₀ c))

theorem ops_sub : ∀ op ∈ (Gen.hostOps0 : List (HloOp τ sig (Elt F))), op.bufs ⊆ bufs := fun op h => by
  simp only [List.mem_cons, List.not_mem_nil, or_false] at h
  rcases h with rfl | rfl | rfl | rfl
  · show ({Proc.devRef .tc main_arg1, Proc.devRef .tc main_v1} : Finset (DevRef τ sig)) ⊆ bufs; decide
  · show ({Proc.devRef .tc main_v1, Proc.devRef .tc main_v2} : Finset (DevRef τ sig)) ⊆ bufs; decide
  · show ({Proc.devRef .tc main_arg2, Proc.devRef .tc main_v3} : Finset (DevRef τ sig)) ⊆ bufs; decide
  · show ({Proc.devRef .tc main_v3, Proc.devRef .tc main_v4} : Finset (DevRef τ sig)) ⊆ bufs; decide

def seg0 : ℍ := Pipeline.HostSeg.ofOps _ _ _ _ _ bufs Gen.hostOps0 ops_sub (List.forall_iff_forall_mem.mp Gen.hostOps0_fresh) (V₀ m) (R m)

theorem held_arr (c : Dev nD) (W : Valuation τ sig (Elt F)) :
    (StableHlo.held (c.tc : Thread nD τ) (Pipeline.arrRefs (τ := τ) (pcfgs (F := F) 0).spec) W : sProp 𝕄) = BI.emp := by
  have : Pipeline.arrRefs (τ := τ) (pcfgs (F := F) 0).spec = ∅ := by
    unfold Pipeline.arrRefs
    rw [Finset.map_eq_empty, Finset.image_eq_empty, Finset.univ_eq_empty]
  rw [this]
  unfold StableHlo.held
  exact BI.bigSep_empty

theorem reg0_pre (c : Dev nD) : iprop(StableHlo.held (c : Thread nD τ) bufs (V₁ m c) ∗ R m c) ⊢ (reg0 m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) bufs (V₁ m c) ∗ emp) ∗ Tk m c ∗ ∃ Wd, owes (c : Thread nD τ) (0 + owed₀ c) Wd)
  rw [held_arr, zero_add]
  unfold R owesE
  iintro ⟨Hh, HT, Hp, HO⟩
  isplitr; · iempintro
  isplitl [Hp]; · iexact Hp
  isplitl [Hh]
  · isplitl [Hh]; · iexact Hh
    iempintro
  isplitl [HT] <;> iassumption

theorem reg0_post (c : Dev nD) : (reg0 m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) bufs (V₂ m c) ∗ emp) ∗ Yk c ∗ ∃ Wd, owes (c : Thread nD τ) (0 : CellTallies nD τ sig Unit) Wd) ⊢ _
  rw [held_arr]
  unfold Yk
  iintro ⟨-, -, ⟨Hh, -⟩, Hb, HO⟩
  isplitr [HO]
  · isplitl [Hh] <;> iassumption
  iexact HO

def segs : List (Pipeline.Seg (pcfgs (F := F)) adm (pdats m) () defs₀ 𝒱₀ L lv) := [.host (seg0 m), .region (reg0 m)]

/-! ## The launch's ghost state -/

def barEmb : Dev nD ↪ GSem nD τ sig := ⟨fun c => barCell c, fun _ _ h => congrArg (fun g : GSem nD τ sig => g.1.1) h⟩
def dmaEmb : Fin 70 × Dev nD ↪ GSem nD τ sig :=
  ⟨fun p => dCell p.1 p.2, fun _ _ h => Prod.ext (SemLoc.dma.inj (congrArg Prod.snd h)) (congrArg (fun g : GSem nD τ sig => g.1.1) h)⟩
abbrev barCells : Finset (GSem nD τ sig) := Finset.univ.map barEmb
abbrev dmaCells : Finset (GSem nD τ sig) := Finset.univ.map dmaEmb
def barTokEmb : Fin 3 × Dev nD ↪ GSem nD τ sig × ℕ × Fin 3 :=
  ⟨fun p => (barCell p.2, 0, p.1), fun _ _ h => Prod.ext (congrArg (fun t : GSem nD τ sig × ℕ × Fin 3 => t.2.2) h) (congrArg (fun t : GSem nD τ sig × ℕ × Fin 3 => t.1.1.1) h)⟩
def dmaTokEmb : Fin 70 × Dev nD ↪ GSem nD τ sig × ℕ × Fin 3 :=
  ⟨fun p => (dCell p.1 p.2, 0, 0), fun _ _ h => dmaEmb.injective (congrArg (fun t : GSem nD τ sig × ℕ × Fin 3 => t.1) h)⟩
abbrev allToks : Finset (GSem nD τ sig × ℕ × Fin 3) := Finset.univ.map barTokEmb ∪ Finset.univ.map dmaTokEmb

theorem bar_ne_dma (c c' : Dev nD) (s : Fin 70) : barCell c ≠ dCell s c' := fun h => by
  have h' : (SemLoc.reg barrier0 : SemLoc sig) = .dma s := congrArg Prod.snd h
  cases h'

theorem disjoint_cells : Disjoint (barCells : Finset (GSem nD τ sig)) dmaCells := by
  rw [Finset.disjoint_left]
  rintro g h₁ h₂
  obtain ⟨c, -, rfl⟩ := Finset.mem_map.mp h₁
  obtain ⟨p, -, h⟩ := Finset.mem_map.mp h₂
  exact bar_ne_dma c p.2 p.1 h.symm
theorem disjoint_toks : Disjoint (Finset.univ.map barTokEmb) (Finset.univ.map dmaTokEmb) := by
  rw [Finset.disjoint_left]
  rintro t h₁ h₂
  obtain ⟨c, -, rfl⟩ := Finset.mem_map.mp h₁
  obtain ⟨p, -, h⟩ := Finset.mem_map.mp h₂
  exact bar_ne_dma c.2 p.2 p.1 (congrArg (fun t : GSem nD τ sig × ℕ × Fin 3 => t.1) h).symm

def u₀ : UU :=
  (initOf (Pipeline.cells (Pipeline.pin (pcfgs (F := F)) adm) Gen.cellOf_inj) (Pipeline.launchToks (Pipeline.pin (pcfgs (F := F)) adm) Gen.cellOf_inj),
    launchOf barCells dmaCells allToks)

/-- A resource as a family over the devices: all of it on one. -/
def atDev (c₀ : Dev nD) (X : sProp 𝕄) (c : Dev nD) : sProp 𝕄 := if c = c₀ then X else iprop(emp)
theorem atDev_all (c₀ : Dev nD) (X : sProp 𝕄) : bigSep Finset.univ (atDev c₀ X) = X := by
  rw [bigSep_univ_at _ c₀, bigSep_congr (s := Finset.univ.erase c₀) (Ψ := fun _ => (BI.emp : sProp 𝕄))
      fun c hc => by unfold atDev; rw [if_neg (Finset.ne_of_mem_erase hc)]; rfl, BI.bigSep_emp_const]
  unfold atDev; rw [if_pos rfl]
  exact BI.equiv_iff.mp sep_emp

def G : Dev nD → sProp 𝕄 := atDev 0 (BI.own (ER (launchOf barCells dmaCells allToks)))

theorem toks_deal : bigSep allToks (fun x => (dutyTok ER x.1 x.2.1 x.2.2 : sProp 𝕄))
    = iprop((bigSep Finset.univ fun c : Dev nD => bigSep Finset.univ fun d : Fin 3 => dutyTok ER (barCell (pd d c)) 0 d)
      ∗ bigSep Finset.univ fun c : Dev nD => bigSep Finset.univ fun s : Fin 70 => dutyTok ER (dCell s (tgt s c)) 0 0) := by
  have e1 : bigSep (Finset.univ.map barTokEmb) (fun x => (dutyTok ER x.1 x.2.1 x.2.2 : sProp 𝕄))
      = bigSep Finset.univ fun c : Dev nD => bigSep Finset.univ fun d : Fin 3 => dutyTok ER (barCell (pd d c)) 0 d := by
    rw [bigSep_map, BI.bigSep_univ_comm (fun (c : Dev nD) (d : Fin 3) => (dutyTok ER (barCell (pd d c)) 0 d : sProp 𝕄)),
      show (bigSep Finset.univ fun i : Fin 3 × Dev nD => (dutyTok ER (barTokEmb i).1 (barTokEmb i).2.1 (barTokEmb i).2.2 : sProp 𝕄))
        = bigSep Finset.univ (fun p : Fin 3 × Dev nD => (dutyTok ER (barCell p.2) 0 p.1 : sProp 𝕄)) from rfl,
      bigSep_univ_prod (fun p : Fin 3 × Dev nD => (dutyTok ER (barCell p.2) 0 p.1 : sProp 𝕄))]
    exact bigSep_congr fun d _ => bigSep_univ_equiv (pdE d) (fun c : Dev nD => (dutyTok ER (barCell c) 0 d : sProp 𝕄))
  have e2 : bigSep (Finset.univ.map dmaTokEmb) (fun x => (dutyTok ER x.1 x.2.1 x.2.2 : sProp 𝕄))
      = bigSep Finset.univ fun c : Dev nD => bigSep Finset.univ fun s : Fin 70 => dutyTok ER (dCell s (tgt s c)) 0 0 := by
    rw [bigSep_map, BI.bigSep_univ_comm (fun (c : Dev nD) (s : Fin 70) => (dutyTok ER (dCell s (tgt s c)) 0 0 : sProp 𝕄)),
      show (bigSep Finset.univ fun i : Fin 70 × Dev nD => (dutyTok ER (dmaTokEmb i).1 (dmaTokEmb i).2.1 (dmaTokEmb i).2.2 : sProp 𝕄))
        = bigSep Finset.univ (fun p : Fin 70 × Dev nD => (dutyTok ER (dCell p.1 p.2) 0 0 : sProp 𝕄)) from rfl,
      bigSep_univ_prod (fun p : Fin 70 × Dev nD => (dutyTok ER (dCell p.1 p.2) 0 0 : sProp 𝕄))]
    exact bigSep_congr fun s _ => bigSep_univ_equiv (tgtE s) (fun c : Dev nD => (dutyTok ER (dCell s c) 0 0 : sProp 𝕄))
  rw [bigSep_union disjoint_toks, e1, e2]
  rfl

/-! ### The launch credit -/

theorem owe_bar (d c : Dev nD) : ∀ ks : List (Fin 18), owe d ks (barCell c) () = 0
  | [] => rfl
  | k :: ks => by
    unfold owe
    rw [Pi.add_apply, Finsupp.add_apply, owe_bar d c ks, tallyAt_apply, if_neg (fun h => bar_ne_dma _ _ _ h.1)]
theorem owe_recv (d c : Dev nD) (k : Fin 18) : ∀ ks : List (Fin 18), ks.Nodup →
    owe d ks (dCell (sR k) c) () = if k ∈ ks ∧ c = peer k d then nK k else 0
  | [], _ => by rw [if_neg (fun h => by cases h.1)]; rfl
  | j :: ks, hn => by
    obtain ⟨hj, hn⟩ := List.nodup_cons.mp hn
    unfold owe
    rw [Pi.add_apply, Finsupp.add_apply, owe_recv d c k ks hn, tallyAt_apply]
    have hcell : (dCell (sR k) c = dCell (sR j) (peer j d) ∧ () = ()) ↔ (k = j ∧ c = peer k d) := by
      constructor
      · rintro ⟨h, -⟩
        have h1 : sR k = sR j := SemLoc.dma.inj (congrArg Prod.snd h)
        have h2 : c = peer j d := congrArg (fun g : GSem nD τ sig => g.1.1) h
        have hk : k = j := Fin.ext (by have := congrArg Fin.val h1; simp only at this; omega)
        subst hk; exact ⟨rfl, h2⟩
      · rintro ⟨rfl, rfl⟩; exact ⟨rfl, rfl⟩
    by_cases h : k = j
    · subst h
      rw [if_neg (fun h => hj h.1), Nat.zero_add]
      by_cases hc : c = peer k d
      · rw [if_pos (hcell.mpr ⟨rfl, hc⟩), if_pos ⟨List.mem_cons_self .., hc⟩]
      · rw [if_neg (fun h => hc (hcell.mp h).2), if_neg (fun h => hc h.2)]
    · rw [if_neg (fun h' => h (hcell.mp h').1), Nat.add_zero]
      have : (k ∈ j :: ks) ↔ k ∈ ks := ⟨fun h' => (List.mem_cons.mp h').resolve_left h, List.mem_cons_of_mem _⟩
      simp only [this]

theorem owed_bar (d c : Dev nD) : owed₀ d (barCell c) () = ((if c = pd 2 d then 1 else 0) + (if c = pd 1 d then 1 else 0)) + (if c = pd 0 d then 1 else 0) := by
  have one (i : Fin 3) : (tallyAt (barCell (pd i d)) () 1 : CellTallies nD τ sig Unit) (barCell c) () = if c = pd i d then 1 else 0 := by
    rw [tallyAt_apply]
    by_cases h : c = pd i d
    · rw [if_pos ⟨by rw [h], rfl⟩, if_pos h]
    · rw [if_neg (fun h' => h (congrArg (fun g : GSem nD τ sig => g.1.1) h'.1)), if_neg h]
  unfold owed₀
  simp only [Pi.add_apply, Finsupp.add_apply]
  rw [owe_bar, one, one, one, Nat.zero_add]
theorem owed_recv (d c : Dev nD) (k : Fin 18) : owed₀ d (dCell (sR k) c) () = if d = peer k c then nK k else 0 := by
  have one (i : Fin 3) : (tallyAt (barCell (pd i d)) () 1 : CellTallies nD τ sig Unit) (dCell (sR k) c) () = 0 := by
    rw [tallyAt_apply, if_neg (fun h => bar_ne_dma _ _ _ h.1.symm)]
  unfold owed₀
  simp only [Pi.add_apply, Finsupp.add_apply]
  rw [one, one, one, owe_recv d c k _ (by decide +kernel)]
  have hk : k ∈ sList.drop 0 := by clear one; revert k; decide +kernel
  have hc : c = peer k d ↔ d = peer k c := ⟨fun h => by rw [h, peer_peer], fun h => by rw [h, peer_peer]⟩
  simp only [hk, _root_.true_and, hc, Nat.add_zero]

theorem launch_bar (c : Dev nD) : tallyOn (barCell c) (launchCredit (Pipeline.owing owed₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel
theorem launch_recv (k : Fin 18) (c : Dev nD) :
    tallyOn (dCell (sR k) c) (launchCredit (Pipeline.owing owed₀) 0 (dCell (sR k) c)) = (tallyAt (dCell (sR k) c) () (amt (sR k)) : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (peer k c) fun _ => nK k,
    if_pos (Finset.mem_univ _), amt_r]

def recvEmb : Fin 18 ↪ SemLoc sig := ⟨fun k => .dma (sR k), fun a b h => Fin.ext (by have := congrArg Fin.val (SemLoc.dma.inj h); simp only at this; omega)⟩

theorem creds (c : Dev nD) : (Pipeline.launchCred owed₀ c : sProp 𝕄) ⊢ dueTo c := by
  unfold Pipeline.launchCred dueTo
  rw [bigSep_univ_at _ (SemLoc.reg barrier0), launch_bar]
  refine BIClass.sep_mono (Entails.refl _) ?_
  refine BIBase.Entails.trans (bigSep_subset (t := Finset.univ.map recvEmb) fun sm h => ?_) (Entails.of_eq ?_)
  · obtain ⟨k, -, rfl⟩ := Finset.mem_map.mp h
    exact Finset.mem_erase.mpr ⟨fun h => (by cases h), Finset.mem_univ _⟩
  · rw [bigSep_map]
    refine bigSep_congr fun k _ => ?_
    show cred (tallyOn (dCell (sR k) c) (launchCredit (Pipeline.owing owed₀) 0 (dCell (sR k) c))) = _
    rw [launch_recv]

/-! ### The run -/

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barCell c) 0)

/-- What a device starts with besides the protocol's state. -/
def plain (c : Dev nD) : sProp 𝕄 :=
  iprop(StableHlo.held (c : Thread nD τ) bufs (V₀ m c) ∗ dueTo c ∗ owesE c (owed₀ c) ∗ ∃ r, prngReg c r)

theorem T₀_intro (κ : GSem nD τ sig → ℕ) (c : Dev nD) : iprop(recs m κ ∗ (linear c ∗ plain m c)) ⊢ T₀ m c := by
  unfold plain T₀ R Tk
  iintro ⟨#HR, Hl, Hh, Hd, HO, Hp⟩
  isplitl [Hh]; · iexact Hh
  isplitl [Hl Hd]
  · isplitr; · iexists κ; iexact HR
    isplitl [Hl] <;> iassumption
  isplitl [Hp] <;> iassumption

theorem init :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owed₀ c) ∅ ∗ Pipeline.launchCred owed₀ c ∗ prngReg c (ρ c) ∗ G c)
      ⊢ (iprop(plain m c ∗ (semVal (barCell c) 0 ∗ G c)) : sProp 𝕄) := by
    rw [show unscopedBufs c (fun b => m ((c : Thread nD τ).loc b)) = StableHlo.held (c : Thread nD τ) bufs (V₀ m c) from unscopedBufs_held c (V₀ m c),
      unscopedSems0_eq]
    unfold plain owesE
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexists ∅; iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hopen : bigSep dmaCells (fun g => (openTok ER g : sProp 𝕄))
      ⊢ bigSep Finset.univ (fun c : Dev nD => bigSep Finset.univ fun s : Fin 70 => openTok ER (dCell s c)) :=
    Entails.of_eq (by
      rw [bigSep_map, BI.bigSep_univ_comm (fun (c : Dev nD) (s : Fin 70) => (openTok ER (dCell s c) : sProp 𝕄)),
        ← bigSep_univ_prod (fun p : Fin 70 × Dev nD => (openTok ER (dCell p.1 p.2) : sProp 𝕄))]
      rfl)
  have hinv (κ : GSem nD τ sig → ℕ) : bigSep (barCells ∪ dmaCells) (fun g => (cellInv ER (sched (inp m)) (κ g) g : sProp 𝕄))
      ⊢ iprop((bigSep Finset.univ fun c' : Dev nD => cellInv ER (sched (inp m)) (κ (barCell c')) (barCell c'))
        ∗ (bigSep Finset.univ fun p : Fin 70 × Dev nD => cellInv ER (sched (inp m)) (κ (dCell p.1 p.2)) (dCell p.1 p.2))) :=
    Entails.of_eq (by rw [bigSep_union disjoint_cells, bigSep_map, bigSep_map]; rfl)
  iintro ⟨H, -⟩
  ihave H' := (show (bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ G c))
      ⊢ (bigSep Finset.univ fun c : Dev nD => iprop(plain m c ∗ (semVal (barCell c) 0 ∗ G c)) : sProp 𝕄) from bigSep_mono fun c _ => hcore c) $$ H
  ihave H2 := bigSep_unpair $$ H'; icases H2 with ⟨HB, H3⟩
  ihave H4 := bigSep_unpair $$ H3; icases H4 with ⟨Hv, HG⟩
  ihave Hu := (show bigSep Finset.univ (G (F := F)) ⊢ BI.own (ER (launchOf barCells dmaCells allToks)) from
    Entails.of_eq (atDev_all (F := F) 0 (BI.own (ER (launchOf barCells dmaCells allToks))))) $$ HG
  imod (Rounds.fund_launch ER (sched (inp m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := recs m κ) (Φ := fun c => iprop(linear c ∗ plain m c)) fun c _ => T₀_intro m κ c)
  isplitr
  · unfold recs
    ihave Hi := (hinv κ) $$ Hinv
    icases Hi with ⟨H1, H2⟩
    isplitl [H1]; · iexact H1
    isplitl [H2]; · iexact H2
    iapply hre; iexact Hr
  iapply bigSep_pair
  isplitr [HB]
  · unfold linear
    ihave Ht := (Entails.of_eq (toks_deal (F := F))) $$ Htok
    icases Ht with ⟨Ht1, Ht2⟩
    iapply bigSep_pair; isplitl [Hat]; · iapply hat $$ Hat
    iapply bigSep_pair; isplitl [Hopen]; · iapply hopen $$ Hopen
    iapply bigSep_pair; isplitl [Ht1]; · iexact Ht1
    iexact Ht2
  · iexact HB

theorem unscoped_eq : ∀ sm : SemLoc sig, sm.isScoped .tc = false → sm = .reg barrier0 := by decide +kernel

set_option backward.isDefEq.respectTransparency.types false in
/-- The run: from any memory with zero counters, every weakly fair execution of the program on the eight devices terminates,
    with each device's arguments unchanged, its result array holding the attention of its queries, and every counter zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
        ∧ r.2.mem ((c : Thread nD τ).loc main_v5) = OUT (inp m) c) ∧ r.2.sem = fun _ => 0) :=
  Pipeline.θ_run_regions_kit_sems (pcfgs (F := F)) adm (pdats m) () Gen.cellOf_inj EP defs₀ 𝒱₀ L lv m ρ main (segs m)
    (fun c Q => by rw [Gen.main_segs adm (pdats m) () 𝒱₀ L lv (seg0 m) (reg0 m) rfl c]; rfl)
    (by simp only [segs, Pipeline.Seg.pipes_host, Pipeline.Seg.pipes_region, Pipeline.Seg.pipes_nil]; decide)
    (O₀ := owed₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [atDev_all]; iexact HX)
    (T₀ := T₀ m) (Tₙ := Tₙ m)
    (hch := ⟨fun c => .rfl, fun c => reg0_pre m c, fun c => reg0_post m c⟩)
    (hinit := init m ρ)
    (QY := fun c s => ((s.mem ((c : Thread nD τ).loc main_arg0) = V₂ m c main_arg0 ∧ s.mem ((c : Thread nD τ).loc main_arg1) = V₂ m c main_arg1
        ∧ s.mem ((c : Thread nD τ).loc main_arg2) = V₂ m c main_arg2) ∧ s.mem ((c : Thread nD τ).loc main_v5) = V₂ m c main_v5)
      ∧ s.sem (barCell c) = 0)
    (hfin := fun c s' => by
      dsimp only [Tₙ]; rw [bufs_eq]
      iintro ⟨⟨⟨H0, H1, H2, -, -, -, -, H5⟩, Hb0⟩, HSI⟩
      icombine HSI H0 gives %h0
      icombine HSI H1 gives %h1
      icombine HSI H2 gives %h2
      icombine HSI H5 gives %h5
      icombine HSI Hb0 gives %hb
      imodintro
      isplitr
      · ipureintro
        exact ⟨⟨⟨Buf.eq_of_forall_mem_univ h0, Buf.eq_of_forall_mem_univ h1, Buf.eq_of_forall_mem_univ h2⟩, Buf.eq_of_forall_mem_univ h5⟩, by simpa using hb⟩
      iexact HSI)
    (hQ := fun s h hs => ⟨fun c => by
        obtain ⟨⟨⟨h0, h1, h2⟩, h5⟩, -⟩ := h c
        rw [V₂_other m c main_arg0 (by decide)] at h0
        rw [V₂_other m c main_arg1 (by decide)] at h1
        rw [V₂_other m c main_arg2 (by decide)] at h2
        rw [V₂_out] at h5
        exact ⟨⟨h0.trans (Gen.V_main_arg0 m c), h1.trans (Gen.V_main_arg1 m c), h2.trans (Gen.V_main_arg2 m c)⟩, h5⟩,
      sem_eq_zero hs fun c sm hsm => by
        obtain rfl := unscoped_eq sm hsm
        exact (h c).2⟩)

end Cert.KernelIdeal.Attn

end
-- ==== Proof.Frames.lean ====
/-
  The frames: every run ends, with the arguments unchanged and every counter at zero — of the kernel over the float words,
  of the kernel over the extended reals, of the reference over the extended reals.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.KernelIdeal.Attn

open Idealize.ShloMosaic Idealize.ShloMosaic.TcCoe Idealize.SL.Sem

attribute [local instance] Cert.Kernel.Gen.facts Cert.KernelIdeal.Gen.facts Cert.ReferenceIdeal.Gen.facts

/-- The kernel over the float words. Its text is the idealized kernel's. -/
theorem frame_kernel : Cert.quiescent_Kernel := fun m ρ _ =>
  (θ_run Cert.KernelIdeal.defs _ _).mono (fun _ h => ⟨fun c => (h.1 c).1, h.2⟩) (run_main (F := Bits) m ρ)

/-- The kernel over the extended reals. -/
theorem frame_ideal : Cert.quiescent_KernelIdeal := fun m ρ _ =>
  (θ_run Cert.KernelIdeal.defs _ _).mono (fun _ h => ⟨fun c => (h.1 c).1, h.2⟩) (run_main (F := Ideal) m ρ)

/-- The reference over the extended reals; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KernelIdeal.Attn

end
-- ==== Proof.Finite.lean ====
/-
  The precondition read: no element of the query array and none of the key array is infinite.
-/
module

public import proofs.«01_k».proof.Defs
public import Idealize.ShloMosaic.Lib.Pointwise

@[expose] public section

set_option maxRecDepth 16384

noncomputable section

namespace Cert.KernelIdeal.Attn

open Idealize.ShloMosaic

/-- The shape relations the precondition states, at one device's shapes. -/
theorem pre_facts : Cert.Pre_finite_scores_KernelIdeal.Facts := ⟨by decide, by decide, by decide⟩
/-- The same at the whole arrays' shapes. -/
theorem pre_facts_whole : Cert.Pre_finite_scores_ReferenceIdeal.Facts := ⟨by decide, by decide, by decide⟩

/-- A conjunction of one-bit words that is true has only true terms. -/
theorem of_fold_andi {α : Type} (f : α → BitVec 1) (s : Finset α) :
    Finset.fold IntOp.andi (1#1) f s = 1#1 → ∀ a ∈ s, f a = 1#1 := by
  classical
  induction s using Finset.induction_on with
  | empty => intro _ a ha; cases ha
  | insert b s hb ih =>
    intro h a ha
    rw [Finset.fold_insert hb] at h
    have two : ∀ x y : BitVec 1, IntOp.andi x y = 1#1 → x = 1#1 ∧ y = 1#1 := by decide
    obtain ⟨h₁, h₂⟩ := two _ _ h
    rcases Finset.mem_insert.1 ha with rfl | ha
    · exact h₁
    · exact ih h₂ a ha

/-- An extended real of absolute value below the top is a real number. -/
theorem real_of_abs_lt (x : EReal) (h : max x (-x) < ⊤) : ∃ r : ℝ, x = r := by
  induction x with
  | bot => simp at h
  | top => simp at h
  | coe r => exact ⟨r, rfl⟩

/-- The word the elements are compared with is the top. -/
theorem ofBits_top : Ideal.ofBits .f32 0x7F800000#32 = ⊤ := by
  simp [Ideal.ofBits, Ideal.ieee]

/-- Where the precondition holds, every query and every key of the device is a real number. -/
theorem finite_of_pre [Cert.Pre_finite_scores_KernelIdeal.Facts] (Q K V : FVec Ideal Cert.Pre_finite_scores_KernelIdeal.S2x256x8x64 .f32)
    (h : Cert.Pre_finite_scores_KernelIdeal.fn (F := Ideal) Q K V = fun _ => 1#1) (i : Cert.Pre_finite_scores_KernelIdeal.S2x256x8x64.Idx) :
    (∃ x : ℝ, Q i = x) ∧ ∃ x : ℝ, K i = x := by
  have h0 := congrFun h ix0
  pointwise [Cert.Pre_finite_scores_KernelIdeal.fn, ofBits_top] at h0
  have two : ∀ x y : BitVec 1, IntOp.andi x y = 1#1 → x = 1#1 ∧ y = 1#1 := by decide
  obtain ⟨hq, hk⟩ := two _ _ h0
  have one : ∀ p : Prop, ∀ _ : Decidable p, BitVec.ofBool (decide p) = 1#1 → p := by
    intro p d hp
    by_contra hn
    rw [decide_eq_false hn] at hp
    exact absurd hp (by decide)
  have mem : i ∈ ({j | Shape.ReducesTo.drop Cert.Pre_finite_scores_KernelIdeal.Facts.reducesTo_S2x256x8x64_S_d0_1_2_3 j = ix0} : Finset _) :=
    Finset.mem_filter.2 ⟨Finset.mem_univ _, funext fun a => a.elim0⟩
  exact ⟨real_of_abs_lt _ (one _ _ (of_fold_andi _ _ hq i mem)), real_of_abs_lt _ (one _ _ (of_fold_andi _ _ hk i mem))⟩

end Cert.KernelIdeal.Attn

end
-- ==== Proof.Merge.lean ====
/-
  The pure identity: the softmax-weighted sum over two halves, each half computed against the running maximum and the
  first half rescaled when the second one's maximum is known, is the weighted sum against the maximum of all of it. The
  scores are real numbers; the values are any extended reals.
-/
module

public import Idealize.ShloMosaic.PureOps.Ideal.Laws

@[expose] public section

noncomputable section

namespace Cert.KernelIdeal.Attn

open Idealize.ShloMosaic

/-- The largest of finitely many extended reals. -/
def top {n : ℕ} (f : Fin n → EReal) : EReal := Finset.univ.fold max ⊥ f

/-- The largest is at most `x` exactly when each is. -/
theorem top_le {n : ℕ} (f : Fin n → EReal) (x : EReal) : top f ≤ x ↔ ∀ k, f k ≤ x := by
  unfold top
  rw [Finset.fold_max_le]
  simp

/-- Each of them is at most the largest. -/
theorem le_top_at {n : ℕ} (f : Fin n → EReal) (k : Fin n) : f k ≤ top f := (top_le f _).1 le_rfl k

/-- The largest of some, at least one, real numbers is a real number. -/
theorem top_real {n : ℕ} (hn : 0 < n) (f : Fin n → ℝ) : ∃ m : ℝ, top (fun k => (f k : EReal)) = m := by
  have lo : ((f ⟨0, hn⟩ : ℝ) : EReal) ≤ top (fun k => (f k : EReal)) := le_top_at (fun k => (f k : EReal)) _
  have hi : top (fun k => (f k : EReal)) ≤ ((∑ k, |f k| : ℝ) : EReal) := (top_le _ _).2 fun k =>
    EReal.coe_le_coe_iff.2 ((le_abs_self _).trans (Finset.single_le_sum (f := fun k => |f k|) (fun _ _ => abs_nonneg _) (Finset.mem_univ k)))
  induction h : top (fun k => (f k : EReal)) with
  | bot => rw [h] at lo; exact absurd lo (by simp)
  | top => rw [h] at hi; exact absurd hi (by simp)
  | coe m => exact ⟨m, rfl⟩

/-- A real number that is not negative is distributed over a sum of extended reals. -/
theorem sum_mul_real {n : ℕ} (f : Fin n → EReal) (x : ℝ) (hx : 0 ≤ x) : (∑ k, f k) * (x : EReal) = ∑ k, f k * (x : EReal) := by
  induction (Finset.univ : Finset (Fin n)) using Finset.induction_on with
  | empty => simp
  | insert a s ha ih =>
    rw [Finset.sum_insert ha, Finset.sum_insert ha,
      EReal.right_distrib_of_nonneg_of_ne_top (EReal.coe_nonneg.2 hx) (EReal.coe_ne_top x), ih]

/-- A sum of real numbers, among the extended reals. -/
theorem coe_sum {n : ℕ} (f : Fin n → ℝ) : ((∑ k, f k : ℝ) : EReal) = ∑ k, (f k : EReal) := by
  induction (Finset.univ : Finset (Fin n)) using Finset.induction_on with
  | empty => simp
  | insert a s ha ih => rw [Finset.sum_insert ha, Finset.sum_insert ha, EReal.coe_add, ih]

/-- The two halves against the running maximum, quotient at the end: what a device computes. -/
def merged {n : ℕ} (sa sb va vb : Fin n → EReal) : EReal :=
  Ideal.div
    ((∑ k, Ideal.exp (sa k - top sa) * va k) * Ideal.exp (top sa - max (top sa) (top sb))
      + ∑ k, Ideal.exp (sb k - max (top sa) (top sb)) * vb k)
    ((∑ k, Ideal.exp (sa k - top sa)) * Ideal.exp (top sa - max (top sa) (top sb))
      + ∑ k, Ideal.exp (sb k - max (top sa) (top sb)))

/-- The weighted sum, weights first: what the reference computes. -/
def weighted {n : ℕ} (s v : Fin n → EReal) : EReal :=
  ∑ j, v j * Ideal.div (Ideal.exp (s j - top s)) (∑ j', Ideal.exp (s j' - top s))

/-- A real score's exponential against a real maximum. -/
theorem exp_real (x m : ℝ) : Ideal.exp ((x : EReal) - m) = (Real.exp (x - m) : ℝ) := by
  rw [← EReal.coe_sub]; rfl

/-- One half's rescaled sum, over the extended reals. -/
theorem rescale {n : ℕ} (s : Fin n → ℝ) (v : Fin n → EReal) (ma m : ℝ) :
    (∑ k, ((Real.exp (s k - ma) : ℝ) : EReal) * v k) * ((Real.exp (ma - m) : ℝ) : EReal)
      = ∑ k, ((Real.exp (s k - m) : ℝ) : EReal) * v k := by
  rw [sum_mul_real _ _ (Real.exp_pos _).le]
  refine Finset.sum_congr rfl fun k _ => ?_
  rw [mul_right_comm, ← EReal.coe_mul, ← Real.exp_add, sub_add_sub_cancel]

/-- A quotient by a positive real number is a product. -/
theorem div_real (x : EReal) (d : ℝ) (hd : 0 < d) : Ideal.div x (d : EReal) = x * ((d⁻¹ : ℝ) : EReal) := by
  unfold Ideal.div
  rw [if_neg (by exact_mod_cast hd.ne'), EReal.coe_inv]

/-- THE IDENTITY, for sums over any index set that is the two halves together. -/
theorem merged_eq {n N : ℕ} (hn : 0 < n) (sa sb : Fin n → ℝ) (va vb : Fin n → EReal) (s v : Fin N → EReal)
    (ia ib : Fin n → Fin N) (all : ∀ j, (∃ k, j = ia k) ∨ ∃ k, j = ib k)
    (cut : ∀ f : Fin N → EReal, ∑ j, f j = ∑ k, f (ia k) + ∑ k, f (ib k))
    (hsa : ∀ k, s (ia k) = sa k) (hsb : ∀ k, s (ib k) = sb k) (hva : ∀ k, v (ia k) = va k) (hvb : ∀ k, v (ib k) = vb k) :
    merged (fun k => (sa k : EReal)) (fun k => (sb k : EReal)) va vb = weighted s v := by
  have hmax : top s = max (top fun k => (sa k : EReal)) (top fun k => (sb k : EReal)) := by
    refine le_antisymm ((top_le _ _).2 fun j => ?_) (max_le ((top_le _ _).2 fun k => ?_) ((top_le _ _).2 fun k => ?_))
    · rcases all j with ⟨k, rfl⟩ | ⟨k, rfl⟩
      · rw [hsa]; exact le_max_of_le_left (le_top_at (fun k => (sa k : EReal)) k)
      · rw [hsb]; exact le_max_of_le_right (le_top_at (fun k => (sb k : EReal)) k)
    · rw [← hsa]; exact le_top_at _ _
    · rw [← hsb]; exact le_top_at _ _
  obtain ⟨ma, ha⟩ := top_real hn sa
  obtain ⟨mb, hb⟩ := top_real hn sb
  have hm : max (top fun k => (sa k : EReal)) (top fun k => (sb k : EReal)) = ((max ma mb : ℝ) : EReal) := by
    rw [ha, hb]; exact (Monotone.map_max EReal.coe_strictMono.monotone).symm
  rw [hm] at hmax
  unfold merged weighted
  rw [hm, ha, hmax]
  simp only [cut, hsa, hsb, hva, hvb, exp_real]
  generalize max ma mb = m
  have hden : (∑ k, ((Real.exp (sa k - ma) : ℝ) : EReal)) * ((Real.exp (ma - m) : ℝ) : EReal)
      = ∑ k, ((Real.exp (sa k - m) : ℝ) : EReal) := by
    simpa using rescale sa (fun _ => 1) ma m
  rw [hden, rescale, ← coe_sum, ← coe_sum, ← EReal.coe_add]
  have hd : 0 < ∑ k, Real.exp (sa k - m) + ∑ k, Real.exp (sb k - m) := by
    have : (Finset.univ : Finset (Fin n)).Nonempty := ⟨⟨0, hn⟩, Finset.mem_univ _⟩
    exact add_pos (Finset.sum_pos (fun _ _ => Real.exp_pos _) this) (Finset.sum_pos (fun _ _ => Real.exp_pos _) this)
  generalize ∑ k, Real.exp (sa k - m) + ∑ k, Real.exp (sb k - m) = d at hd
  simp only [div_real _ d hd]
  have hi : 0 ≤ d⁻¹ := (inv_pos.2 hd).le
  rw [EReal.right_distrib_of_nonneg_of_ne_top (EReal.coe_nonneg.2 hi) (EReal.coe_ne_top _), sum_mul_real _ _ hi, sum_mul_real _ _ hi]
  congr 1 <;> exact Finset.sum_congr rfl fun k _ => by rw [mul_comm _ (_ : EReal), mul_comm (_ : EReal) (_ * _), mul_right_comm, mul_comm]

end Cert.KernelIdeal.Attn

end
-- ==== Proof.Values.lean ====
/-
  The values at an index, over the extended reals: what a device computes, in terms of its arrays and of the remote keys
  and values it ends with.
-/
module

public import proofs.«01_k».proof.Proof.Merge
public import proofs.«01_k».proof.Proof.Launch
public import Idealize.ShloMosaic.Lib.Pointwise
public import Idealize.ShloMosaic.Lib.StableHlo.ReadAt

@[expose] public section

set_option maxRecDepth 16384

noncomputable section

namespace Cert.KernelIdeal.Attn

open Idealize.ShloMosaic Idealize.ShloMosaic.TcCoe Idealize.SL.Sem

attribute [local instance] Cert.KernelIdeal.Gen.facts

/-- The scale of the scores. -/
abbrev sc : EReal := Ideal.ofBits .f32 0x3E000000#32

/-- The word the running maxima start from is the bottom. -/
theorem ofBits_bot : Ideal.ofBits .f32 0xFF800000#32 = ⊥ := by
  simp [Ideal.ofBits, Ideal.ieee]

/-- The scale is a real number. -/
theorem sc_real : ∃ x : ℝ, sc = x := by
  unfold sc Ideal.ofBits Ideal.ieee
  simp only
  rw [if_neg (by decide), if_neg (by decide)]
  exact ⟨_, rfl⟩

/-- One slot's result at a row and a column: the merge of the two halves. -/
theorem headVal_apply (q : Vec Ideal S1x256x64 .f32) (k v rk rv : Vec Ideal S1x64x256 .f32) (r : Fin 256) (e : Fin 64) :
    headVal q k v rk rv (ix3 0 r e)
      = merged (fun j => (∑ t : Fin 64, q (ix3 0 r t) * k (ix3 0 t j)) * sc)
          (fun j => (∑ t : Fin 64, q (ix3 0 r t) * rk (ix3 0 t j)) * sc)
          (fun j => v (ix3 0 e j)) (fun j => rv (ix3 0 e j)) := by
  unfold headVal
  pointwise [Gen.k0_pay87, Gen.k0_pay2, Gen.k0_pay4, Gen.k0_pay5, Gen.k0_pay3, Gen.k0_pay1, merged, top, sc, ofBits_bot]

/-- The slot of a batch and a head. -/
def slot (b : Fin 2) (h : Fin 8) : Fin 16 := ⟨8 * b.val + h.val, by omega⟩

/-- The element of the query array a slot's row and column are. -/
theorem colIdx_slot (b : Fin 2) (h : Fin 8) (r : Fin 256) (t : Fin 64) : colIdx (ix3 (slot b h) r t) = ix4 b r h t := by
  funext x
  match x with
  | ⟨0, _⟩ => exact Fin.ext (show (8 * b.val + h.val) / 8 = b.val by omega)
  | ⟨1, _⟩ => rfl
  | ⟨2, _⟩ => exact Fin.ext (show (8 * b.val + h.val) % 8 = h.val by omega)
  | ⟨3, _⟩ => rfl

/-- The slot, row and column of an element of the result array. -/
theorem rowIdx_ix4 (b : Fin 2) (h : Fin 8) (r : Fin 256) (e : Fin 64) : rowIdx (ix4 b r h e) = ix3 (slot b h) r e := by
  funext x
  match x with
  | ⟨0, _⟩ => rfl
  | ⟨1, _⟩ => rfl
  | ⟨2, _⟩ => rfl

/-- A slot's queries at an index. -/
theorem rowQ_apply (f : QB Ideal) (a : Fin 16) (r : Fin 256) (t : Fin 64) : rowQ f a.val a.isLt (ix3 0 r t) = f (ix3 a r t) := by
  refine congrArg f (funext fun x => ?_)
  match x with
  | ⟨0, _⟩ => rfl
  | ⟨1, _⟩ => rfl
  | ⟨2, _⟩ => rfl

/-- A slot's keys, or values, at an index. -/
theorem rowK_apply (f : KB Ideal) (a : Fin 16) (t : Fin 64) (j : Fin 256) : rowK f a.val a.isLt (ix3 0 t j) = f (ix3 a t j) := by
  refine congrArg f (funext fun x => ?_)
  match x with
  | ⟨0, _⟩ => rfl
  | ⟨1, _⟩ => rfl
  | ⟨2, _⟩ => rfl

/-- What a device computes at a batch, a row, a head and a column. -/
theorem out_apply (I : Inp Ideal) (c : Dev nD) (b : Fin 2) (r : Fin 256) (h : Fin 8) (e : Fin 64) :
    OUT I c (ix4 b r h e)
      = merged (fun j => (∑ t : Fin 64, I.q c (ix4 b r h t) * I.k c (ix3 (slot b h) t j)) * sc)
          (fun j => (∑ t : Fin 64, I.q c (ix4 b r h t) * I.k (srcDev c (slot b h).val) (ix3 (slot b h) t j)) * sc)
          (fun j => I.v c (ix3 (slot b h) e j)) (fun j => I.v (srcDev c (slot b h).val) (ix3 (slot b h) e j)) := by
  have one : OUT I c (ix4 b r h e) = headAt I c (slot b h).val (slot b h).isLt (ix3 0 r e) := by
    unfold OUT
    rw [rowIdx_ix4]
    refine congrArg (headAt I c (slot b h).val (slot b h).isLt) (funext fun x => ?_)
    match x with
    | ⟨0, _⟩ => rfl
    | ⟨1, _⟩ => rfl
    | ⟨2, _⟩ => rfl
  rw [one, headAt, headVal_apply]
  simp only [rowQ_apply, rowK_apply, QV, colIdx_slot]
  rfl

variable (m : (ℓ : Loc nD τ sig) → Buf (Elt Ideal) ℓ)

/-- The index of a slot's row and column in the array it is read from. -/
theorem slot_split (b : Fin 2) (h : Fin 8) (j : Fin 256) (t : Fin 64) (h₀ h₁) :
    (ix4 ⟨(slot b h).val / 8, h₀⟩ j ⟨(slot b h).val % 8, h₁⟩ t : S2x256x8x64.Idx) = ix4 b j h t := by
  congr 1
  · exact Fin.ext (show (8 * b.val + h.val) / 8 = b.val by omega)
  · exact Fin.ext (show (8 * b.val + h.val) % 8 = h.val by omega)

/-- The keys a device starts with, in terms of its key array. -/
theorem inp_k (c : Dev nD) (b : Fin 2) (h : Fin 8) (t : Fin 64) (j : Fin 256) :
    (inp m).k c (ix3 (slot b h) t j) = m ((c : Thread nD τ).loc main_arg1) (ix4 b j h t) := by
  rw [← slot_split b h j t (by omega) (by omega)]
  show StableHlo.after Gen.hostOps0 (V₀ m c) main_v2 (ix3 (slot b h) t j) = V₀ m c main_arg1 _
  unfold Gen.hostOps0
  after_reads_at

/-- The values a device starts with, in terms of its value array. -/
theorem inp_v (c : Dev nD) (b : Fin 2) (h : Fin 8) (t : Fin 64) (j : Fin 256) :
    (inp m).v c (ix3 (slot b h) t j) = m ((c : Thread nD τ).loc main_arg2) (ix4 b j h t) := by
  rw [← slot_split b h j t (by omega) (by omega)]
  show StableHlo.after Gen.hostOps0 (V₀ m c) main_v4 (ix3 (slot b h) t j) = V₀ m c main_arg2 _
  unfold Gen.hostOps0
  after_reads_at

end Cert.KernelIdeal.Attn

end
-- ==== Proof.RefValue.lean ====
/-
  What the reference computes at an index, over the extended reals, in terms of the whole arrays.
-/
module

public import proofs.«01_k».proof.Proof.Values
public import proofs.«01_k».proof.Proof.Gen.ReferenceIdeal.Run

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen
open Cert.KernelIdeal.Attn (weighted top sc ofBits_bot)

attribute [local instance] Cert.ReferenceIdeal.Gen.facts

/-- The reference's result, in terms of its three arrays. -/
def refOut (Q K V : FVec Ideal S2x512x8x64 .f32) : FVec Ideal S2x512x8x64 .f32 :=
  have S : FVec Ideal S2x8x512x512 .f32 := mulf (Host.dotGeneral dot_S2x512x8x64_S2x512x8x64_S2x8x512x512_3_3_1_1_02_02 none Q K) (broadcastInDim S2x8x512x512 ![] bcast_S_S2x8x512x512 (constant S_ .f32 0x3E000000#32))
  have P : FVec Ideal S2x8x512x512 .f32 := Host.exp (subf S (broadcastInDim S2x8x512x512 ![0, 1, 2, 3] bcast_S2x8x512x1_S2x8x512x512_0_1_2_3 (broadcastInDim S2x8x512x1 ![0, 1, 2] bcast_S2x8x512_S2x8x512x1_0_1_2 (Host.reduce FloatOps.maximumf S (constant S_ .f32 0xFF800000#32) reducesTo_S2x8x512x512_S2x8x512_d3 h_S_))))
  transpose S2x512x8x64 [0, 3, 1, 2] (Host.dotGeneral dot_S2x512x8x64_S2x8x512x512_S2x8x64x512_1_3_3_2_02_01 none V (Host.divf P (broadcastInDim S2x8x512x512 ![0, 1, 2, 3] bcast_S2x8x512x1_S2x8x512x512_0_1_2_3 (broadcastInDim S2x8x512x1 ![0, 1, 2] bcast_S2x8x512_S2x8x512x1_0_1_2 (Host.reduceAdd P (constant S_ .f32 0x00000000#32) reducesTo_S2x8x512x512_S2x8x512_d3 h_S_))))) transposes_S2x8x64x512_S2x512x8x64_0_3_1_2

/-- The reference's result at a batch, a row, a head and a column: the weighted sum of the values. -/
theorem refOut_apply (Q K V : FVec Ideal S2x512x8x64 .f32) (b : Fin 2) (r : Fin 512) (h : Fin 8) (e : Fin 64) :
    refOut Q K V (ix4 b r h e)
      = weighted (fun j : Fin 512 => (∑ t : Fin 64, Q (ix4 b r h t) * K (ix4 b j h t)) * sc) (fun j => V (ix4 b j h e)) := by
  pointwise [refOut, weighted, top, sc, ofBits_bot]

/-- The reference's run: its result is `refOut` of its arguments, which stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Cert.ReferenceIdeal.Attn

end
-- ==== Proof.Algebraic.lean ====
/-
  The results: where no query and no key is infinite, what each device ends with is its block of the reference's result
  over the whole arrays.
-/
module

public import proofs.«01_k».proof.Proof.Finite
public import proofs.«01_k».proof.Proof.RefValue
public import proofs.«01_k».proof.Proof.Frames

@[expose] public section

set_option maxRecDepth 16384

noncomputable section

namespace Cert.KernelIdeal.Attn

open Idealize.ShloMosaic Idealize.ShloMosaic.TcCoe Idealize.SL.Sem
open Cert.ReferenceIdeal.Attn (refOut refOut_apply)

attribute [local instance] Cert.KernelIdeal.Gen.facts Cert.ReferenceIdeal.Gen.facts pre_facts

/-! ## The two halves of a row's keys -/

/-- Position `k` of the half of number `x` modulo 2. -/
def half (x : ℕ) (k : Fin 256) : Fin 512 := ⟨256 * (x % 2) + k.val, by omega⟩

/-- A half and the other one are all positions. -/
theorem half_all (x : ℕ) (j : Fin 512) : (∃ k, j = half x k) ∨ ∃ k, j = half (x + 1) k := by
  by_cases h : j.val / 256 = x % 2
  · exact .inl ⟨⟨j.val % 256, by omega⟩, Fin.ext (show j.val = 256 * (x % 2) + j.val % 256 by omega)⟩
  · exact .inr ⟨⟨j.val % 256, by omega⟩, Fin.ext (show j.val = 256 * ((x + 1) % 2) + j.val % 256 by omega)⟩

/-- A sum over all positions is the sum over a half and over the other one. -/
theorem half_cut (x : ℕ) (f : Fin 512 → EReal) : ∑ j, f j = ∑ k, f (half x k) + ∑ k, f (half (x + 1) k) := by
  have h0 : ∀ y, y % 2 = 0 → ∀ k : Fin 256, half y k = ⟨k.val, by omega⟩ := fun y hy k =>
    Fin.ext (show 256 * (y % 2) + k.val = k.val by omega)
  have h1 : ∀ y, y % 2 = 1 → ∀ k : Fin 256, half y k = ⟨256 + k.val, by omega⟩ := fun y hy k =>
    Fin.ext (show 256 * (y % 2) + k.val = 256 + k.val by omega)
  rw [Fin.sum_univ_two_halves 256 256 rfl f]
  rcases Nat.mod_two_eq_zero_or_one x with h | h
  · simp only [h0 x h, h1 (x + 1) (by omega)]
  · simp only [h1 x h, h0 (x + 1) (by omega)]
    exact add_comm _ _

/-! ## A device's block -/

/-- The block device `c` holds of a whole array. -/
abbrev blk (c : Dev nD) (W : (⟨4, ![2, 512, 8, 64]⟩ : Shape).Idx → EReal) : (⟨4, ![2, 256, 8, 64]⟩ : Shape).Idx → EReal :=
  Layout.blockN ⟨4, ![2, 256, 8, 64]⟩ ⟨4, ![2, 512, 8, 64]⟩ (Layout.meshBlock [2, 2, 2] ![[], [0], [], []] c) W

/-- A block at an index: the whole array at the position of the device's half. -/
theorem blk_apply (c : Dev nD) (W : (⟨4, ![2, 512, 8, 64]⟩ : Shape).Idx → EReal) (b : Fin 2) (j : Fin 256) (h : Fin 8) (t : Fin 64) :
    blk c W (ix4 b j h t) = W (ix4 b (half (c.val / 4) j) h t) := by
  refine congrArg W (funext fun a => Fin.ext ?_)
  match a with
  | ⟨0, _⟩ => show 0 * 2 + b.val = b.val; omega
  | ⟨1, _⟩ =>
    show (c.val / (2 * (2 * 1)) % 2 * 1 + 0) * 256 + j.val = 256 * (c.val / 4 % 2) + j.val
    omega
  | ⟨2, _⟩ => show 0 * 8 + h.val = h.val; omega
  | ⟨3, _⟩ => show 0 * 64 + t.val = t.val; omega

/-- The remote keys and values of a slot come from a device of the other half. -/
theorem srcDev_half (c : Dev nD) (r : ℕ) : (srcDev c r).val / 4 = (c.val / 4 + 1) % 2 := by
  have hc : c.val < 8 := c.isLt
  unfold srcDev
  split
  · show (c.val + 4) % 8 / 4 = _
    omega
  · show (4 * ((c.val / 4 + 1) % 2) + 2 * (r / 8 % 2) + r / 4 % 2) / 4 = _
    omega

/-- So their positions are the other half's. -/
theorem half_srcDev (c : Dev nD) (r : ℕ) (k : Fin 256) : half ((srcDev c r).val / 4) k = half (c.val / 4 + 1) k := by
  rw [srcDev_half]
  exact Fin.ext (show 256 * ((c.val / 4 + 1) % 2 % 2) + k.val = 256 * ((c.val / 4 + 1) % 2) + k.val by omega)

/-! ## The scores -/

/-- A score of real queries and keys is a real number. -/
theorem score_real (q k : Fin 64 → EReal) (hq : ∀ t, ∃ x : ℝ, q t = x) (hk : ∀ t, ∃ x : ℝ, k t = x) :
    ∃ x : ℝ, (∑ t, q t * k t) * sc = x := by
  choose a ha using hq
  choose b hb using hk
  obtain ⟨s, hs⟩ := sc_real
  refine ⟨(∑ t, a t * b t) * s, ?_⟩
  rw [hs, EReal.coe_mul, coe_sum]
  simp only [ha, hb, EReal.coe_mul]

/-- What a device computes, where its queries, and every device's keys and values, are its block of whole arrays whose
    queries and keys are real numbers. -/
theorem out_blk (I : Inp Ideal) (Q K V : FVec Ideal Cert.ReferenceIdeal.S2x512x8x64 .f32)
    (fQ : ∀ b j h t, ∃ x : ℝ, Q (ix4 b j h t) = x) (fK : ∀ b j h t, ∃ x : ℝ, K (ix4 b j h t) = x)
    (hq : ∀ (c : Dev nD) (b : Fin 2) (r : Fin 256) (h : Fin 8) (t : Fin 64), I.q c (ix4 b r h t) = Q (ix4 b (half (c.val / 4) r) h t))
    (hk : ∀ (c : Dev nD) (b : Fin 2) (h : Fin 8) (t : Fin 64) (j : Fin 256), I.k c (ix3 (slot b h) t j) = K (ix4 b (half (c.val / 4) j) h t))
    (hv : ∀ (c : Dev nD) (b : Fin 2) (h : Fin 8) (t : Fin 64) (j : Fin 256), I.v c (ix3 (slot b h) t j) = V (ix4 b (half (c.val / 4) j) h t))
    (c : Dev nD) (b : Fin 2) (r : Fin 256) (h : Fin 8) (e : Fin 64) :
    OUT I c (ix4 b r h e) = refOut Q K V (ix4 b (half (c.val / 4) r) h e) := by
  rw [out_apply, refOut_apply]
  simp only [hq, hk, hv, half_srcDev]
  have real : ∀ j : Fin 512, ∃ x : ℝ, (∑ t : Fin 64, Q (ix4 b (half (c.val / 4) r) h t) * K (ix4 b j h t)) * sc = x :=
    fun j => score_real _ _ (fun t => fQ b _ h t) fun t => fK b j h t
  choose s hs using real
  simp only [hs]
  exact merged_eq (by decide) (fun k => s (half (c.val / 4) k)) (fun k => s (half (c.val / 4 + 1) k)) _ _ (fun j => (s j : EReal)) _
    (half (c.val / 4)) (half (c.val / 4 + 1)) (half_all _) (half_cut _) (fun _ => rfl) (fun _ => rfl) (fun _ => rfl) (fun _ => rfl)

/-- A whole array is real where every device's block of it is. -/
theorem whole_real (W : (⟨4, ![2, 512, 8, 64]⟩ : Shape).Idx → EReal) (f : ∀ (c : Dev nD) i, ∃ x : ℝ, blk c W i = x)
    (b : Fin 2) (j : Fin 512) (h : Fin 8) (t : Fin 64) : ∃ x : ℝ, W (ix4 b j h t) = x := by
  rcases half_all 0 j with ⟨k, rfl⟩ | ⟨k, rfl⟩
  · obtain ⟨x, hx⟩ := f ⟨0, by decide⟩ (ix4 b k h t)
    exact ⟨x, (blk_apply _ _ _ _ _ _).symm.trans hx⟩
  · obtain ⟨x, hx⟩ := f ⟨4, by decide⟩ (ix4 b k h t)
    exact ⟨x, (blk_apply _ _ _ _ _ _).symm.trans hx⟩

variable (m : (ℓ : Loc nD τ sig) → Buf (Elt Ideal) ℓ)

/-- Every device's results are its block of the reference's. -/
theorem out_eq (Q K V : FVec Ideal Cert.ReferenceIdeal.S2x512x8x64 .f32)
    (fin : ∀ (c : Dev nD) (i : S2x256x8x64.Idx), (∃ x : ℝ, m ((c : Thread nD τ).loc main_arg0) i = (x : EReal))
      ∧ ∃ x : ℝ, m ((c : Thread nD τ).loc main_arg1) i = (x : EReal))
    (hQ : ∀ c : Dev nD, m ((c : Thread nD τ).loc main_arg0) = blk c Q)
    (hK : ∀ c : Dev nD, m ((c : Thread nD τ).loc main_arg1) = blk c K)
    (hV : ∀ c : Dev nD, m ((c : Thread nD τ).loc main_arg2) = blk c V) (c : Dev nD) :
    OUT (inp m) c = blk c (refOut Q K V) := by
  refine funext fun i => ?_
  obtain ⟨b, r, h, e, rfl⟩ : ∃ (b : Fin 2) (r : Fin 256) (h : Fin 8) (e : Fin 64), i = ix4 b r h e := ⟨i 0, i 1, i 2, i 3, eq_ix4 i⟩
  refine (out_blk (inp m) Q K V
    (whole_real Q fun c i => (fin c i).1.imp fun x hx => (congrFun (hQ c) i).symm.trans hx)
    (whole_real K fun c i => (fin c i).2.imp fun x hx => (congrFun (hK c) i).symm.trans hx)
    (fun c b r h t => ?_) (fun c b h t j => ?_) (fun c b h t j => ?_) c b r h e).trans (blk_apply c _ b r h e).symm
  · exact (congrFun (Gen.V_main_arg0 m c) _).trans ((congrFun (hQ c) _).trans (blk_apply c Q b r h t))
  · exact (inp_k m c b h t j).trans ((congrFun (hK c) _).trans (blk_apply c K b j h t))
  · exact (inp_v m c b h t j).trans ((congrFun (hV c) _).trans (blk_apply c V b j h t))

/-- THE CLAIM: on blocks of whole arrays without an infinite query or key, the kernel ends with the blocks of what the
    reference ends with. -/
theorem agree : Cert.algebraic_KernelIdeal_ReferenceIdeal_pre_finite_scores_KernelIdeal := by
  intro m g m' g' pre hargs
  refine ⟨refOut _ _ _, ?_, (θ_run Cert.ReferenceIdeal.defs _ _).mono (fun _ h => h 0) (Cert.ReferenceIdeal.Attn.run m' g')⟩
  refine (θ_run Cert.KernelIdeal.defs _ _).mono (fun _ h c => ⟨((h.1 c).2).trans ?_, (h.1 c).1⟩) (run_main (F := Ideal) m g)
  exact out_eq m _ _ _ (fun c i => finite_of_pre _ _ _ (pre c) i) (fun c => (hargs c).1) (fun c => (hargs c).2.1) (fun c => (hargs c).2.2) c

/-- The kernel's frame where the precondition is assumed: a case of the frame without it. -/
theorem frame_ideal_pre : Cert.quiescent_KernelIdeal_pre_finite_scores_KernelIdeal := fun m g _ => frame_ideal m g trivial

attribute [local instance] pre_facts_whole in
/-- The reference's frame likewise. -/
theorem frame_reference_pre : Cert.quiescent_ReferenceIdeal_pre_finite_scores_ReferenceIdeal := fun m g _ => frame_reference m g trivial

end Cert.KernelIdeal.Attn

end
-- ==== Proof.Needed.lean ====
/-
  Why the precondition is stated: where a score is infinite the results differ. Two cases, an infinite query against
  finite keys and an infinite key against finite queries, with every value zero: the reference's result is zero, and the
  kernel's is the quotient of zero by zero.
-/
module

public import proofs.«01_k».proof.Proof.Algebraic

@[expose] public section

set_option maxRecDepth 16384

noncomputable section

namespace Cert.KernelIdeal.Attn

open Idealize.ShloMosaic Idealize.ShloMosaic.TcCoe Idealize.SL.Sem
open Cert.ReferenceIdeal.Attn (refOut refOut_apply)

attribute [local instance] Cert.KernelIdeal.Gen.facts Cert.ReferenceIdeal.Gen.facts

/-- The scale is positive. -/
theorem sc_pos : 0 < sc := by
  unfold sc Ideal.ofBits Ideal.ieee
  simp only
  rw [if_neg (by decide), if_neg (by decide)]
  refine EReal.coe_pos.2 (mul_pos (mul_pos ?_ ?_) (zpow_pos (by norm_num) _))
  · rw [if_neg (by decide)]; exact one_pos
  · exact_mod_cast Nat.add_pos_left (by norm_num) _

/-- The largest of infinite scores is infinite. -/
theorem top_const (n : ℕ) (hn : 0 < n) : top (fun _ : Fin n => (⊤ : EReal)) = ⊤ :=
  top_le_iff.1 (le_top_at (fun _ : Fin n => (⊤ : EReal)) ⟨0, hn⟩)

/-- At infinite scores and zero values the merge of the halves is the bottom. -/
theorem merged_infinite (n : ℕ) (hn : 0 < n) : merged (fun _ : Fin n => (⊤ : EReal)) (fun _ => ⊤) (fun _ => 0) (fun _ => 0) = ⊥ := by
  have bot : Ideal.exp ⊥ = 0 := rfl
  simp [merged, top_const n hn, bot, Ideal.div]

/-- There the weighted sum is zero. -/
theorem weighted_infinite (n : ℕ) : weighted (fun _ : Fin n => (⊤ : EReal)) (fun _ => 0) = 0 := by
  simp [weighted]

/-- Where every score is infinite and every value zero, the kernel's result is not the reference's. -/
theorem differ (q k : EReal) (h : (∑ _t : Fin 64, q * k) * sc = ⊤) (c : Dev nD) :
    OUT (⟨fun _ _ => q, fun _ _ => k, fun _ _ => 0⟩ : Inp Ideal) c (ix4 0 0 0 0)
      ≠ refOut (fun _ => q) (fun _ => k) (fun _ => 0) (ix4 0 0 0 0) := by
  rw [out_apply, refOut_apply]
  simp only [h]
  rw [merged_infinite 256 (by decide), weighted_infinite]
  exact EReal.bot_ne_zero

/-- A sum of infinite terms, scaled. -/
theorem score_infinite : (∑ _t : Fin 64, (⊤ : EReal)) * sc = ⊤ := by
  have : ∀ n : ℕ, (n + 1) • (⊤ : EReal) = ⊤ := fun n => by
    induction n with
    | zero => simp
    | succ n ih => rw [succ_nsmul, ih]; rfl
  rw [Finset.sum_const, Finset.card_univ, Fintype.card_fin, this 63]
  exact EReal.top_mul_of_pos sc_pos

/-- Infinite queries, keys one: the results differ. -/
theorem differ_query (c : Dev nD) :
    OUT (⟨fun _ _ => ⊤, fun _ _ => 1, fun _ _ => 0⟩ : Inp Ideal) c (ix4 0 0 0 0)
      ≠ refOut (fun _ => ⊤) (fun _ => 1) (fun _ => 0) (ix4 0 0 0 0) :=
  differ ⊤ 1 (by simp only [mul_one]; exact score_infinite) c

/-- Queries one, infinite keys: the results differ. -/
theorem differ_key (c : Dev nD) :
    OUT (⟨fun _ _ => 1, fun _ _ => ⊤, fun _ _ => 0⟩ : Inp Ideal) c (ix4 0 0 0 0)
      ≠ refOut (fun _ => 1) (fun _ => ⊤) (fun _ => 0) (ix4 0 0 0 0) :=
  differ 1 ⊤ (by simp only [one_mul]; exact score_infinite) c

end Cert.KernelIdeal.Attn

end
-- ==== Proof.lean ====
/-
  The proof of the claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import proofs.«01_k».proof.Proof.Needed
public import Idealize.ShloMosaic.Adequacy
public import Idealize.ShloMosaic.Init

@[expose] public section

noncomputable section

namespace Cert.Proof

open Idealize.ShloMosaic Idealize.SL.Sem Cert.Kernel

/-- Everything claimed: the frames of the kernel, of the idealized kernel and of the reference, that the idealized kernel
    is the kernel, and that the two compute the same results. -/
theorem claim : Cert.Claim :=
  ⟨Cert.Kernel.Gen.facts, Cert.KernelIdeal.Gen.facts, Cert.ReferenceIdeal.Gen.facts,
    Cert.KernelIdeal.Attn.pre_facts, Cert.KernelIdeal.Attn.pre_facts_whole,
    Cert.KernelIdeal.Attn.frame_kernel, Cert.KernelIdeal.Attn.frame_ideal, Cert.KernelIdeal.Attn.frame_ideal_pre,
    Cert.KernelIdeal.Attn.frame_reference, Cert.KernelIdeal.Attn.frame_reference_pre, trivial, Cert.KernelIdeal.Attn.agree⟩

end Cert.Proof

end
